-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v23_0)) (v1 : (c : Dev Cert.Kernel3Ideal.nD) → Buf (Elt Ideal) ((c.tc : Thread Cert.Kernel3Ideal.nD Cert.Kernel3Ideal.τ).loc Cert.Kernel3Ideal.main_v23_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23_0) = v0 c
          ∧ r.2.mem ((c.tc : Thread Cert.Kernel3Ideal.nD Cert.Kernel3Ideal.τ).loc Cert.Kernel3Ideal.main_v23_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v50)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v50) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v65) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_inputs.lean ====
abbrev S32768x4608 : Shape := ⟨2, ![32768, 4608]⟩
abbrev S8x512x8x64 : Shape := ⟨4, ![8, 512, 8, 64]⟩
abbrev S4x32 : Shape := ⟨2, ![4, 32]⟩
abbrev S64 : Shape := ⟨1, ![64]⟩
abbrev S32768x512 : Shape := ⟨2, ![32768, 512]⟩
abbrev S_ : Shape := ⟨0, ![]⟩

class Facts : Prop where
  slices_S32768x4608_S32768x512_0_2560 : S32768x4608.Slices ![0, 2560] S32768x512
  bcast_S_S32768x512 : S_.BroadcastsInDim S32768x512 (![] : Fin 0 → Fin S32768x512.rank)
  bcast_S_S8x512x8x64 : S_.BroadcastsInDim S8x512x8x64 (![] : Fin 0 → Fin S8x512x8x64.rank)
  bcast_S_S4x32 : S_.BroadcastsInDim S4x32 (![] : Fin 0 → Fin S4x32.rank)

variable [Facts]

def fn {F : FTy → Type} [FloatOps F] (main_arg0 : FVec F S32768x4608 .f32) (main_arg1 : FVec F S8x512x8x64 .f32) (main_arg2 : FVec F S8x512x8x64 .f32) (main_arg3 : FVec F S4x32 .f32) (main_arg4 : FVec F S64 .f32) : IVec S32768x512 1 × IVec S8x512x8x64 1 × IVec S4x32 1 :=
  let main_v0 : FVec F S32768x512 .f32 := (extractStridedSlice S32768x512 ![0, 2560] · slices_S32768x4608_S32768x512_0_2560) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_v4 : FVec F S8x512x8x64 .f32 := Host.absf main_arg2
  let main_cst_0 : FVec F S_ .f32 := constant S_ .f32 0x7F800000#32
  let main_v5 : FVec F S8x512x8x64 .f32 := broadcastInDim S8x512x8x64 ![] bcast_S_S8x512x8x64 main_cst_0
  let main_v6 : IVec S8x512x8x64 1 := cmpf .olt main_v4 main_v5
  let main_v7 : FVec F S4x32 .f32 := Host.absf main_arg3
  let main_cst_1 : FVec F S_ .f32 := constant S_ .f32 0x7F800000#32
  let main_v8 : FVec F S4x32 .f32 := broadcastInDim S4x32 ![] bcast_S_S4x32 main_cst_1
  let main_v9 : IVec S4x32 1 := cmpf .olt main_v7 main_v8
  (main_v3, main_v6, main_v9)
-- ==== Kernel.lean ====
abbrev S32768x4608 : Shape := ⟨2, ![32768, 4608]⟩
abbrev S8x512x8x64 : Shape := ⟨4, ![8, 512, 8, 64]⟩
abbrev S4x32 : Shape := ⟨2, ![4, 32]⟩
abbrev S64 : Shape := ⟨1, ![64]⟩
abbrev S64x64 : Shape := ⟨2, ![64, 64]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x16 : Shape := ⟨2, ![4096, 16]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S8x128 : Shape := ⟨2, ![8, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8x512x512 : Shape := ⟨3, ![8, 512, 512]⟩
abbrev S32768x512 : Shape := ⟨2, ![32768, 512]⟩
abbrev S256x128 : Shape := ⟨2, ![256, 128]⟩
abbrev S1x512x128 : Shape := ⟨3, ![1, 512, 128]⟩
abbrev S4608x128 : Shape := ⟨2, ![4608, 128]⟩
abbrev S512x128 : Shape := ⟨2, ![512, 128]⟩
abbrev S256x4608 : Shape := ⟨2, ![256, 4608]⟩
abbrev S256 : Shape := ⟨1, ![256]⟩
abbrev S256x1 : Shape := ⟨2, ![256, 1]⟩
abbrev S1x1x128 : Shape := ⟨3, ![1, 1, 128]⟩
abbrev S1 : Shape := ⟨1, ![1]⟩
abbrev S1x1x1 : Shape := ⟨3, ![1, 1, 1]⟩
abbrev S1x1 : Shape := ⟨2, ![1, 1]⟩

abbrev nBuf : Space → Nat
  | .hbm => 53
  | .vmem => 22
  | .smem => 0
  | _ => 0

abbrev bufTy : (tb : Table) → Fin (tcTables nBuf tb) → BufTy
  | .hbm, ⟨0, _⟩ => ⟨S32768x4608, .f32⟩
  | .hbm, ⟨1, _⟩ => ⟨S8x512x8x64, .f32⟩
  | .hbm, ⟨2, _⟩ => ⟨S8x512x8x64, .f32⟩
  | .hbm, ⟨3, _⟩ => ⟨S4x32, .f32⟩
  | .hbm, ⟨4, _⟩ => ⟨S64, .f32⟩
  | .hbm, ⟨5, _⟩ => ⟨S64, .i32⟩
  | .hbm, ⟨6, _⟩ => ⟨S64, .i32⟩
  | .hbm, ⟨7, _⟩ => ⟨S64x64, .i32⟩
  | .hbm, ⟨8, _⟩ => ⟨S64x64, .i32⟩
  | .hbm, ⟨9, _⟩ => ⟨S4096, .i32⟩
  | .hbm, ⟨10, _⟩ => ⟨S4096, .f32⟩
  | .hbm, ⟨11, _⟩ => ⟨S4096, .i32⟩
  | .hbm, ⟨12, _⟩ => ⟨S4096, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S4096x1, .f32⟩
  | .hbm, ⟨22, _⟩ => ⟨S1x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S4096x1, .f32⟩
  | .hbm, ⟨27, _⟩ => ⟨S1x8, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x32, .f32⟩
  | .hbm, ⟨35, _⟩ => ⟨S1x4096x1x32, .f32⟩
  | .hbm, ⟨36, _⟩ => ⟨S1x4096x4x32, .f32⟩
  | .hbm, ⟨37, _⟩ => ⟨S4096x128, .f32⟩
  | .hbm, ⟨38, _⟩ => ⟨S4096x16, .f32⟩
  | .hbm, ⟨39, _⟩ => ⟨S4096x32, .f32⟩
  | .hbm, ⟨40, _⟩ => ⟨S1x4096x1x32, .f32⟩
  | .hbm, ⟨41, _⟩ => ⟨S1x4096x4x32, .f32⟩
  | .hbm, ⟨42, _⟩ => ⟨S4096x128, .f32⟩
  | .hbm, ⟨43, _⟩ => ⟨S_, .i32⟩
  | .hbm, ⟨44, _⟩ => ⟨S_, .f32⟩
  | .hbm, ⟨45, _⟩ => ⟨S8x128, .f32⟩
  | .hbm, ⟨46, _⟩ => ⟨S1x64, .f32⟩
  | .hbm, ⟨47, _⟩ => ⟨S2x64, .f32⟩
  | .hbm, ⟨48, _⟩ => ⟨S128, .f32⟩
  | .hbm, ⟨49, _⟩ => ⟨S1x128, .f32⟩
  | .hbm, ⟨50, _⟩ => ⟨S8x512x512, .f32⟩
  | .hbm, ⟨51, _⟩ => ⟨S8x512x512, .f32⟩
  | .hbm, ⟨52, _⟩ => ⟨S32768x512, .bf16⟩
  | .local _ .vmem, ⟨0, _⟩ => ⟨S256x128, .f32⟩
  | .local _ .vmem, ⟨1, _⟩ => ⟨S256x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S4096x128, .f32⟩
  | .local _ .vmem, ⟨15, _⟩ => ⟨S4096x128, .f32⟩
  | .local _ .vmem, ⟨16, _⟩ => ⟨S8x128, .f32⟩
  | .local _ .vmem, ⟨17, _⟩ => ⟨S1x128, .f32⟩
  | .local _ .vmem, ⟨18, _⟩ => ⟨S256x128, .bf16⟩
  | .local _ .vmem, ⟨19, _⟩ => ⟨S256x128, .bf16⟩
  | .local _ .vmem, ⟨20, _⟩ => ⟨S4608x128, .bf16⟩
  | .local _ .vmem, ⟨21, _⟩ => ⟨S4608x128, .bf16⟩
  | _, _ => ⟨S32768x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_c : Ref sig .tc := ⟨.hbm, 43, rfl⟩
abbrev main_call0_v0 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== ReferenceIdeal.lean ====
abbrev S32768x4608 : Shape := ⟨2, ![32768, 4608]⟩
abbrev S8x512x8x64 : Shape := ⟨4, ![8, 512, 8, 64]⟩
abbrev S4x32 : Shape := ⟨2, ![4, 32]⟩
abbrev S64 : Shape := ⟨1, ![64]⟩
abbrev S32768x512 : Shape := ⟨2, ![32768, 512]⟩
abbrev S8x4096x8x2x32 : Shape := ⟨5, ![8, 4096, 8, 2, 32]⟩
abbrev S8x4096x8x64 : Shape := ⟨4, ![8, 4096, 8, 64]⟩
abbrev S64x64 : Shape := ⟨2, ![64, 64]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x16 : Shape := ⟨2, ![4096, 16]⟩
abbrev S8x4096x8x2x16 : Shape := ⟨5, ![8, 4096, 8, 2, 16]⟩
abbrev S4096x1x1x16 : Shape := ⟨4, ![4096, 1, 1, 16]⟩
abbrev S1x4096x1x1x16 : Shape := ⟨5, ![1, 4096, 1, 1, 16]⟩
abbrev S8x512x8x2x32 : Shape := ⟨5, ![8, 512, 8, 2, 32]⟩
abbrev S8x4608x8x2x32 : Shape := ⟨5, ![8, 4608, 8, 2, 32]⟩
abbrev S8x4608x8x64 : Shape := ⟨4, ![8, 4608, 8, 64]⟩
abbrev S1x32 : Shape := ⟨2, ![1, 32]⟩
abbrev S32 : Shape := ⟨1, ![32]⟩
abbrev S8x8x2x4096x4608 : Shape := ⟨5, ![8, 8, 2, 4096, 4608]⟩
abbrev S8x8x2x4096 : Shape := ⟨4, ![8, 8, 2, 4096]⟩
abbrev S8x8x2x4096x1 : Shape := ⟨5, ![8, 8, 2, 4096, 1]⟩
abbrev S8x8x1x4096x4608 : Shape := ⟨5, ![8, 8, 1, 4096, 4608]⟩
abbrev S8x8x4096x4608 : Shape := ⟨4, ![8, 8, 4096, 4608]⟩
abbrev S8x8x64x4096 : Shape := ⟨4, ![8, 8, 64, 4096]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩

abbrev nBuf : Space → Nat
  | .hbm => 148
  | .vmem => 0
  | .smem => 0
  | _ => 0

abbrev hbmTy0_0 (i : Nat) : BufTy := match i % 128 with
  | 0 => ⟨S32768x4608, .f32⟩
  | 1 => ⟨S8x512x8x64, .f32⟩
  | 2 => ⟨S8x512x8x64, .f32⟩
  | 3 => ⟨S4x32, .f32⟩
  | 4 => ⟨S64, .f32⟩
  | 5 => ⟨S32768x512, .f32⟩
  | 6 => ⟨S32768x512, .f32⟩
  | 7 => ⟨S32768x512, .f32⟩
  | 8 => ⟨S8x4096x8x2x32, .f32⟩
  | 9 => ⟨S8x4096x8x2x32, .f32⟩
  | 10 => ⟨S8x4096x8x64, .f32⟩
  | 11 => ⟨S64, .i32⟩
  | 12 => ⟨S64, .i32⟩
  | 13 => ⟨S64x64, .i32⟩
  | 14 => ⟨S64x64, .i32⟩
  | 15 => ⟨S4096, .i32⟩
  | 16 => ⟨S4096, .f32⟩
  | 17 => ⟨S4096, .i32⟩
  | 18 => ⟨S4096, .f32⟩
  | 19 => ⟨S8, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S4096x1, .f32⟩
  | 28 => ⟨S1x8, .f32⟩
  | 29 => ⟨S4096x8, .f32⟩
  | 30 => ⟨S4096x8, .f32⟩
  | 31 => ⟨S4096x8, .f32⟩
  | 32 => ⟨S4096x1, .f32⟩
  | 33 => ⟨S1x8, .f32⟩
  | 34 => ⟨S4096x8, .f32⟩
  | 35 => ⟨S4096x8, .f32⟩
  | 36 => ⟨S4096x8, .f32⟩
  | 37 => ⟨S4096x16, .f32⟩
  | 38 => ⟨S4096x16, .f32⟩
  | 39 => ⟨S4096x16, .f32⟩
  | 40 => ⟨S8x4096x8x2x16, .f32⟩
  | 41 => ⟨S8x4096x8x2x16, .f32⟩
  | 42 => ⟨S4096x1x1x16, .f32⟩
  | 43 => ⟨S4096x1x1x16, .f32⟩
  | 44 => ⟨S1x4096x1x1x16, .f32⟩
  | 45 => ⟨S8x4096x8x2x16, .f32⟩
  | 46 => ⟨S8x4096x8x2x16, .f32⟩
  | 47 => ⟨S1x4096x1x1x16, .f32⟩
  | 48 => ⟨S8x4096x8x2x16, .f32⟩
  | 49 => ⟨S8x4096x8x2x16, .f32⟩
  | 50 => ⟨S8x4096x8x2x16, .f32⟩
  | 51 => ⟨S1x4096x1x1x16, .f32⟩
  | 52 => ⟨S8x4096x8x2x16, .f32⟩
  | 53 => ⟨S8x4096x8x2x16, .f32⟩
  | 54 => ⟨S1x4096x1x1x16, .f32⟩
  | 55 => ⟨S8x4096x8x2x16, .f32⟩
  | 56 => ⟨S8x4096x8x2x16, .f32⟩
  | 57 => ⟨S8x4096x8x2x16, .f32⟩
  | 58 => ⟨S8x4096x8x2x32, .f32⟩
  | 59 => ⟨S8x4096x8x2x16, .f32⟩
  | 60 => ⟨S8x4096x8x2x16, .f32⟩
  | 61 => ⟨S4096x1x1x16, .f32⟩
  | 62 => ⟨S4096x1x1x16, .f32⟩
  | 63 => ⟨S1x4096x1x1x16, .f32⟩
  | 64 => ⟨S8x4096x8x2x16, .f32⟩
  | 65 => ⟨S8x4096x8x2x16, .f32⟩
  | 66 => ⟨S1x4096x1x1x16, .f32⟩
  | 67 => ⟨S8x4096x8x2x16, .f32⟩
  | 68 => ⟨S8x4096x8x2x16, .f32⟩
  | 69 => ⟨S8x4096x8x2x16, .f32⟩
  | 70 => ⟨S1x4096x1x1x16, .f32⟩
  | 71 => ⟨S8x4096x8x2x16, .f32⟩
  | 72 => ⟨S8x4096x8x2x16, .f32⟩
  | 73 => ⟨S1x4096x1x1x16, .f32⟩
  | 74 => ⟨S8x4096x8x2x16, .f32⟩
  | 75 => ⟨S8x4096x8x2x16, .f32⟩
  | 76 => ⟨S8x4096x8x2x16, .f32⟩
  | 77 => ⟨S8x4096x8x2x32, .f32⟩
  | 78 => ⟨S8x512x8x2x32, .f32⟩
  | 79 => ⟨S8x4608x8x2x32, .f32⟩
  | 80 => ⟨S8x4608x8x64, .f32⟩
  | 81 => ⟨S1x32, .f32⟩
  | 82 => ⟨S32, .f32⟩
  | 83 => ⟨S1x32, .f32⟩
  | 84 => ⟨S32, .f32⟩
  | 85 => ⟨S32, .f32⟩
  | 86 => ⟨S_, .f32⟩
  | 87 => ⟨S_, .f32⟩
  | 88 => ⟨S_, .f32⟩
  | 89 => ⟨S1x32, .f32⟩
  | 90 => ⟨S32, .f32⟩
  | 91 => ⟨S1x32, .f32⟩
  | 92 => ⟨S32, .f32⟩
  | 93 => ⟨S32, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S8x4608x8x2x32, .f32⟩
  | 102 => ⟨S8x4608x8x2x32, .f32⟩
  | 103 => ⟨S8x8x2x4096x4608, .f32⟩
  | 104 => ⟨S_, .f32⟩
  | 105 => ⟨S8x8x2x4096, .f32⟩
  | 106 => ⟨S_, .f32⟩
  | 107 => ⟨S8x8x2x4096, .f32⟩
  | 108 => ⟨S8x8x2x4096, .f32⟩
  | 109 => ⟨S8x8x2x4096x1, .f32⟩
  | 110 => ⟨S8x8x2x4096x4608, .f32⟩
  | 111 => ⟨S8x8x2x4096x4608, .f32⟩
  | 112 => ⟨S8x8x2x4096x4608, .f32⟩
  | 113 => ⟨S_, .f32⟩
  | 114 => ⟨S8x8x2x4096, .f32⟩
  | 115 => ⟨S8x8x2x4096x1, .f32⟩
  | 116 => ⟨S8x8x2x4096x4608, .f32⟩
  | 117 => ⟨S8x8x2x4096x4608, .f32⟩
  | 118 => ⟨S8x8x1x4096x4608, .f32⟩
  | 119 => ⟨S8x8x4096x4608, .f32⟩
  | 120 => ⟨S8x8x1x4096x4608, .f32⟩
  | 121 => ⟨S8x8x4096x4608, .f32⟩
  | 122 => ⟨S8x8x4096x4608, .f32⟩
  | 123 => ⟨S8x8x4096x4608, .f32⟩
  | 124 => ⟨S8x8x4096x4608, .f32⟩
  | 125 => ⟨S8x8x64x4096, .f32⟩
  | 126 => ⟨S8x4096x8x64, .f32⟩
  | 127 => ⟨S8x4096x8x64, .f32⟩
  | _ => ⟨S32768x4608, .f32⟩

abbrev hbmTy0_1 (i : Nat) : BufTy := match i % 128 with
  | 0 => ⟨S_, .f32⟩
  | 1 => ⟨S8x4096x8, .f32⟩
  | 2 => ⟨S8x4096x8x1, .f32⟩
  | 3 => ⟨S_, .f32⟩
  | 4 => ⟨S8x4096x8x1, .f32⟩
  | 5 => ⟨S8x4096x8x1, .f32⟩
  | 6 => ⟨S_, .f32⟩
  | 7 => ⟨S8x4096x8x1, .f32⟩
  | 8 => ⟨S8x4096x8x1, .f32⟩
  | 9 => ⟨S8x4096x8x1, .f32⟩
  | 10 => ⟨S8x4096x8x64, .f32⟩
  | 11 => ⟨S8x4096x8x64, .f32⟩
  | 12 => ⟨S1x1x1x64, .f32⟩
  | 13 => ⟨S8x4096x8x64, .f32⟩
  | 14 => ⟨S8x4096x8x64, .f32⟩
  | 15 => ⟨S_, .f32⟩
  | 16 => ⟨S8x4096x8x64, .f32⟩
  | 17 => ⟨S8x4096x8x64, .f32⟩
  | 18 => ⟨S32768x512, .f32⟩
  | 19 => ⟨S32768x512, .bf16⟩
  | _ => ⟨S32768x4608, .f32⟩

abbrev hbmTy (i : Nat) : BufTy := match i / 128 with
  | 0 => hbmTy0_0 i
  | 1 => hbmTy0_1 i
  | _ => ⟨S32768x4608, .f32⟩

abbrev bufTy : (tb : Table) → Fin (tcTables nBuf tb) → BufTy
  | .hbm, ⟨i, _⟩ => hbmTy i
  | _, _ => ⟨S32768x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_cst_1 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_cst_2 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_cst_3 : Ref sig .tc := ⟨.hbm, 98, rfl⟩
abbrev main_v89 : Ref sig .tc := ⟨.hbm, 99, rfl⟩
abbrev main_cst_4 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_5 : Ref sig .tc := ⟨.hbm, 104, rfl⟩
abbrev main_v93 : Ref sig .tc := ⟨.hbm, 105, rfl⟩
abbrev main_cst_6 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_cst_7 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_cst_8 : Ref sig .tc := ⟨.hbm, 128, rfl⟩
abbrev main_v114 : Ref sig .tc := ⟨.hbm, 129, rfl⟩
abbrev main_v115 : Ref sig .tc := ⟨.hbm, 130, rfl⟩
abbrev main_cst_9 : Ref sig .tc := ⟨.hbm, 131, rfl⟩
abbrev main_v116 : Ref sig .tc := ⟨.hbm, 132, rfl⟩
abbrev main_v117 : Ref sig .tc := ⟨.hbm, 133, rfl⟩
abbrev main_cst_10 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_cst_11 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩

abbrev nD : Nat := 1
abbrev τ : Topo := Topo.v7x

variable {F : FTy → Type} [FloatOps F]
-- ==== Kernel2.lean ====
abbrev S32768x2048 : Shape := ⟨2, ![32768, 2048]⟩
abbrev S8x12288 : Shape := ⟨2, ![8, 12288]⟩
abbrev S2048 : Shape := ⟨1, ![2048]⟩
abbrev S2048x8192 : Shape := ⟨2, ![2048, 8192]⟩
abbrev S8192x2048 : Shape := ⟨2, ![8192, 2048]⟩
abbrev S8x6x2048 : Shape := ⟨3, ![8, 6, 2048]⟩
abbrev S1x2048 : Shape := ⟨2, ![1, 2048]⟩
abbrev S512x2048 : Shape := ⟨2, ![512, 2048]⟩
abbrev S1x6x2048 : Shape := ⟨3, ![1, 6, 2048]⟩
abbrev S2048x1024 : Shape := ⟨2, ![2048, 1024]⟩
abbrev S1024x2048 : Shape := ⟨2, ![1024, 2048]⟩
abbrev S1x1x2048 : Shape := ⟨3, ![1, 1, 2048]⟩
abbrev S512 : Shape := ⟨1, ![512]⟩
abbrev S512x1 : Shape := ⟨2, ![512, 1]⟩
abbrev S512x1024 : Shape := ⟨2, ![512, 1024]⟩

abbrev nBuf : Space → Nat
  | .hbm => 12
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S8x12288, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S2048, .f32⟩
  | .hbm, ⟨6, _⟩ => ⟨S8x6x2048, .f32⟩
  | .hbm, ⟨7, _⟩ => ⟨S2048x8192, .bf16⟩
  | .hbm, ⟨8, _⟩ => ⟨S8192x2048, .bf16⟩
  | .hbm, ⟨9, _⟩ => ⟨S1x2048, .f32⟩
  | .hbm, ⟨10, _⟩ => ⟨S1x2048, .f32⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x2048, .bf16⟩
  | .local _ .vmem, ⟨8, _⟩ => ⟨S1024x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S32768x2048 : Shape := ⟨2, ![32768, 2048]⟩
abbrev S8x12288 : Shape := ⟨2, ![8, 12288]⟩
abbrev S2048 : Shape := ⟨1, ![2048]⟩
abbrev S2048x8192 : Shape := ⟨2, ![2048, 8192]⟩
abbrev S8192x2048 : Shape := ⟨2, ![8192, 2048]⟩
abbrev S8x4096x2048 : Shape := ⟨3, ![8, 4096, 2048]⟩
abbrev S8x1x12288 : Shape := ⟨3, ![8, 1, 12288]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x8192 : Shape := ⟨3, ![8, 4096, 8192]⟩

abbrev nBuf : Space → Nat
  | .hbm => 63
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S8x12288, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S2048, .f32⟩
  | .hbm, ⟨6, _⟩ => ⟨S8x4096x2048, .f32⟩
  | .hbm, ⟨7, _⟩ => ⟨S8x1x12288, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S8x4096x2048, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x2048, .f32⟩
  | .hbm, ⟨26, _⟩ => ⟨S8x4096x2048, .f32⟩
  | .hbm, ⟨27, _⟩ => ⟨S1x1x2048, .f32⟩
  | .hbm, ⟨28, _⟩ => ⟨S8x4096x2048, .f32⟩
  | .hbm, ⟨29, _⟩ => ⟨S8x4096x2048, .f32⟩
  | .hbm, ⟨30, _⟩ => ⟨S_, .f32⟩
  | .hbm, ⟨31, _⟩ => ⟨S8x1x2048, .f32⟩
  | .hbm, ⟨32, _⟩ => ⟨S8x1x2048, .f32⟩
  | .hbm, ⟨33, _⟩ => ⟨S8x4096x2048, .f32⟩
  | .hbm, ⟨34, _⟩ => ⟨S8x4096x2048, .f32⟩
  | .hbm, ⟨35, _⟩ => ⟨S8x4096x2048, .f32⟩
  | .hbm, ⟨36, _⟩ => ⟨S8x4096x2048, .f32⟩
  | .hbm, ⟨37, _⟩ => ⟨S8x4096x8192, .f32⟩
  | .hbm, ⟨38, _⟩ => ⟨S_, .f32⟩
  | .hbm, ⟨39, _⟩ => ⟨S8x4096x8192, .f32⟩
  | .hbm, ⟨40, _⟩ => ⟨S8x4096x8192, .f32⟩
  | .hbm, ⟨41, _⟩ => ⟨S8x4096x8192, .f32⟩
  | .hbm, ⟨42, _⟩ => ⟨S8x4096x2048, .f32⟩
  | .hbm, ⟨43, _⟩ => ⟨S8x4096x2048, .f32⟩
  | .hbm, ⟨44, _⟩ => ⟨S8x4096x2048, .f32⟩
  | .hbm, ⟨45, _⟩ => ⟨S8x4096x2048, .f32⟩
  | .hbm, ⟨46, _⟩ => ⟨S8x4096x2048, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x1, .f32⟩
  | .hbm, ⟨57, _⟩ => ⟨S8x4096x2048, .f32⟩
  | .hbm, ⟨58, _⟩ => ⟨S8x4096x2048, .f32⟩
  | .hbm, ⟨59, _⟩ => ⟨S1x1x2048, .f32⟩
  | .hbm, ⟨60, _⟩ => ⟨S8x4096x2048, .f32⟩
  | .hbm, ⟨61, _⟩ => ⟨S8x4096x2048, .f32⟩
  | .hbm, ⟨62, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel3.lean ====
abbrev S32768x2048 : Shape := ⟨2, ![32768, 2048]⟩
abbrev S8x12288 : Shape := ⟨2, ![8, 12288]⟩
abbrev S2048 : Shape := ⟨1, ![2048]⟩
abbrev S2048x5936 : Shape := ⟨2, ![2048, 5936]⟩
abbrev S2048x256 : Shape := ⟨2, ![2048, 256]⟩
abbrev S2048x512 : Shape := ⟨2, ![2048, 512]⟩
abbrev S2048x32 : Shape := ⟨2, ![2048, 32]⟩
abbrev S2048x768 : Shape := ⟨2, ![2048, 768]⟩
abbrev S2048x16 : Shape := ⟨2, ![2048, 16]⟩
abbrev S2048x1536 : Shape := ⟨2, ![2048, 1536]⟩
abbrev S_ : Shape := ⟨0, ![]⟩
abbrev S2048x96 : Shape := ⟨2, ![2048, 96]⟩
abbrev S2048x112 : Shape := ⟨2, ![2048, 112]⟩
abbrev S2048x4608 : Shape := ⟨2, ![2048, 4608]⟩
abbrev S1536x2048 : Shape := ⟨2, ![1536, 2048]⟩
abbrev S8x6x2048 : Shape := ⟨3, ![8, 6, 2048]⟩
abbrev S1x2048 : Shape := ⟨2, ![1, 2048]⟩
abbrev S32768x4608 : Shape := ⟨2, ![32768, 4608]⟩
abbrev S1536x32768 : Shape := ⟨2, ![1536, 32768]⟩
abbrev S512x2048 : Shape := ⟨2, ![512, 2048]⟩
abbrev S1x6x2048 : Shape := ⟨3, ![1, 6, 2048]⟩
abbrev S512x512 : Shape := ⟨2, ![512, 512]⟩
abbrev S1x1x2048 : Shape := ⟨3, ![1, 1, 2048]⟩
abbrev S512 : Shape := ⟨1, ![512]⟩
abbrev S512x1 : Shape := ⟨2, ![512, 1]⟩

abbrev nBuf : Space → Nat
  | .hbm => 31
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S8x12288, .f32⟩
  | .hbm, ⟨2, _⟩ => ⟨S2048, .f32⟩
  | .hbm, ⟨3, _⟩ => ⟨S2048x5936, .f32⟩
  | .hbm, ⟨4, _⟩ => ⟨S2048x256, .f32⟩
  | .hbm, ⟨5, _⟩ => ⟨S2048x256, .f32⟩
  | .hbm, ⟨6, _⟩ => ⟨S2048x512, .f32⟩
  | .hbm, ⟨7, _⟩ => ⟨S2048x512, .f32⟩
  | .hbm, ⟨8, _⟩ => ⟨S2048x32, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x768, .f32⟩
  | .hbm, ⟨14, _⟩ => ⟨S2048x16, .f32⟩
  | .hbm, ⟨15, _⟩ => ⟨S2048x1536, .f32⟩
  | .hbm, ⟨16, _⟩ => ⟨S2048x256, .f32⟩
  | .hbm, ⟨17, _⟩ => ⟨S_, .f32⟩
  | .hbm, ⟨18, _⟩ => ⟨S2048x96, .f32⟩
  | .hbm, ⟨19, _⟩ => ⟨S_, .f32⟩
  | .hbm, ⟨20, _⟩ => ⟨S2048x112, .f32⟩
  | .hbm, ⟨21, _⟩ => ⟨S2048x512, .f32⟩
  | .hbm, ⟨22, _⟩ => ⟨S2048x512, .f32⟩
  | .hbm, ⟨23, _⟩ => ⟨S2048x4608, .f32⟩
  | .hbm, ⟨24, _⟩ => ⟨S2048x4608, .bf16⟩
  | .hbm, ⟨25, _⟩ => ⟨S1536x2048, .f32⟩
  | .hbm, ⟨26, _⟩ => ⟨S1536x2048, .bf16⟩
  | .hbm, ⟨27, _⟩ => ⟨S8x6x2048, .f32⟩
  | .hbm, ⟨28, _⟩ => ⟨S1x2048, .f32⟩
  | .hbm, ⟨29, _⟩ => ⟨S32768x4608, .f32⟩
  | .hbm, ⟨30, _⟩ => ⟨S1536x32768, .f32⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 12], ![false, false]⟩

def k0_cond2 (i : grid0.Coords) : BitVec 1 :=
  let arg1 : BitVec 32 := BitVec.ofNat 32 (i 1).val
  let c9_i32 : BitVec 32 := 9#32
  let v3 : BitVec 1 := Scalar.cmpi .slt arg1 c9_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c9_i32_2 : BitVec 32 := 9#32
  let v6 : BitVec 1 := Scalar.cmpi .sge arg1 c9_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg1 c8_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg1 c8_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S32768x2048 : Shape := ⟨2, ![32768, 2048]⟩
abbrev S8x12288 : Shape := ⟨2, ![8, 12288]⟩
abbrev S2048 : Shape := ⟨1, ![2048]⟩
abbrev S2048x5936 : Shape := ⟨2, ![2048, 5936]⟩
abbrev S8x4096x2048 : Shape := ⟨3, ![8, 4096, 2048]⟩
abbrev S8x1x12288 : Shape := ⟨3, ![8, 1, 12288]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x5936 : Shape := ⟨3, ![8, 4096, 5936]⟩
abbrev S8x4096x256 : Shape := ⟨3, ![8, 4096, 256]⟩
abbrev S8x4096x512 : Shape := ⟨3, ![8, 4096, 512]⟩
abbrev S8x4096x32 : Shape := ⟨3, ![8, 4096, 32]⟩
abbrev S8x4096x768 : Shape := ⟨3, ![8, 4096, 768]⟩
abbrev S8x4096x16 : Shape := ⟨3, ![8, 4096, 16]⟩
abbrev S8x4096x1536 : Shape := ⟨3, ![8, 4096, 1536]⟩
abbrev S32768x256 : Shape := ⟨2, ![32768, 256]⟩
abbrev S32768x512 : Shape := ⟨2, ![32768, 512]⟩
abbrev S32768x32 : Shape := ⟨2, ![32768, 32]⟩
abbrev S32768x768 : Shape := ⟨2, ![32768, 768]⟩
abbrev S32768x16 : Shape := ⟨2, ![32768, 16]⟩
abbrev S32768x1536 : Shape := ⟨2, ![32768, 1536]⟩
abbrev S32768x96 : Shape := ⟨2, ![32768, 96]⟩
abbrev S32768x112 : Shape := ⟨2, ![32768, 112]⟩
abbrev S32768x4608 : Shape := ⟨2, ![32768, 4608]⟩
abbrev S1536x32768 : Shape := ⟨2, ![1536, 32768]⟩

abbrev nBuf : Space → Nat
  | .hbm => 66
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S8x12288, .f32⟩
  | .hbm, ⟨2, _⟩ => ⟨S2048, .f32⟩
  | .hbm, ⟨3, _⟩ => ⟨S2048x5936, .f32⟩
  | .hbm, ⟨4, _⟩ => ⟨S8x4096x2048, .f32⟩
  | .hbm, ⟨5, _⟩ => ⟨S8x1x12288, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S8x4096x2048, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x2048, .f32⟩
  | .hbm, ⟨24, _⟩ => ⟨S8x4096x2048, .f32⟩
  | .hbm, ⟨25, _⟩ => ⟨S1x1x2048, .f32⟩
  | .hbm, ⟨26, _⟩ => ⟨S8x4096x2048, .f32⟩
  | .hbm, ⟨27, _⟩ => ⟨S8x4096x2048, .f32⟩
  | .hbm, ⟨28, _⟩ => ⟨S_, .f32⟩
  | .hbm, ⟨29, _⟩ => ⟨S8x1x2048, .f32⟩
  | .hbm, ⟨30, _⟩ => ⟨S8x1x2048, .f32⟩
  | .hbm, ⟨31, _⟩ => ⟨S8x4096x2048, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S8x4096x5936, .f32⟩
  | .hbm, ⟨36, _⟩ => ⟨S8x4096x256, .f32⟩
  | .hbm, ⟨37, _⟩ => ⟨S8x4096x256, .f32⟩
  | .hbm, ⟨38, _⟩ => ⟨S8x4096x512, .f32⟩
  | .hbm, ⟨39, _⟩ => ⟨S8x4096x512, .f32⟩
  | .hbm, ⟨40, _⟩ => ⟨S8x4096x32, .f32⟩
  | .hbm, ⟨41, _⟩ => ⟨S8x4096x512, .f32⟩
  | .hbm, ⟨42, _⟩ => ⟨S8x4096x512, .f32⟩
  | .hbm, ⟨43, _⟩ => ⟨S8x4096x512, .f32⟩
  | .hbm, ⟨44, _⟩ => ⟨S8x4096x512, .f32⟩
  | .hbm, ⟨45, _⟩ => ⟨S8x4096x768, .f32⟩
  | .hbm, ⟨46, _⟩ => ⟨S8x4096x16, .f32⟩
  | .hbm, ⟨47, _⟩ => ⟨S8x4096x1536, .f32⟩
  | .hbm, ⟨48, _⟩ => ⟨S32768x256, .f32⟩
  | .hbm, ⟨49, _⟩ => ⟨S32768x256, .f32⟩
  | .hbm, ⟨50, _⟩ => ⟨S32768x512, .f32⟩
  | .hbm, ⟨51, _⟩ => ⟨S32768x512, .f32⟩
  | .hbm, ⟨52, _⟩ => ⟨S32768x32, .f32⟩
  | .hbm, ⟨53, _⟩ => ⟨S32768x512, .f32⟩
  | .hbm, ⟨54, _⟩ => ⟨S32768x512, .f32⟩
  | .hbm, ⟨55, _⟩ => ⟨S32768x512, .f32⟩
  | .hbm, ⟨56, _⟩ => ⟨S32768x512, .f32⟩
  | .hbm, ⟨57, _⟩ => ⟨S32768x768, .f32⟩
  | .hbm, ⟨58, _⟩ => ⟨S32768x16, .f32⟩
  | .hbm, ⟨59, _⟩ => ⟨S32768x1536, .f32⟩
  | .hbm, ⟨60, _⟩ => ⟨S_, .f32⟩
  | .hbm, ⟨61, _⟩ => ⟨S32768x96, .f32⟩
  | .hbm, ⟨62, _⟩ => ⟨S_, .f32⟩
  | .hbm, ⟨63, _⟩ => ⟨S32768x112, .f32⟩
  | .hbm, ⟨64, _⟩ => ⟨S32768x4608, .f32⟩
  | .hbm, ⟨65, _⟩ => ⟨S1536x32768, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_3 : Ref sig .tc := ⟨.hbm, 60, rfl⟩
abbrev main_v52 : Ref sig .tc := ⟨.hbm, 61, rfl⟩
abbrev main_cst_4 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== Kernel4.lean ====
abbrev S32768x2048 : Shape := ⟨2, ![32768, 2048]⟩
abbrev S8x12288 : Shape := ⟨2, ![8, 12288]⟩
abbrev S32768x512 : Shape := ⟨2, ![32768, 512]⟩
abbrev S512x32768 : Shape := ⟨2, ![512, 32768]⟩
abbrev S2048x2048 : Shape := ⟨2, ![2048, 2048]⟩
abbrev S8x6x2048 : Shape := ⟨3, ![8, 6, 2048]⟩
abbrev S512x2048 : Shape := ⟨2, ![512, 2048]⟩
abbrev S1x6x2048 : Shape := ⟨3, ![1, 6, 2048]⟩
abbrev S512x512 : Shape := ⟨2, ![512, 512]⟩
abbrev S1x1x2048 : Shape := ⟨3, ![1, 1, 2048]⟩
abbrev S1x2048 : Shape := ⟨2, ![1, 2048]⟩

abbrev nBuf : Space → Nat
  | .hbm => 10
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S8x12288, .f32⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S512x32768, .f32⟩
  | .hbm, ⟨6, _⟩ => ⟨S2048x2048, .f32⟩
  | .hbm, ⟨7, _⟩ => ⟨S8x6x2048, .f32⟩
  | .hbm, ⟨8, _⟩ => ⟨S2048x2048, .bf16⟩
  | .hbm, ⟨9, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S2048x2048, .bf16⟩
  | .local _ .vmem, ⟨13, _⟩ => ⟨S512x2048, .f32⟩
  | .local _ .vmem, ⟨14, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x2048 : Shape := ⟨2, ![32768, 2048]⟩
abbrev S8x12288 : Shape := ⟨2, ![8, 12288]⟩
abbrev S32768x512 : Shape := ⟨2, ![32768, 512]⟩
abbrev S512x32768 : Shape := ⟨2, ![512, 32768]⟩
abbrev S2048x2048 : Shape := ⟨2, ![2048, 2048]⟩
abbrev S8x4096x2048 : Shape := ⟨3, ![8, 4096, 2048]⟩
abbrev S8x1x12288 : Shape := ⟨3, ![8, 1, 12288]⟩
abbrev S8x1x2048 : Shape := ⟨3, ![8, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S8x12288, .f32⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S512x32768, .f32⟩
  | .hbm, ⟨6, _⟩ => ⟨S2048x2048, .f32⟩
  | .hbm, ⟨7, _⟩ => ⟨S8x4096x2048, .f32⟩
  | .hbm, ⟨8, _⟩ => ⟨S8x1x12288, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S8x1x2048, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S32768x2048, .f32⟩
  | .hbm, ⟨20, _⟩ => ⟨S8x4096x2048, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S8x4096x2048, .f32⟩
  | .hbm, ⟨25, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel5.lean ====
abbrev S8x2048 : Shape := ⟨2, ![8, 2048]⟩
abbrev S2048 : Shape := ⟨1, ![2048]⟩
abbrev S2048x12288 : Shape := ⟨2, ![2048, 12288]⟩
abbrev S12288 : Shape := ⟨1, ![12288]⟩
abbrev S1x2048 : Shape := ⟨2, ![1, 2048]⟩
abbrev S_ : Shape := ⟨0, ![]⟩
abbrev S7x2048 : Shape := ⟨2, ![7, 2048]⟩
abbrev S16x2048 : Shape := ⟨2, ![16, 2048]⟩
abbrev S1x12288 : Shape := ⟨2, ![1, 12288]⟩
abbrev S16x12288 : Shape := ⟨2, ![16, 12288]⟩
abbrev S2048x1024 : Shape := ⟨2, ![2048, 1024]⟩
abbrev S1x1024 : Shape := ⟨2, ![1, 1024]⟩
abbrev S16x1024 : Shape := ⟨2, ![16, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2048x12288, .f32⟩
  | .hbm, ⟨3, _⟩ => ⟨S12288, .f32⟩
  | .hbm, ⟨4, _⟩ => ⟨S1x2048, .f32⟩
  | .hbm, ⟨5, _⟩ => ⟨S_, .f32⟩
  | .hbm, ⟨6, _⟩ => ⟨S7x2048, .f32⟩
  | .hbm, ⟨7, _⟩ => ⟨S16x2048, .f32⟩
  | .hbm, ⟨8, _⟩ => ⟨S1x12288, .f32⟩
  | .hbm, ⟨9, _⟩ => ⟨S16x12288, .f32⟩
  | .local _ .vmem, ⟨0, _⟩ => ⟨S16x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8x2048 : Shape := ⟨2, ![8, 2048]⟩
abbrev S2048 : Shape := ⟨1, ![2048]⟩
abbrev S2048x12288 : Shape := ⟨2, ![2048, 12288]⟩
abbrev S12288 : Shape := ⟨1, ![12288]⟩
abbrev S1x2048 : Shape := ⟨2, ![1, 2048]⟩
abbrev S_ : Shape := ⟨0, ![]⟩
abbrev S7x2048 : Shape := ⟨2, ![7, 2048]⟩
abbrev S16x2048 : Shape := ⟨2, ![16, 2048]⟩
abbrev S16x12288 : Shape := ⟨2, ![16, 12288]⟩
abbrev S1x12288 : Shape := ⟨2, ![1, 12288]⟩

abbrev nBuf : Space → Nat
  | .hbm => 21
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2048x12288, .f32⟩
  | .hbm, ⟨3, _⟩ => ⟨S12288, .f32⟩
  | .hbm, ⟨4, _⟩ => ⟨S1x2048, .f32⟩
  | .hbm, ⟨5, _⟩ => ⟨S_, .f32⟩
  | .hbm, ⟨6, _⟩ => ⟨S7x2048, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S_, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S16x12288, .f32⟩
  | .hbm, ⟨18, _⟩ => ⟨S1x12288, .f32⟩
  | .hbm, ⟨19, _⟩ => ⟨S16x12288, .f32⟩
  | .hbm, ⟨20, _⟩ => ⟨S16x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Kernel6.lean ====
abbrev S32768x4608 : Shape := ⟨2, ![32768, 4608]⟩
abbrev S3x768 : Shape := ⟨2, ![3, 768]⟩
abbrev S768 : Shape := ⟨1, ![768]⟩
abbrev S1x768 : Shape := ⟨2, ![1, 768]⟩
abbrev S32768x768 : Shape := ⟨2, ![32768, 768]⟩
abbrev S4096x128 : Shape := ⟨2, ![4096, 128]⟩
abbrev S3x128 : Shape := ⟨2, ![3, 128]⟩
abbrev S1x128 : Shape := ⟨2, ![1, 128]⟩

abbrev nBuf : Space → Nat
  | .hbm => 5
  | .vmem => 8
  | .smem => 0
  | _ => 0

abbrev bufTy : (tb : Table) → Fin (tcTables nBuf tb) → BufTy
  | .hbm, ⟨0, _⟩ => ⟨S32768x4608, .f32⟩
  | .hbm, ⟨1, _⟩ => ⟨S3x768, .f32⟩
  | .hbm, ⟨2, _⟩ => ⟨S768, .f32⟩
  | .hbm, ⟨3, _⟩ => ⟨S1x768, .f32⟩
  | .hbm, ⟨4, _⟩ => ⟨S32768x768, .f32⟩
  | .local _ .vmem, ⟨0, _⟩ => ⟨S4096x128, .f32⟩
  | .local _ .vmem, ⟨1, _⟩ => ⟨S4096x128, .f32⟩
  | .local _ .vmem, ⟨2, _⟩ => ⟨S3x128, .f32⟩
  | .local _ .vmem, ⟨3, _⟩ => ⟨S3x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | _, _ => ⟨S32768x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c28_i32 : BitVec 32 := 28#32
  let v1 : BitVec 32 := Scalar.addi c28_i32 arg1
  let c4_i32_0 : BitVec 32 := 4#32
  let v2 : BitVec 32 := Scalar.subi arg1 c4_i32_0
  let c32_i32 : BitVec 32 := 32#32
  let v3 : BitVec 32 := Scalar.addi c32_i32 v2
  let v4 : BitVec 32 := Scalar.select v0 v1 v3
  let c0_i32 : BitVec 32 := 0#32
  ![arg0.toNat, v4.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S32768x4608 : Shape := ⟨2, ![32768, 4608]⟩
abbrev S3x768 : Shape := ⟨2, ![3, 768]⟩
abbrev S768 : Shape := ⟨1, ![768]⟩
abbrev S32768x768 : Shape := ⟨2, ![32768, 768]⟩
abbrev S8x4096x768 : Shape := ⟨3, ![8, 4096, 768]⟩
abbrev S_ : Shape := ⟨0, ![]⟩
abbrev S8x4098x768 : Shape := ⟨3, ![8, 4098, 768]⟩
abbrev S1x768 : Shape := ⟨2, ![1, 768]⟩
abbrev S1x1x768 : Shape := ⟨3, ![1, 1, 768]⟩

abbrev nBuf : Space → Nat
  | .hbm => 44
  | .vmem => 0
  | .smem => 0
  | _ => 0

abbrev bufTy : (tb : Table) → Fin (tcTables nBuf tb) → BufTy
  | .hbm, ⟨0, _⟩ => ⟨S32768x4608, .f32⟩
  | .hbm, ⟨1, _⟩ => ⟨S3x768, .f32⟩
  | .hbm, ⟨2, _⟩ => ⟨S768, .f32⟩
  | .hbm, ⟨3, _⟩ => ⟨S32768x768, .f32⟩
  | .hbm, ⟨4, _⟩ => ⟨S8x4096x768, .f32⟩
  | .hbm, ⟨5, _⟩ => ⟨S_, .i32⟩
  | .hbm, ⟨6, _⟩ => ⟨S_, .f32⟩
  | .hbm, ⟨7, _⟩ => ⟨S8x4098x768, .f32⟩
  | .hbm, ⟨8, _⟩ => ⟨S8x4096x768, .f32⟩
  | .hbm, ⟨9, _⟩ => ⟨S1x768, .f32⟩
  | .hbm, ⟨10, _⟩ => ⟨S768, .f32⟩
  | .hbm, ⟨11, _⟩ => ⟨S1x1x768, .f32⟩
  | .hbm, ⟨12, _⟩ => ⟨S8x4096x768, .f32⟩
  | .hbm, ⟨13, _⟩ => ⟨S8x4096x768, .f32⟩
  | .hbm, ⟨14, _⟩ => ⟨S_, .f32⟩
  | .hbm, ⟨15, _⟩ => ⟨S8x4096x768, .f32⟩
  | .hbm, ⟨16, _⟩ => ⟨S8x4096x768, .f32⟩
  | .hbm, ⟨17, _⟩ => ⟨S8x4096x768, .f32⟩
  | .hbm, ⟨18, _⟩ => ⟨S1x768, .f32⟩
  | .hbm, ⟨19, _⟩ => ⟨S768, .f32⟩
  | .hbm, ⟨20, _⟩ => ⟨S1x1x768, .f32⟩
  | .hbm, ⟨21, _⟩ => ⟨S8x4096x768, .f32⟩
  | .hbm, ⟨22, _⟩ => ⟨S8x4096x768, .f32⟩
  | .hbm, ⟨23, _⟩ => ⟨S8x4096x768, .f32⟩
  | .hbm, ⟨24, _⟩ => ⟨S8x4096x768, .f32⟩
  | .hbm, ⟨25, _⟩ => ⟨S1x768, .f32⟩
  | .hbm, ⟨26, _⟩ => ⟨S768, .f32⟩
  | .hbm, ⟨27, _⟩ => ⟨S1x1x768, .f32⟩
  | .hbm, ⟨28, _⟩ => ⟨S8x4096x768, .f32⟩
  | .hbm, ⟨29, _⟩ => ⟨S8x4096x768, .f32⟩
  | .hbm, ⟨30, _⟩ => ⟨S8x4096x768, .f32⟩
  | .hbm, ⟨31, _⟩ => ⟨S1x1x768, .f32⟩
  | .hbm, ⟨32, _⟩ => ⟨S8x4096x768, .f32⟩
  | .hbm, ⟨33, _⟩ => ⟨S8x4096x768, .f32⟩
  | .hbm, ⟨34, _⟩ => ⟨S8x4096x768, .f32⟩
  | .hbm, ⟨35, _⟩ => ⟨S8x4096x768, .f32⟩
  | .hbm, ⟨36, _⟩ => ⟨S_, .f32⟩
  | .hbm, ⟨37, _⟩ => ⟨S8x4096x768, .f32⟩
  | .hbm, ⟨38, _⟩ => ⟨S8x4096x768, .f32⟩
  | .hbm, ⟨39, _⟩ => ⟨S_, .f32⟩
  | .hbm, ⟨40, _⟩ => ⟨S8x4096x768, .f32⟩
  | .hbm, ⟨41, _⟩ => ⟨S8x4096x768, .f32⟩
  | .hbm, ⟨42, _⟩ => ⟨S8x4096x768, .f32⟩
  | .hbm, ⟨43, _⟩ => ⟨S32768x768, .f32⟩
  | _, _ => ⟨S32768x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel7.lean ====
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S2048 : Shape := ⟨1, ![2048]⟩
abbrev S2x512 : Shape := ⟨2, ![2, 512]⟩
abbrev S4096 : Shape := ⟨1, ![4096]⟩
abbrev S_ : Shape := ⟨0, ![]⟩
abbrev S1 : Shape := ⟨1, ![1]⟩
abbrev S4095 : Shape := ⟨1, ![4095]⟩
abbrev S2048x64 : Shape := ⟨2, ![2048, 64]⟩
abbrev S2x2x512x64 : Shape := ⟨4, ![2, 2, 512, 64]⟩
abbrev S2x2x512x1 : Shape := ⟨4, ![2, 2, 512, 1]⟩
abbrev S4096x1 : Shape := ⟨2, ![4096, 1]⟩
abbrev S16 : Shape := ⟨1, ![16]⟩
abbrev S1x16 : Shape := ⟨2, ![1, 16]⟩
abbrev S4096x16 : Shape := ⟨2, ![4096, 16]⟩
abbrev S4096x33 : Shape := ⟨2, ![4096, 33]⟩
abbrev S4096x40 : Shape := ⟨2, ![4096, 40]⟩
abbrev S40x4096 : Shape := ⟨2, ![40, 4096]⟩
abbrev S1x4096 : Shape := ⟨2, ![1, 4096]⟩
abbrev S40x64 : Shape := ⟨2, ![40, 64]⟩
abbrev S64x40 : Shape := ⟨2, ![64, 40]⟩
abbrev S64x1 : Shape := ⟨2, ![64, 1]⟩
abbrev S2x512x1 : Shape := ⟨3, ![2, 512, 1]⟩
abbrev S2x512x8192 : Shape := ⟨3, ![2, 512, 8192]⟩
abbrev S1x1x128x64 : Shape := ⟨4, ![1, 1, 128, 64]⟩
abbrev S1x1x128x1 : Shape := ⟨4, ![1, 1, 128, 1]⟩
abbrev S1x128x1 : Shape := ⟨3, ![1, 128, 1]⟩
abbrev S1x128x8192 : Shape := ⟨3, ![1, 128, 8192]⟩
abbrev S64x4096 : Shape := ⟨2, ![64, 4096]⟩
abbrev S128x64 : Shape := ⟨2, ![128, 64]⟩
abbrev S128x4096 : Shape := ⟨2, ![128, 4096]⟩
abbrev S128x1 : Shape := ⟨2, ![128, 1]⟩
abbrev S128 : Shape := ⟨1, ![128]⟩
abbrev S1x128x4096 : Shape := ⟨3, ![1, 128, 4096]⟩

abbrev nBuf : Space → Nat
  | .hbm => 71
  | .vmem => 27
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64x2048, .f32⟩
  | .hbm, ⟨5, _⟩ => ⟨S2048, .f32⟩
  | .hbm, ⟨6, _⟩ => ⟨S64, .f32⟩
  | .hbm, ⟨7, _⟩ => ⟨S2048, .f32⟩
  | .hbm, ⟨8, _⟩ => ⟨S2x512, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S1, .f32⟩
  | .hbm, ⟨14, _⟩ => ⟨S4095, .f32⟩
  | .hbm, ⟨15, _⟩ => ⟨S4095, .f32⟩
  | .hbm, ⟨16, _⟩ => ⟨S4096, .f32⟩
  | .hbm, ⟨17, _⟩ => ⟨S2048x64, .f32⟩
  | .hbm, ⟨18, _⟩ => ⟨S2x2x512x64, .f32⟩
  | .hbm, ⟨19, _⟩ => ⟨S2x2x512x1, .f32⟩
  | .hbm, ⟨20, _⟩ => ⟨S2x2x512x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S1x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x33, .f32⟩
  | .hbm, ⟨36, _⟩ => ⟨S_, .i32⟩
  | .hbm, ⟨37, _⟩ => ⟨S_, .f32⟩
  | .hbm, ⟨38, _⟩ => ⟨S4096x40, .f32⟩
  | .hbm, ⟨39, _⟩ => ⟨S40x4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S1x16, .f32⟩
  | .hbm, ⟨49, _⟩ => ⟨S4096x16, .f32⟩
  | .hbm, ⟨50, _⟩ => ⟨S4096x16, .f32⟩
  | .hbm, ⟨51, _⟩ => ⟨S4096x16, .f32⟩
  | .hbm, ⟨52, _⟩ => ⟨S4096x16, .f32⟩
  | .hbm, ⟨53, _⟩ => ⟨S4096x16, .f32⟩
  | .hbm, ⟨54, _⟩ => ⟨S4096x33, .f32⟩
  | .hbm, ⟨55, _⟩ => ⟨S_, .i32⟩
  | .hbm, ⟨56, _⟩ => ⟨S_, .f32⟩
  | .hbm, ⟨57, _⟩ => ⟨S4096x40, .f32⟩
  | .hbm, ⟨58, _⟩ => ⟨S40x4096, .f32⟩
  | .hbm, ⟨59, _⟩ => ⟨S1x4096, .f32⟩
  | .hbm, ⟨60, _⟩ => ⟨S1x4096, .f32⟩
  | .hbm, ⟨61, _⟩ => ⟨S_, .i32⟩
  | .hbm, ⟨62, _⟩ => ⟨S_, .f32⟩
  | .hbm, ⟨63, _⟩ => ⟨S40x64, .f32⟩
  | .hbm, ⟨64, _⟩ => ⟨S64x40, .f32⟩
  | .hbm, ⟨65, _⟩ => ⟨S64x1, .f32⟩
  | .hbm, ⟨66, _⟩ => ⟨S64x1, .f32⟩
  | .hbm, ⟨67, _⟩ => ⟨S64x64, .f32⟩
  | .hbm, ⟨68, _⟩ => ⟨S64x1, .f32⟩
  | .hbm, ⟨69, _⟩ => ⟨S2x512x1, .f32⟩
  | .hbm, ⟨70, _⟩ => ⟨S2x512x8192, .f32⟩
  | .local _ .vmem, ⟨0, _⟩ => ⟨S40x4096, .f32⟩
  | .local _ .vmem, ⟨1, _⟩ => ⟨S40x4096, .f32⟩
  | .local _ .vmem, ⟨2, _⟩ => ⟨S1x4096, .f32⟩
  | .local _ .vmem, ⟨3, _⟩ => ⟨S1x4096, .f32⟩
  | .local _ .vmem, ⟨4, _⟩ => ⟨S64x40, .f32⟩
  | .local _ .vmem, ⟨5, _⟩ => ⟨S64x1, .f32⟩
  | .local _ .vmem, ⟨6, _⟩ => ⟨S64x1, .f32⟩
  | .local _ .vmem, ⟨7, _⟩ => ⟨S64x64, .f32⟩
  | .local _ .vmem, ⟨8, _⟩ => ⟨S64x1, .f32⟩
  | .local _ .vmem, ⟨9, _⟩ => ⟨S1x1x128x64, .f32⟩
  | .local _ .vmem, ⟨10, _⟩ => ⟨S1x1x128x64, .f32⟩
  | .local _ .vmem, ⟨11, _⟩ => ⟨S1x1x128x64, .f32⟩
  | .local _ .vmem, ⟨12, _⟩ => ⟨S1x1x128x64, .f32⟩
  | .local _ .vmem, ⟨13, _⟩ => ⟨S1x1x128x1, .f32⟩
  | .local _ .vmem, ⟨14, _⟩ => ⟨S1x1x128x1, .f32⟩
  | .local _ .vmem, ⟨15, _⟩ => ⟨S1x1x128x1, .f32⟩
  | .local _ .vmem, ⟨16, _⟩ => ⟨S1x1x128x1, .f32⟩
  | .local _ .vmem, ⟨17, _⟩ => ⟨S1x1x128x1, .f32⟩
  | .local _ .vmem, ⟨18, _⟩ => ⟨S1x1x128x1, .f32⟩
  | .local _ .vmem, ⟨19, _⟩ => ⟨S1x1x128x1, .f32⟩
  | .local _ .vmem, ⟨20, _⟩ => ⟨S1x1x128x1, .f32⟩
  | .local _ .vmem, ⟨21, _⟩ => ⟨S1x128x1, .f32⟩
  | .local _ .vmem, ⟨22, _⟩ => ⟨S1x128x1, .f32⟩
  | .local _ .vmem, ⟨23, _⟩ => ⟨S1x128x8192, .f32⟩
  | .local _ .vmem, ⟨24, _⟩ => ⟨S1x128x8192, .f32⟩
  | .local _ .vmem, ⟨25, _⟩ => ⟨S64x4096, .f32⟩
  | .local _ .vmem, ⟨26, _⟩ => ⟨S64x4096, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_4 : Ref sig .tc := ⟨.hbm, 55, rfl⟩
abbrev main_call1_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_5 : Ref sig .tc := ⟨.hbm, 61, rfl⟩
abbrev main_call2_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S40x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S40x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x128x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x128x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x8192 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference7Ideal.lean ====
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S2048 : Shape := ⟨1, ![2048]⟩
abbrev S2x512 : Shape := ⟨2, ![2, 512]⟩
abbrev S4096 : Shape := ⟨1, ![4096]⟩
abbrev S_ : Shape := ⟨0, ![]⟩
abbrev S4096x1 : Shape := ⟨2, ![4096, 1]⟩
abbrev S16 : Shape := ⟨1, ![16]⟩
abbrev S1x16 : Shape := ⟨2, ![1, 16]⟩
abbrev S4096x16 : Shape := ⟨2, ![4096, 16]⟩
abbrev S4096x33 : Shape := ⟨2, ![4096, 33]⟩
abbrev S4096x64 : Shape := ⟨2, ![4096, 64]⟩
abbrev S1x64 : Shape := ⟨2, ![1, 64]⟩
abbrev S4096x2048 : Shape := ⟨2, ![4096, 2048]⟩
abbrev S1x2048 : Shape := ⟨2, ![1, 2048]⟩
abbrev S4096x2x2x512 : Shape := ⟨4, ![4096, 2, 2, 512]⟩
abbrev S1x2x1x512 : Shape := ⟨4, ![1, 2, 1, 512]⟩
abbrev S4096x2x1x512 : Shape := ⟨4, ![4096, 2, 1, 512]⟩
abbrev S4096x2x512 : Shape := ⟨3, ![4096, 2, 512]⟩
abbrev S1x2x512 : Shape := ⟨3, ![1, 2, 512]⟩
abbrev S4095x2x512 : Shape := ⟨3, ![4095, 2, 512]⟩
abbrev S8192x2x512 : Shape := ⟨3, ![8192, 2, 512]⟩
abbrev S2x512x8192 : Shape := ⟨3, ![2, 512, 8192]⟩

abbrev nBuf : Space → Nat
  | .hbm => 81
  | .vmem => 0
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64x2048, .f32⟩
  | .hbm, ⟨5, _⟩ => ⟨S2048, .f32⟩
  | .hbm, ⟨6, _⟩ => ⟨S64, .f32⟩
  | .hbm, ⟨7, _⟩ => ⟨S2048, .f32⟩
  | .hbm, ⟨8, _⟩ => ⟨S2x512, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096x1, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S1x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x33, .f32⟩
  | .hbm, ⟨28, _⟩ => ⟨S4096x64, .f32⟩
  | .hbm, ⟨29, _⟩ => ⟨S1x64, .f32⟩
  | .hbm, ⟨30, _⟩ => ⟨S4096x64, .f32⟩
  | .hbm, ⟨31, _⟩ => ⟨S4096x64, .f32⟩
  | .hbm, ⟨32, _⟩ => ⟨S1x64, .f32⟩
  | .hbm, ⟨33, _⟩ => ⟨S4096x64, .f32⟩
  | .hbm, ⟨34, _⟩ => ⟨S4096x64, .f32⟩
  | .hbm, ⟨35, _⟩ => ⟨S4096x64, .f32⟩
  | .hbm, ⟨36, _⟩ => ⟨S4096x64, .f32⟩
  | .hbm, ⟨37, _⟩ => ⟨S1x64, .f32⟩
  | .hbm, ⟨38, _⟩ => ⟨S4096x64, .f32⟩
  | .hbm, ⟨39, _⟩ => ⟨S4096x64, .f32⟩
  | .hbm, ⟨40, _⟩ => ⟨S1x64, .f32⟩
  | .hbm, ⟨41, _⟩ => ⟨S4096x64, .f32⟩
  | .hbm, ⟨42, _⟩ => ⟨S4096x64, .f32⟩
  | .hbm, ⟨43, _⟩ => ⟨S4096x64, .f32⟩
  | .hbm, ⟨44, _⟩ => ⟨S4096x2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x1, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2x2x512, .f32⟩
  | .hbm, ⟨57, _⟩ => ⟨S4096x2x2x512, .f32⟩
  | .hbm, ⟨58, _⟩ => ⟨S_, .f32⟩
  | .hbm, ⟨59, _⟩ => ⟨S2x512, .f32⟩
  | .hbm, ⟨60, _⟩ => ⟨S1x2x1x512, .f32⟩
  | .hbm, ⟨61, _⟩ => ⟨S_, .f32⟩
  | .hbm, ⟨62, _⟩ => ⟨S1x2x1x512, .f32⟩
  | .hbm, ⟨63, _⟩ => ⟨S1x2x1x512, .f32⟩
  | .hbm, ⟨64, _⟩ => ⟨S4096x2x2x512, .f32⟩
  | .hbm, ⟨65, _⟩ => ⟨S4096x2x2x512, .f32⟩
  | .hbm, ⟨66, _⟩ => ⟨S4096x2x1x512, .f32⟩
  | .hbm, ⟨67, _⟩ => ⟨S4096x2x512, .f32⟩
  | .hbm, ⟨68, _⟩ => ⟨S4096x2x1x512, .f32⟩
  | .hbm, ⟨69, _⟩ => ⟨S4096x2x512, .f32⟩
  | .hbm, ⟨70, _⟩ => ⟨S1x2x512, .f32⟩
  | .hbm, ⟨71, _⟩ => ⟨S_, .f32⟩
  | .hbm, ⟨72, _⟩ => ⟨S1x2x512, .f32⟩
  | .hbm, ⟨73, _⟩ => ⟨S4095x2x512, .f32⟩
  | .hbm, ⟨74, _⟩ => ⟨S4095x2x512, .f32⟩
  | .hbm, ⟨75, _⟩ => ⟨S1x2x512, .f32⟩
  | .hbm, ⟨76, _⟩ => ⟨S1x2x512, .f32⟩
  | .hbm, ⟨77, _⟩ => ⟨S1x2x512, .f32⟩
  | .hbm, ⟨78, _⟩ => ⟨S4095x2x512, .f32⟩
  | .hbm, ⟨79, _⟩ => ⟨S8192x2x512, .f32⟩
  | .hbm, ⟨80, _⟩ => ⟨S2x512x8192, .f32⟩
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_2 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩

abbrev nD : Nat := 1
abbrev τ : Topo := Topo.v7x

variable {F : FTy → Type} [FloatOps F]
-- ==== Proof.Mlp.Steps.lean ====
/-
  What one grid point of the MLP kernel leaves in its two scratch buffers and in its output block, as plain terms over the
  point's input blocks: the first point of a row block stores the normalised rows and starts the sum, every point adds
  its slice of the hidden width, the last one writes the normalised residual.
-/
module

public import proofs.«01_k».proof.Proof.Gen.Kernel2Ideal.Value
public import Idealize.ShloMosaic.Lib.Pipeline.Value

@[expose] public section

noncomputable section

namespace Cert.Kernel2Ideal.Mlp

open Cert.Kernel2Ideal Cert.Kernel2Ideal.Gen Idealize.ShloMosaic Idealize.ShloMosaic.TcCoe Idealize.SL.Sem

variable {F : FTy → Type} [FloatOps F]
variable (m : (ℓ : Loc nD τ sig) → Buf (Elt F) ℓ)

theorem hz2 : (![0, 0] : Fin 2 → Nat) = fun _ => 0 := funext fun a => by fin_cases a <;> rfl

/-- The modulation rows a point loads from its block of six. -/
abbrev modShift (x : Vec F S1x6x2048 .f32) : Vec F S1x1x2048 .f32 :=
  View.ld x (Rect.unit (s := S1x6x2048) ![0, 3, 0] S1x1x2048.size inb_S1x6x2048_S1x1x2048_0_3_0)
abbrev modScale (x : Vec F S1x6x2048 .f32) : Vec F S1x1x2048 .f32 :=
  View.ld x (Rect.unit (s := S1x6x2048) ![0, 4, 0] S1x1x2048.size inb_S1x6x2048_S1x1x2048_0_4_0)
abbrev modGate (x : Vec F S1x6x2048 .f32) : Vec F S1x1x2048 .f32 :=
  View.ld x (Rect.unit (s := S1x6x2048) ![0, 5, 0] S1x1x2048.size inb_S1x6x2048_S1x1x2048_0_5_0)

/-- The rows the first point of a row block stores: normalised, scaled and shifted. -/
abbrev startU (c : Dev nD) (t : Fin cfg0.N) : Vec F S512x2048 .bf16 :=
  k0_pay1 (iblk m c 0 t) (iblk m c 2 t) (modScale (iblk m c 1 t)) (modShift (iblk m c 1 t))

/-- First point of a row block: the normalised rows. -/
theorem first_rows (c : Dev nD) (t : Fin cfg0.N) (h0 : t.val % 8 = 0) :
    (outsAt0 m c t.val t.isLt).2.1 = startU m c t := by
  have h1 : ¬t.val % 8 = 7 := by omega
  rw [outsAt0_A m c t h0 h1]
  dsimp only
  unfold sout0_A_0
  rw [View.read_writes_eq_canon _ _ _ (scover0_A_0 c _ _ _ _ _ _ _ _ _ _ _ _ _ _ _ _ _ _ _ _ _ _ _ _ _ _ _)]
  unfold kernelRun0_A
  dsimp only
  sl_unfold_words
  rw [View.canon_unit_zero hz2]
  simp only [View.readAt_eq_ld, (hs0_0 t).read_unread, (hs0_1 t).read_unread, (hs0_2 t).read_unread,
    View.ld_unit_zero (S := S512x2048) hz2, View.ld_unit_zero (S := S1x2048) hz2]

/-- First point of a row block: the sum begins at zero. -/
theorem first_sum (c : Dev nD) (t : Fin cfg0.N) (h0 : t.val % 8 = 0) :
    (outsAt0 m c t.val t.isLt).2.2 = k0_pay3 (startU m c t) (iblk m c 3 t) (k0_pay2 (F := F)) (iblk m c 4 t) := by
  have h1 : ¬t.val % 8 = 7 := by omega
  rw [outsAt0_A m c t h0 h1]
  dsimp only
  unfold sout0_A_1
  rw [View.read_writes_eq_canon _ _ _ (scover0_A_1 c _ _ _ _ _ _ _ _ _ _ _ _ _ _ _ _ _ _ _ _ _ _ _ _ _ _ _)]
  unfold kernelRun0_A
  dsimp only
  sl_unfold_words
  rw [View.canon_cons_unit_zero (S := S512x2048) hz2, View.readCov_unit_zero (S := S512x2048) _ hz2,
    View.readCov_unit_zero (S := S512x2048) _ hz2]
  simp only [View.readAt_eq_ld, (hs0_0 t).read_unread, (hs0_1 t).read_unread, (hs0_2 t).read_unread, (hs0_3 t).read_unread,
    (hs0_4 t).read_unread, View.ld_unit_zero (S := S512x2048) hz2, View.ld_unit_zero (S := S1x2048) hz2,
    View.ld_unit_zero (S := S2048x1024) hz2, View.ld_unit_zero (S := S1024x2048) hz2]

/-- What the point before `t` left. -/
abbrev before (c : Dev nD) (t : Fin cfg0.N) := outsAt0 m c (t.val - 1) (Nat.lt_of_le_of_lt (Nat.sub_le _ _) t.isLt)

/-- A later point keeps the rows. -/
theorem next_rows (c : Dev nD) (t : Fin cfg0.N) (h0 : ¬t.val % 8 = 0) :
    (outsAt0 m c t.val t.isLt).2.1 = (before m c t).2.1 := by
  by_cases h1 : t.val % 8 = 7
  · rw [outsAt0_C m c t h0 h1]; rfl
  · rw [outsAt0_B m c t h0 h1]; rfl

/-- A later point adds its slice to the sum. -/
theorem next_sum (c : Dev nD) (t : Fin cfg0.N) (h0 : ¬t.val % 8 = 0) :
    (outsAt0 m c t.val t.isLt).2.2
      = k0_pay3 (before m c t).2.1 (iblk m c 3 t) (before m c t).2.2 (iblk m c 4 t) := by
  by_cases h1 : t.val % 8 = 7
  · rw [outsAt0_C m c t h0 h1]
    dsimp only
    unfold sout0_C_1
    rw [View.read_writes_eq_canon _ _ _ (scover0_C_1 c _ _ _ _ _ _ _ _ _ _ _ _ _ _ _ _ _ _ _ _ _ _ _ _ _ _ _ _ _)]
    unfold kernelRun0_C
    dsimp only
    sl_unfold_words
    rw [View.canon_unit_zero (S := S512x2048) hz2]
    simp only [View.readAt_eq_ld, (hs0_3 t).read_unread, (hs0_4 t).read_unread, (Memref.isWhole_whole _).read_unread,
      View.ld_unit_zero (S := S512x2048) hz2,
      View.ld_unit_zero (S := S2048x1024) hz2, View.ld_unit_zero (S := S1024x2048) hz2]
  · rw [outsAt0_B m c t h0 h1]
    dsimp only
    unfold sout0_B_1
    rw [View.read_writes_eq_canon _ _ _ (scover0_B_1 c _ _ _ _ _ _ _ _ _ _ _ _ _ _ _ _ _ _ _ _ _ _ _ _ _ _ _ _ _)]
    unfold kernelRun0_B
    dsimp only
    sl_unfold_words
    rw [View.canon_unit_zero (S := S512x2048) hz2]
    simp only [View.readAt_eq_ld, (hs0_3 t).read_unread, (hs0_4 t).read_unread, (Memref.isWhole_whole _).read_unread,
      View.ld_unit_zero (S := S512x2048) hz2,
      View.ld_unit_zero (S := S2048x1024) hz2, View.ld_unit_zero (S := S1024x2048) hz2]

/-- The last point of a row block writes the normalised residual of the whole sum. -/
theorem last_block (c : Dev nD) (t : Fin cfg0.N) (h1 : t.val % 8 = 7) :
    (outsAt0 m c t.val t.isLt).1
      = k0_pay4 (iblk m c 0 t) (modGate (iblk m c 1 t)) (outsAt0 m c t.val t.isLt).2.2 (iblk m c 5 t) := by
  have h0 : ¬t.val % 8 = 0 := by omega
  rw [next_sum m c t h0, outsAt0_C m c t h0 h1]
  dsimp only
  unfold out0_C_6
  rw [View.read_writes_eq_canon _ _ _ (cover0_C_6 c _ _ _ _ _ _ _ _ _ _ _ _ _ _ _ _ _ _ _ _ _ _ _ _ _ _ _ _ _)]
  unfold kernelRun0_C
  dsimp only
  sl_unfold_words
  rw [View.canon_unit_zero (S := S512x2048) hz2, View.readCov_unit_zero (S := S512x2048) _ hz2]
  simp only [View.readAt_eq_ld, (hs0_0 t).read_unread, (hs0_1 t).read_unread, (hs0_3 t).read_unread, (hs0_4 t).read_unread,
    (hs0_5 t).read_unread, (Memref.isWhole_whole _).read_unread,
    View.ld_unit_zero (S := S512x2048) hz2, View.ld_unit_zero (S := S1x2048) hz2,
    View.ld_unit_zero (S := S2048x1024) hz2, View.ld_unit_zero (S := S1024x2048) hz2]

end Cert.Kernel2Ideal.Mlp

end
-- ==== Proof.Mlp.Spec.lean ====
/-
  The MLP of one token row, as scalars over the arguments: the normalised and modulated input, the squared positive part
  of the hidden width, and the gated residual.
-/
module

public import Idealize.ShloMosaic.Lib.Pointwise

@[expose] public section

noncomputable section

namespace Cert.Mlp

open Idealize.ShloMosaic Idealize.ShloMosaic.Pointwise

/-- Root mean square normalisation of a row of 2048 numbers, at one column: `x / sqrt (mean x² + ε) * g`. -/
def normed (x : Fin 2048 → EReal) (g : EReal) (e : Fin 2048) : EReal :=
  x e * Ideal.rsqrt (Ideal.div (∑ k, x k * x k) (Ideal.ofBits .f32 1157627904#32) + Ideal.ofBits .f32 897988541#32) * g

/-- The squared positive part. -/
def relu2 (s : EReal) : EReal := max s 0 * max s 0

variable (X : FVec Ideal ⟨2, ![32768, 2048]⟩ .f32) (M : FVec Ideal ⟨2, ![8, 12288]⟩ .f32)
  (G : FVec Ideal ⟨1, ![2048]⟩ .f32) (W1 : FVec Ideal ⟨2, ![2048, 8192]⟩ .f32) (W2 : FVec Ideal ⟨2, ![8192, 2048]⟩ .f32)

/-- Row `r`, a token of sequence `b`: normalised, scaled and shifted by the sequence's modulation. -/
def innerRow (b : Fin 8) (r : Fin 32768) (e : Fin 2048) : EReal :=
  normed (fun k => X (ix2 r k)) (G (ix1 e)) e * (1 + M (ix2 b ⟨8192 + e.val, by omega⟩))
    + M (ix2 b ⟨6144 + e.val, by omega⟩)

/-- The hidden unit `f` of row `r`. -/
def hiddenUnit (b : Fin 8) (r : Fin 32768) (f : Fin 8192) : EReal :=
  relu2 (∑ k : Fin 2048, innerRow X M G b r k * W1 (ix2 k f))

/-- Row `r` with the gated MLP added. -/
def resid (b : Fin 8) (r : Fin 32768) (e : Fin 2048) : EReal :=
  X (ix2 r e) + M (ix2 b ⟨10240 + e.val, by omega⟩) * ∑ f : Fin 8192, hiddenUnit X M G W1 b r f * W2 (ix2 f e)

end Cert.Mlp

end
-- ==== Proof.Mlp.Payload.lean ====
/-
  The kernel's vector expressions of the MLP read at an index: the normalised and modulated row, the share of the hidden
  width one grid point adds, and the normalised residual.
-/
module

public import proofs.«01_k».proof.Proof.Gen.Kernel2Ideal.Skeleton
public import proofs.«01_k».proof.Proof.Mlp.Spec

@[expose] public section

set_option maxRecDepth 16384

noncomputable section

namespace Cert.Kernel2Ideal.Mlp

open Cert.Kernel2Ideal Cert.Kernel2Ideal.Gen Idealize.ShloMosaic Idealize.ShloMosaic.TcCoe Idealize.SL.Sem
open Idealize.ShloMosaic.Pointwise Cert.Mlp

/-- The rows the first point stores. -/
theorem rows_at (x : FVec Ideal S512x2048 .f32) (g : FVec Ideal S1x2048 .f32) (sc sh : FVec Ideal S1x1x2048 .f32)
    (r : Fin 512) (e : Fin 2048) :
    k0_pay1 (F := Ideal) x g sc sh (ix2 r e)
      = normed (fun k => x (ix2 r k)) (g (ix2 0 e)) e * (1 + sc (ix3 0 0 e)) + sh (ix3 0 0 e) := by
  pointwise [k0_pay1, normed]

/-- The sum begins at zero. -/
theorem zero_at (r : Fin 512) (e : Fin 2048) : k0_pay2 (F := Ideal) (ix2 r e) = (0 : EReal) := by
  pointwise [k0_pay2]

/-- One point's share of the hidden width, added to the sum so far. -/
theorem share_at (u : FVec Ideal S512x2048 .bf16) (w1 : FVec Ideal S2048x1024 .bf16) (a : FVec Ideal S512x2048 .f32)
    (w2 : FVec Ideal S1024x2048 .bf16) (r : Fin 512) (e : Fin 2048) :
    k0_pay3 (F := Ideal) u w1 a w2 (ix2 r e)
      = a (ix2 r e) + ∑ f : Fin 1024, relu2 (∑ k : Fin 2048, u (ix2 r k) * w1 (ix2 k f)) * w2 (ix2 f e) := by
  pointwise [k0_pay3, relu2]

/-- The residual, normalised. -/
theorem close_at (x : FVec Ideal S512x2048 .f32) (gt : FVec Ideal S1x1x2048 .f32) (a : FVec Ideal S512x2048 .f32)
    (fg : FVec Ideal S1x2048 .f32) (r : Fin 512) (e : Fin 2048) :
    k0_pay4 (F := Ideal) x gt a fg (ix2 r e)
      = normed (fun k => x (ix2 r k) + gt (ix3 0 0 k) * a (ix2 r k)) (fg (ix2 0 e)) e := by
  pointwise [k0_pay4, normed]

end Cert.Kernel2Ideal.Mlp

end
-- ==== Proof.Mlp.Blocks.lean ====
/-
  The blocks a grid point of the MLP kernel works on, as entries of the arguments: point `t` has the 512 rows of row
  block `t / 8` and the 1024 hidden columns of slice `t % 8`; the modulation row is the one of the row block's sequence.
-/
module

public import proofs.«01_k».proof.Proof.Mlp.Steps
public import proofs.«01_k».proof.Proof.Mlp.Payload
public import Idealize.ShloMosaic.Lib.Pipeline.ValueKit
public import Idealize.ShloMosaic.Lib.Claim

@[expose] public section

set_option maxRecDepth 16384

noncomputable section

namespace Cert.Kernel2Ideal.Mlp

open Cert.Kernel2Ideal Cert.Kernel2Ideal.Gen Idealize.ShloMosaic Idealize.ShloMosaic.TcCoe Idealize.SL.Sem
open Idealize.ShloMosaic.Pointwise Cert.Mlp

variable (m : (ℓ : Loc nD τ sig) → Buf (Elt Ideal) ℓ) (c : Dev nD)

/-- The arguments, at their literal types. -/
abbrev inX : FVec Ideal S32768x2048 .f32 := m ((c : Thread nD τ).loc main_arg0)
abbrev inM : FVec Ideal S8x12288 .f32 := m ((c : Thread nD τ).loc main_arg1)
abbrev inG : FVec Ideal S2048 .f32 := m ((c : Thread nD τ).loc main_arg2)
abbrev inW1 : FVec Ideal S2048x8192 .f32 := m ((c : Thread nD τ).loc main_arg3)
abbrev inW2 : FVec Ideal S8192x2048 .f32 := m ((c : Thread nD τ).loc main_arg4)
abbrev inFg : FVec Ideal S2048 .f32 := m ((c : Thread nD τ).loc main_arg5)

/-- The index maps at every grid point. -/
theorem idx : ∀ t : Fin cfg0.N,
    win0_0.index t = ![t.val / 8, 0] ∧ win0_1.index t = ![t.val / 64, 0, 0] ∧ win0_2.index t = ![0, 0]
      ∧ win0_3.index t = ![0, t.val % 8] ∧ win0_4.index t = ![t.val % 8, 0] ∧ win0_5.index t = ![0, 0]
      ∧ t.val < 512 :=
  (by decide +kernel : ∀ t : Fin grid0.N, _)

theorem blkX (t : Fin cfg0.N) (r : Fin 512) (e : Fin 2048) (h : t.val / 8 * 512 + r.val < 32768) :
    (iblk m c 0 t : FVec Ideal S512x2048 .f32) (ix2 r e) = inX m c (ix2 ⟨t.val / 8 * 512 + r.val, h⟩ e) := by
  blk_ext [iblk, V, idx t]

theorem blkM (t : Fin cfg0.N) (j : Fin 6) (e : Fin 2048) (h : t.val / 64 < 8) (h' : j.val * 2048 + e.val < 12288) :
    (iblk m c 1 t : FVec Ideal S1x6x2048 .f32) (ix3 0 j e)
      = inM m c (ix2 ⟨t.val / 64, h⟩ ⟨j.val * 2048 + e.val, h'⟩) := by
  blk_simp [iblk, V, idx t]
  entry_read
  pointwise
  blk_ext [idx t]

theorem blkG (t : Fin cfg0.N) (e : Fin 2048) :
    (iblk m c 2 t : FVec Ideal S1x2048 .f32) (ix2 0 e) = inG m c (ix1 e) := by
  blk_point [iblk, V, idx t]

theorem blkW1 (t : Fin cfg0.N) (k : Fin 2048) (f : Fin 1024) (h : t.val % 8 * 1024 + f.val < 8192) :
    (iblk m c 3 t : FVec Ideal S2048x1024 .bf16) (ix2 k f) = inW1 m c (ix2 k ⟨t.val % 8 * 1024 + f.val, h⟩) := by
  blk_point [iblk, V, idx t]

theorem blkW2 (t : Fin cfg0.N) (f : Fin 1024) (e : Fin 2048) (h : t.val % 8 * 1024 + f.val < 8192) :
    (iblk m c 4 t : FVec Ideal S1024x2048 .bf16) (ix2 f e) = inW2 m c (ix2 ⟨t.val % 8 * 1024 + f.val, h⟩ e) := by
  blk_point [iblk, V, idx t]

theorem blkFg (t : Fin cfg0.N) (e : Fin 2048) :
    (iblk m c 5 t : FVec Ideal S1x2048 .f32) (ix2 0 e) = inFg m c (ix1 e) := by
  blk_point [iblk, V, idx t]

end Cert.Kernel2Ideal.Mlp

end
-- ==== Proof.Mlp.Sum.lean ====
/-
  What the last point of a row block writes, as scalars over the arguments: the eight shares of 1024 hidden columns add up
  to the whole hidden width.
-/
module

public import proofs.«01_k».proof.Proof.Mlp.Blocks

@[expose] public section

set_option maxRecDepth 16384

noncomputable section

namespace Cert.Kernel2Ideal.Mlp

open Cert.Kernel2Ideal Cert.Kernel2Ideal.Gen Idealize.ShloMosaic Idealize.ShloMosaic.TcCoe Idealize.SL.Sem
open Idealize.ShloMosaic.Pointwise Cert.Mlp

variable (m : (ℓ : Loc nD τ sig) → Buf (Elt Ideal) ℓ) (c : Dev nD)

/-- The points of a row block hold the rows its first point stored. -/
theorem rows_run (n : ℕ) (hn : n < cfg0.N) :
    (outsAt0 m c n hn).2.1 = startU m c ⟨8 * (n / 8), lt_of_le_of_lt (Nat.mul_div_le n 8) hn⟩ := by
  induction n with
  | zero => exact first_rows m c ⟨0, hn⟩ rfl
  | succ n ih =>
    by_cases h0 : (n + 1) % 8 = 0
    · refine (first_rows m c ⟨n + 1, hn⟩ h0).trans (congrArg (startU m c) (Fin.ext ?_))
      show n + 1 = 8 * ((n + 1) / 8)
      omega
    · refine ((next_rows m c ⟨n + 1, hn⟩ h0).trans (ih (by omega))).trans (congrArg (startU m c) (Fin.ext ?_))
      show 8 * (n / 8) = 8 * ((n + 1) / 8)
      omega

/-- The stored rows, over the arguments. -/
theorem start_at (q : Fin cfg0.N) (r : Fin 512) (e : Fin 2048) (b : Fin 8) (hb : b.val = q.val / 64)
    (R : Fin 32768) (hR : R.val = q.val / 8 * 512 + r.val) :
    startU m c q (ix2 r e) = innerRow (inX m c) (inM m c) (inG m c) b R e := by
  obtain ⟨b, hb'⟩ := b
  obtain ⟨R, hR'⟩ := R
  subst hb hR
  refine (rows_at _ _ _ _ r e).trans ?_
  unfold innerRow normed modScale modShift
  pointwise
  rw [blkG m c q e]
  simp only [fun k => blkX m c q r k hR']
  have hs := blkM m c q 4 e hb' (by show 4 * 2048 + e.val < 12288; omega)
  have ht := blkM m c q 3 e hb' (by show 3 * 2048 + e.val < 12288; omega)
  exact Ideal.add_congr (Ideal.mul_congr rfl (Ideal.add_congr rfl hs)) ht

/-- One point's share at row `r`, column `e`. -/
def share (p : Fin cfg0.N) (i : S512x2048.Idx) : EReal :=
  ∑ f : Fin 1024, relu2 (∑ k : Fin 2048,
      (startU m c ⟨8 * (p.val / 8), lt_of_le_of_lt (Nat.mul_div_le p.val 8) p.isLt⟩ : FVec Ideal S512x2048 .bf16) (ix2 (i 0) k)
        * (iblk m c 3 p : FVec Ideal S2048x1024 .bf16) (ix2 k f))
    * (iblk m c 4 p : FVec Ideal S1024x2048 .bf16) (ix2 f (i 1))

/-- The sum after the last point of a row block: the eight shares. -/
theorem sum_run (t : Fin cfg0.N) (ht : t.val % 8 = 7) (i : S512x2048.Idx) :
    ((outsAt0 m c t.val t.isLt).2.2 : FVec Ideal S512x2048 .f32) i
      = 0 + ∑ s : Fin 8, share m c ⟨8 * (t.val / 8) + s.val, Pipeline.run_point_lt_of_flush t ht s⟩ i := by
  refine Pipeline.eq_sum_fin_of_reset_step_apply_of_flush
    (fun n h => ((outsAt0 m c n h).2.2 : FVec Ideal S512x2048 .f32)) 8 (fun _ => (0 : EReal)) (share m c) ?_ ?_ t ht i
  · intro p hp i
    obtain ⟨r, e, rfl⟩ : ∃ (r : Fin 512) (e : Fin 2048), i = ix2 r e := ⟨i 0, i 1, eq_ix2 i⟩
    refine (congrFun (first_sum m c p hp) _).trans ((share_at _ _ _ _ r e).trans ?_)
    rw [zero_at]
    have hq : p = ⟨8 * (p.val / 8), lt_of_le_of_lt (Nat.mul_div_le p.val 8) p.isLt⟩ := Fin.ext (by
      show p.val = 8 * (p.val / 8); omega)
    unfold share
    rw [← hq]
    rfl
  · intro p hp i
    obtain ⟨r, e, rfl⟩ : ∃ (r : Fin 512) (e : Fin 2048), i = ix2 r e := ⟨i 0, i 1, eq_ix2 i⟩
    refine (congrFun (next_sum m c p hp) _).trans ((share_at _ _ _ _ r e).trans ?_)
    have hq : (⟨8 * ((p.val - 1) / 8), lt_of_le_of_lt (Nat.mul_div_le (p.val - 1) 8) (lt_of_le_of_lt (Nat.sub_le _ _) p.isLt)⟩ : Fin cfg0.N)
        = ⟨8 * (p.val / 8), lt_of_le_of_lt (Nat.mul_div_le p.val 8) p.isLt⟩ := Fin.ext (by
      show 8 * ((p.val - 1) / 8) = 8 * (p.val / 8); omega)
    rw [before, rows_run m c (p.val - 1), hq]
    rfl

/-- The sum after the last point of a row block is the sum over the whole hidden width. -/
theorem sum_at (t : Fin cfg0.N) (ht : t.val % 8 = 7) (r : Fin 512) (e : Fin 2048) (b : Fin 8) (hb : b.val = t.val / 64)
    (R : Fin 32768) (hR : R.val = t.val / 8 * 512 + r.val) :
    ((outsAt0 m c t.val t.isLt).2.2 : FVec Ideal S512x2048 .f32) (ix2 r e)
      = ∑ f : Fin 8192, hiddenUnit (inX m c) (inM m c) (inG m c) (inW1 m c) b R f * inW2 m c (ix2 f e) := by
  have ht' := (idx t).2.2.2.2.2.2
  rw [sum_run m c t ht, zero_add, Fin.sum_univ_tiles 8 1024 rfl]
  refine Finset.sum_congr rfl fun s _ => Finset.sum_congr rfl fun f _ => ?_
  have hs : (8 * (t.val / 8) + s.val) % 8 = s.val := by omega
  have hW1 := fun k => blkW1 m c ⟨8 * (t.val / 8) + s.val, Pipeline.run_point_lt_of_flush t ht s⟩ k f
    (by show (8 * (t.val / 8) + s.val) % 8 * 1024 + f.val < 8192; omega)
  have hW2 := blkW2 m c ⟨8 * (t.val / 8) + s.val, Pipeline.run_point_lt_of_flush t ht s⟩ f e
    (by show (8 * (t.val / 8) + s.val) % 8 * 1024 + f.val < 8192; omega)
  simp only [hs] at hW1 hW2
  refine Ideal.mul_congr (congrArg relu2 (Finset.sum_congr rfl fun k _ => Ideal.mul_congr ?_ ?_)) ?_
  · refine start_at m c _ r k b ?_ R ?_
    · show b.val = 8 * ((8 * (t.val / 8) + s.val) / 8) / 64
      omega
    · show R.val = 8 * ((8 * (t.val / 8) + s.val) / 8) / 8 * 512 + r.val
      omega
  · exact hW1 k
  · exact hW2

/-- What the last point of a row block writes at row `r` of the block. -/
theorem block_at (t : Fin cfg0.N) (ht : t.val % 8 = 7) (r : Fin 512) (e : Fin 2048) (b : Fin 8) (hb : b.val = t.val / 64)
    (R : Fin 32768) (hR : R.val = t.val / 8 * 512 + r.val) :
    ((outsAt0 m c t.val t.isLt).1 : FVec Ideal S512x2048 .f32) (ix2 r e)
      = normed (resid (inX m c) (inM m c) (inG m c) (inW1 m c) (inW2 m c) b R) (inFg m c (ix1 e)) e := by
  refine (congrFun (last_block m c t ht) _).trans ((close_at _ _ _ _ r e).trans ?_)
  rw [blkFg m c t e]
  refine congrArg (fun x => normed x _ e) (funext fun k => ?_)
  unfold resid
  rw [← sum_at m c t ht r k b hb R hR]
  obtain ⟨b, hb'⟩ := b
  obtain ⟨R, hR'⟩ := R
  subst hb hR
  have hg := blkM m c t 5 k hb' (by show 5 * 2048 + k.val < 12288; omega)
  refine Ideal.add_congr (blkX m c t r k hR') (Ideal.mul_congr ?_ rfl)
  unfold modGate
  pointwise
  exact hg

end Cert.Kernel2Ideal.Mlp

end
-- ==== Proof.Mlp.Ref.lean ====
/-
  The reference of the MLP read at an index: the same scalars over the arguments.
-/
module

public import proofs.«01_k».proof.Proof.Gen.Reference2Ideal.Read
public import proofs.«01_k».proof.Proof.Mlp.Spec

@[expose] public section

set_option maxRecDepth 16384

noncomputable section

namespace Cert.Reference2Ideal.Mlp

open Cert.Reference2Ideal Cert.Reference2Ideal.Gen Cert.Reference2Ideal.Read
open Idealize.ShloMosaic Idealize.ShloMosaic.TcCoe Idealize.SL.Sem
open Idealize.ShloMosaic.Pointwise Cert.Mlp

variable (x0 : FVec Ideal S32768x2048 .f32) (x1 : FVec Ideal S8x12288 .f32) (x2 : FVec Ideal S2048 .f32)
  (x3 : FVec Ideal S2048x8192 .f32) (x4 : FVec Ideal S8192x2048 .f32) (x5 : FVec Ideal S2048 .f32)

/-- The modulated row. -/
theorem inner_at (b : Fin 8) (l : Fin 4096) (e : Fin 2048) (R : Fin 32768) (hR : R.val = b.val * 4096 + l.val) :
    val_main_v26 (F := Ideal) x0 x1 x2 (ix3 b l e) = innerRow x0 x1 x2 b R e := by
  obtain ⟨R, hR'⟩ := R
  subst hR
  pointwise [val_main_v26, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v8, val_main_v6, val_main_v5, val_main_v1, val_main_v0,
    val_main_cst, val_main_cst_0, val_main_cst_1, val_main_cst_2, innerRow, normed]

/-- The gated residual. -/
theorem resid_at (b : Fin 8) (l : Fin 4096) (e : Fin 2048) (R : Fin 32768) (hR : R.val = b.val * 4096 + l.val) :
    val_main_v33 (F := Ideal) x0 x1 x2 x3 x4 (ix3 b l e) = resid x0 x1 x2 x3 x4 b R e := by
  have hi := fun k => inner_at x0 x1 x2 b l k R hR
  obtain ⟨R, hR'⟩ := R
  subst hR
  pointwise [val_main_v33, val_main_v32, val_main_v31, val_main_v7, val_main_v1, val_main_v0, val_main_v30,
    val_main_v29, val_main_v28, val_main_v27, val_main_call0_v0, val_main_call0_cst, resid, hiddenUnit, relu2, hi]

/-- The reference's result. -/
theorem result_at (r : Fin 32768) (e : Fin 2048) :
    val_main_v47 (F := Ideal) x0 x1 x2 x3 x4 x5 (ix2 r e)
      = normed (resid x0 x1 x2 x3 x4 ⟨r.val / 4096, by omega⟩ r) (x5 (ix1 e)) e := by
  have hr := fun k => resid_at x0 x1 x2 x3 x4 ⟨r.val / 4096, by omega⟩ ⟨r.val % 4096, by omega⟩ k r
    (by show r.val = r.val / 4096 * 4096 + r.val % 4096; omega)
  pointwise [val_main_v47, val_main_v46, val_main_v45, val_main_v44, val_main_v43, val_main_v42, val_main_v41,
    val_main_v40, val_main_v39, val_main_v38, val_main_v37, val_main_v36, val_main_v35, val_main_v34, val_main_cst_3,
    val_main_cst_4, val_main_cst_5, normed, hr]

end Cert.Reference2Ideal.Mlp

end
-- ==== Proof.Mlp.Algebra.lean ====
/-
  The MLP kernel and its reference leave the same array.
-/
module

public import proofs.«01_k».proof.Defs
public import proofs.«01_k».proof.Proof.Mlp.Sum
public import proofs.«01_k».proof.Proof.Mlp.Ref

@[expose] public section

set_option maxRecDepth 16384

noncomputable section

namespace Cert.Mlp

open Idealize.ShloMosaic Idealize.ShloMosaic.TcCoe Idealize.SL.Sem
open Idealize.ShloMosaic.Pointwise
open Cert.Kernel2Ideal Cert.Kernel2Ideal.Gen
open Cert.Kernel2Ideal.Mlp
open Cert.Kernel2Ideal.Value (G6 outsAt0_sweep)

variable (m : (ℓ : Loc nD τ sig) → Buf (Elt Ideal) ℓ) (c : Dev nD)

/-- The kernel's array is the reference's last stage over the same arguments. -/
theorem final_eq :
    (G6 m c : FVec Ideal Cert.Kernel2Ideal.S32768x2048 .f32)
      = Cert.Reference2Ideal.Read.val_main_v47 (F := Ideal) (inX m c) (inM m c) (inG m c) (inW1 m c) (inW2 m c) (inFg m c) := by
  funext i
  obtain ⟨r, e, rfl⟩ : ∃ (r : Fin 32768) (e : Fin 2048), i = ix2 r e := ⟨i 0, i 1, eq_ix2 i⟩
  rw [Cert.Reference2Ideal.Mlp.result_at]
  have hp : Cert.Kernel2Ideal.Value.pt6Of (ix2 r e) = 8 * (r.val / 512) + 7 := by
    show 8 * (1 * (r.val / 512 - 0) + 1 * (e.val / 2048 - 0)) + 7 = _
    omega
  have hlt : Cert.Kernel2Ideal.Value.pt6Of (ix2 r e) < cfg0.N := lt_of_lt_of_eq (by rw [hp]; omega) N_0.symm
  have hl : Cert.Kernel2Ideal.Value.loc6Of (ix2 r e) = ix2 (⟨r.val % 512, by omega⟩ : Fin 512) e := by
    funext a
    match a with
    | ⟨0, _⟩ => rfl
    | ⟨1, _⟩ => exact Fin.ext (Nat.mod_eq_of_lt e.isLt)
  unfold G6
  rw [dif_pos hlt, ← outsAt0_sweep m c _ hlt, hl]
  refine block_at m c ⟨_, hlt⟩ ?_ ⟨r.val % 512, by omega⟩ e ⟨r.val / 4096, by omega⟩ ?_ r ?_
  · show Cert.Kernel2Ideal.Value.pt6Of (ix2 r e) % 8 = 7
    rw [hp]; omega
  · show r.val / 4096 = Cert.Kernel2Ideal.Value.pt6Of (ix2 r e) / 64
    rw [hp]; omega
  · show r.val = Cert.Kernel2Ideal.Value.pt6Of (ix2 r e) / 8 * 512 + r.val % 512
    rw [hp]; omega

/-- The claim: from agreeing arguments both programs end at the same result. -/
theorem algebraic : Cert.algebraic_Kernel2Ideal_Reference2Ideal := by
  intro m g m' g' _ hag
  refine ⟨fun c => G6 m c, Cert.Kernel2Ideal.Value.run m g, ?_⟩
  refine (θ_run _ _ _).mono (fun r h c => ?_) (Cert.Reference2Ideal.Value.run m' g')
  obtain ⟨h0, h1⟩ := h c
  refine ⟨h0.trans ?_, h1⟩
  obtain ⟨a0, a1, a2, a3, a4, a5⟩ := hag c
  rw [Cert.Reference2Ideal.Read.val_main_v47_eq m' c, a0, a1, a2, a3, a4, a5]
  exact (final_eq m c).symm

end Cert.Mlp

end
-- ==== Proof.Attn.Steps.lean ====
/-
  What one grid point of the attention kernel leaves in its two scratch buffers and in its output block, over the point's
  input blocks: the first of the sixteen points of a (sequence, head pair) stores the rotated keys and the values with the
  cached ones behind them, every point writes its 256 query rows against them.
-/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pointwise

/-- The lane numbers. -/
abbrev lanes : IVec S1x128 32 := iota .tc S1x128 32 [1] iota_S1x128_d1_w32

/-- The stored keys: 4096 rotated rows, then the 512 cached ones. -/
def keysOf (k cosK sinK : FVec Ideal S4096x128 .f32) (ck : FVec Ideal S1x512x128 .f32) : FVec Ideal S4608x128 .bf16 :=
  fun i => if h : (i 0).val < 4096 then k0_pay2 (F := Ideal) k cosK sinK (ix2 ⟨(i 0).val, h⟩ (i 1))
    else k0_pay5 (F := Ideal) ck (ix2 ⟨(i 0).val - 4096, by have h4 : (i 0).val < 4608 := (i 0).isLt; omega⟩ (i 1))

/-- The stored values: the 4096 rows, then the 512 cached ones. -/
def valsOf (v : FVec Ideal S4096x128 .f32) (cv : FVec Ideal S1x512x128 .f32) : FVec Ideal S4608x128 .bf16 :=
  fun i => if h : (i 0).val < 4096 then k0_pay4 (F := Ideal) (k0_pay3 v) (ix2 ⟨(i 0).val, h⟩ (i 1))
    else k0_pay6 (F := Ideal) cv (ix2 ⟨(i 0).val - 4096, by have h4 : (i 0).val < 4608 := (i 0).isLt; omega⟩ (i 1))

/-- The four attended blocks of a point and their mixture, before the normalisation. -/
abbrev mixedBlock (u : FVec Ideal S256x128 .f32) (lam : FVec Ideal S8x128 .f32) (K V : FVec Ideal S4608x128 .bf16) :
    FVec Ideal S256x128 .f32 :=
  k0_pay21 (F := Ideal) lanes (k0_pay11 (k0_pay9 u lanes K) (k0_pay10 u lanes K V)) (k0_pay12 u lanes K V)
    (k0_pay14 u lanes K V 32#32 k0_pay13) (k0_pay17 u lanes K V 32#32 (k0_pay15 lanes) (k0_pay16 lanes))
    (k0_pay18 lam) (k0_pay19 lam)

/-- The block a point writes. -/
abbrev outBlock (u : FVec Ideal S256x128 .f32) (lam : FVec Ideal S8x128 .f32) (ng : FVec Ideal S1x128 .f32)
    (K V : FVec Ideal S4608x128 .bf16) : FVec Ideal S256x128 .bf16 :=
  k0_pay1 (F := Ideal) (k0_pay20 lanes) (mixedBlock u lam K V)
    (k0_pay23 lanes (k0_pay11 (k0_pay9 u lanes K) (k0_pay10 u lanes K V)) (k0_pay12 u lanes K V)
      (k0_pay14 u lanes K V 32#32 k0_pay13) (k0_pay17 u lanes K V 32#32 (k0_pay15 lanes) (k0_pay16 lanes))
      (k0_pay18 lam) (k0_pay19 lam))
    (k0_pay24 lanes (k0_pay11 (k0_pay9 u lanes K) (k0_pay10 u lanes K V)) (k0_pay12 u lanes K V)
      (k0_pay14 u lanes K V 32#32 k0_pay13) (k0_pay17 u lanes K V 32#32 (k0_pay15 lanes) (k0_pay16 lanes))
      (k0_pay18 lam) (k0_pay19 lam)) ng

/-- A load of a whole scratch buffer after stores that began from nothing reads what the stores hold. -/
theorem readCov_all {sig : RefSig} {κ : Kind} {sp : Space} (v : View sig κ sp S4608x128 .bf16)
    (L : List (View.Piece (Elt Ideal) S4608x128 .bf16)) (inb) :
    v.readCov L (Rect.unit (s := S4608x128) ![0, 0] ![4608, 128] inb).toLoadRect = View.canon L := by
  rw [View.readCov_eq_canon']
  funext j
  refine congrArg (View.canon L) (funext fun a => Fin.ext ?_)
  match a with
  | ⟨0, _⟩ => show 0 + 1 * (j 0).val = (j 0).val; omega
  | ⟨1, _⟩ => show 0 + 1 * (j 1).val = (j 1).val; omega

/-- Two indices with the same coordinates. -/
theorem idx_ext {a b : ℕ} {x y : (⟨2, ![a, b]⟩ : Shape).Idx} (h0 : (x 0).val = (y 0).val) (h1 : (x 1).val = (y 1).val) :
    x = y := funext fun i => Fin.ext (match i with
    | ⟨0, _⟩ => h0
    | ⟨1, _⟩ => h1)

variable (m : (ℓ : Loc nD τ sig) → Buf (Elt Ideal) ℓ) (c : Dev nD)

/-- First point of a (sequence, head pair): the keys. -/
theorem first_keys (t : Fin cfg0.N) (h0 : t.val % 16 = 0) :
    (outsAt0 m c t.val t.isLt).2.1 = keysOf (iblk m c 1 t) (iblk m c 7 t) (iblk m c 8 t) (iblk m c 3 t) := by
  funext y
  obtain ⟨j, n, rfl⟩ : ∃ (j : Fin 4608) (n : Fin 128), y = ix2 j n := ⟨y 0, y 1, eq_ix2 y⟩
  rw [outsAt0_A m c t h0]
  frame_out
  unfold keysOf
  canon_tiles x h using (View.cover_of_tiledBy _ ![512, 128] (by sl_kernel_rfl) _)
  · rw [dif_neg (show ¬(ix2 j n 0).val < 4096 by omega)]
    exact congrArg _ (idx_ext (show (x 0).val = (ix2 j n 0).val - 4096 by omega) (show (x 1).val = (ix2 j n 1).val by omega))
  · rw [dif_pos (show (ix2 j n 0).val < 4096 by omega)]
    exact congrArg _ (idx_ext (show (x 0).val = (ix2 j n 0).val by omega) (show (x 1).val = (ix2 j n 1).val by omega))

/-- First point of a (sequence, head pair): the values. -/
theorem first_vals (t : Fin cfg0.N) (h0 : t.val % 16 = 0) :
    (outsAt0 m c t.val t.isLt).2.2 = valsOf (iblk m c 2 t) (iblk m c 4 t) := by
  funext y
  obtain ⟨j, n, rfl⟩ : ∃ (j : Fin 4608) (n : Fin 128), y = ix2 j n := ⟨y 0, y 1, eq_ix2 y⟩
  rw [outsAt0_A m c t h0]
  frame_out
  unfold valsOf
  canon_tiles x h using (View.cover_of_tiledBy _ ![512, 128] (by sl_kernel_rfl) _)
  · rw [dif_neg (show ¬(ix2 j n 0).val < 4096 by omega)]
    exact congrArg _ (idx_ext (show (x 0).val = (ix2 j n 0).val - 4096 by omega) (show (x 1).val = (ix2 j n 1).val by omega))
  · rw [dif_pos (show (ix2 j n 0).val < 4096 by omega)]
    exact congrArg _ (idx_ext (show (x 0).val = (ix2 j n 0).val by omega) (show (x 1).val = (ix2 j n 1).val by omega))

/-- What the point before `t` left. -/
abbrev before (t : Fin cfg0.N) := outsAt0 m c (t.val - 1) (Nat.lt_of_le_of_lt (Nat.sub_le _ _) t.isLt)

/-- The later points keep the keys … -/
theorem next_keys (t : Fin cfg0.N) (h0 : ¬t.val % 16 = 0) :
    (outsAt0 m c t.val t.isLt).2.1 = (before m c t).2.1 := by
  rw [outsAt0_B m c t h0]; rfl

/-- … and the values. -/
theorem next_vals (t : Fin cfg0.N) (h0 : ¬t.val % 16 = 0) :
    (outsAt0 m c t.val t.isLt).2.2 = (before m c t).2.2 := by
  rw [outsAt0_B m c t h0]; rfl

/-- Every point writes its block against the keys and values held after it. -/
theorem out_eq (t : Fin cfg0.N) :
    (outsAt0 m c t.val t.isLt).1
      = outBlock (k0_pay7 (iblk m c 0 t) (iblk m c 5 t) (iblk m c 6 t)) (iblk m c 9 t) (iblk m c 10 t)
        (outsAt0 m c t.val t.isLt).2.1 (outsAt0 m c t.val t.isLt).2.2 := by
  by_cases h0 : t.val % 16 = 0
  · rw [outsAt0_A m c t h0]
    frame_out
    simp only [readCov_all]
  · rw [next_keys m c t h0, next_vals m c t h0, outsAt0_B m c t h0]
    frame_out
    simp only [(Memref.isWhole_whole _).read_unread]

end Cert.KernelIdeal.Attn

end
-- ==== Proof.Attn.Spec.lean ====
/-
  Differential attention of one query row and head over its keys and values, as scalars: two softmax attentions, the
  second weighed by lambda and taken off the first, and a root mean square normalisation of the head's 64 outputs.
-/
module

public import Idealize.ShloMosaic.Lib.Pointwise

@[expose] public section

noncomputable section

namespace Cert.Attn

open Idealize.ShloMosaic Idealize.ShloMosaic.Pointwise

/-- The score of a query against key `j`: the scaled query's inner product with the key. -/
def score (q : Fin 32 → EReal) (K : Fin 4608 → Fin 32 → EReal) (j : Fin 4608) : EReal :=
  ∑ d, q d * Ideal.ofBits .f32 1043662067#32 * K j d

/-- The greatest score. -/
def top (s : Fin 4608 → EReal) : EReal := Finset.univ.fold max (Ideal.ofBits .f32 4286578688#32) s

/-- The weight of key `j` before the division by the total. -/
def weight (s : Fin 4608 → EReal) (j : Fin 4608) : EReal := Ideal.exp (s j - top s)

/-- Softmax attention on one column of the values. -/
def attended (s : Fin 4608 → EReal) (v : Fin 4608 → EReal) : EReal :=
  Ideal.div (∑ j, weight s j * v j) (∑ j, weight s j)

/-- The weight of the second attention. -/
def lambda (lp : Fin 4 → Fin 32 → EReal) : EReal :=
  Ideal.exp (∑ d, lp 0 d * lp 1 d) - Ideal.exp (∑ d, lp 2 d * lp 3 d) + Ideal.ofBits .f32 1052116297#32

/-- The first attention less lambda times the second. -/
def mixed (s0 s1 : Fin 4608 → EReal) (lam : EReal) (v : Fin 4608 → EReal) : EReal :=
  attended s0 v - lam * attended s1 v

/-- The normalised row of a head, at one column. -/
def normed (o : Fin 64 → EReal) (g : EReal) (d : Fin 64) : EReal :=
  o d * Ideal.rsqrt ((∑ e, o e * o e) * Ideal.ofBits .f32 1015021568#32 + Ideal.ofBits .f32 897988541#32) * g
    * Ideal.ofBits .f32 1059388764#32

/-- A rotary embedding of 32 numbers by sixteen angles: number `d` of the first half turns with number `d + 16`. -/
def roped (x : Fin 32 → EReal) (cos sin : Fin 16 → EReal) (d : Fin 32) : EReal :=
  if h : d.val < 16 then x d * cos ⟨d.val, h⟩ - x ⟨d.val + 16, by omega⟩ * sin ⟨d.val, h⟩
  else x ⟨d.val - 16, by omega⟩ * sin ⟨d.val - 16, by omega⟩ + x d * cos ⟨d.val - 16, by omega⟩

/-- The angle of position `l` at frequency `j`: the first eight frequencies turn with the row of the 64-column grid the
    position lies in, the other eight with its column. -/
def angle (l j : ℕ) : EReal :=
  if h : j < 8 then
    FloatOps.sitofp (F := Ideal) FTy.f32 (BitVec.ofNat 32 (l / 64))
      * Ideal.pow (Ideal.ofBits FTy.f32 1176256512#32)
        (Ideal.div (-FloatOps.sitofp (F := Ideal) FTy.f32 (BitVec.ofNat 32 j)) (Ideal.ofBits FTy.f32 1090519040#32))
  else
    FloatOps.sitofp (F := Ideal) FTy.f32 (BitVec.ofNat 32 (l % 64))
      * Ideal.pow (Ideal.ofBits FTy.f32 1176256512#32)
        (Ideal.div (-FloatOps.sitofp (F := Ideal) FTy.f32 (BitVec.ofNat 32 (j - 8))) (Ideal.ofBits FTy.f32 1090519040#32))

/-- The rotary embedding at position `l`. -/
abbrev ropedAt (x : Fin 32 → EReal) (l : ℕ) : Fin 32 → EReal :=
  roped x (fun j => Ideal.cos (angle l j.val)) fun j => Ideal.sin (angle l j.val)

/-! The layer over its arguments: sequence `b`, head `H`, half `two` of the head's query and key, position `l`. -/

section Layer

variable (p : Fin 32768 → Fin 4608 → EReal) (ck cv : Fin 8 → Fin 512 → Fin 8 → Fin 64 → EReal)
  (lp : Fin 4 → Fin 32 → EReal) (ng : Fin 64 → EReal) (b H : Fin 8)

/-- Row `l` of sequence `b`. -/
abbrev rowOf (l : Fin 4096) : Fin 32768 := ⟨b.val * 4096 + l.val, by omega⟩

/-- The rotated query. -/
def queryAt (two : Fin 2) (l : Fin 4096) : Fin 32 → EReal :=
  ropedAt (fun e => p (rowOf b l) ⟨1536 + H.val * 64 + two.val * 32 + e.val, by omega⟩) l.val

/-- The keys: the rotated ones of the sequence, then the cached ones. -/
def keyAt (two : Fin 2) (j : Fin 4608) (d : Fin 32) : EReal :=
  if h : j.val < 4096 then
    ropedAt (fun e => p (rowOf b ⟨j.val, h⟩) ⟨2048 + H.val * 64 + two.val * 32 + e.val, by omega⟩) j.val d
  else ck b ⟨j.val - 4096, by omega⟩ H ⟨two.val * 32 + d.val, by omega⟩

/-- The values: those of the sequence, then the cached ones. -/
def valAt (d : Fin 64) (j : Fin 4608) : EReal :=
  if h : j.val < 4096 then p (rowOf b ⟨j.val, h⟩) ⟨2560 + H.val * 64 + d.val, by omega⟩
  else cv b ⟨j.val - 4096, by omega⟩ H d

/-- The scores of one half of the head. -/
def scores (two : Fin 2) (l : Fin 4096) : Fin 4608 → EReal := score (queryAt p b H two l) (keyAt p ck b H two)

/-- The head's row before the normalisation. -/
def headRow (l : Fin 4096) (d : Fin 64) : EReal :=
  mixed (scores p ck b H 0 l) (scores p ck b H 1 l) (lambda lp) (valAt p cv b H d)

/-- The layer's result. -/
def layer (l : Fin 4096) (d : Fin 64) : EReal := normed (headRow p ck cv lp b H l) (ng d) d

end Layer

end Cert.Attn

end
-- ==== Proof.Attn.Payload.lean ====
/-
  The attention kernel's payloads at an index: masked products are one head group's scores, the quotient of the two
  products is that group's attention, and the lower and upper 64 lanes are the pair's two heads.
-/
module

public import proofs.«01_k».proof.Proof.Attn.Steps
public import proofs.«01_k».proof.Proof.Attn.Spec

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pointwise Cert.Attn

/-- Lane `n` of group `g`. -/
abbrev lane (g : Fin 4) (d : Fin 32) : Fin 128 := ⟨g.val * 32 + d.val, by omega⟩

/-- The group number the kernel computes from a lane number. -/
def groupWord (n : Fin 128) : BitVec 32 :=
  Scalar.select
    (IntOp.andi
      (IntOp.cmpi CmpIPredicate.ne
        (IntOp.subi (BitVec.setWidth 32 (IntOp.cmpi CmpIPredicate.sgt (BitVec.ofNat 32 n.val) 0#32))
          (BitVec.setWidth 32 (IntOp.cmpi CmpIPredicate.slt (BitVec.ofNat 32 n.val) 0#32)))
        (Scalar.subi (Scalar.extui (Scalar.cmpi CmpIPredicate.sgt 32#32 0#32))
          (Scalar.extui (Scalar.cmpi CmpIPredicate.slt 32#32 0#32))))
      (IntOp.cmpi CmpIPredicate.ne (IntOp.remsi ArithUnit.vector (BitVec.ofNat 32 n.val) 32#32) 0#32))
    (IntOp.subi (IntOp.divsi ArithUnit.vector (BitVec.ofNat 32 n.val) 32#32) 1#32)
    (IntOp.divsi ArithUnit.vector (BitVec.ofNat 32 n.val) 32#32)

theorem groupWord_eq : ∀ n : Fin 128, groupWord n = BitVec.ofNat 32 (n.val / 32) := by decide +kernel

/-- A selection on the group number keeps the products of the group's 32 lanes. -/
theorem masked_sum (g : Fin 4) (f : Fin 128 → EReal) :
    (∑ x, Scalar.select (IntOp.cmpi CmpIPredicate.eq (groupWord x) (BitVec.ofNat 32 g.val)) (f x) 0)
      = ∑ d : Fin 32, f (lane g d) := by
  have hbit : ∀ (g : Fin 4) (x : Fin 128),
      IntOp.cmpi CmpIPredicate.eq (groupWord x) (BitVec.ofNat 32 g.val) = if x.val / 32 = g.val then 1#1 else 0#1 := by
    decide +kernel
  have hsel : ∀ x : Fin 128,
      Scalar.select (IntOp.cmpi CmpIPredicate.eq (groupWord x) (BitVec.ofNat 32 g.val)) (f x) 0
        = if x.val / 32 = g.val then f x else 0 := by
    intro x
    rw [hbit]
    split <;> rfl
  simp only [hsel]
  rw [Fin.sum_univ_tiles 4 32 rfl]
  rw [Finset.sum_eq_single g]
  · refine Finset.sum_congr rfl fun d _ => ?_
    rw [if_pos (by show (g.val * 32 + d.val) / 32 = g.val; omega)]
  · intro b _ hb
    refine Finset.sum_eq_zero fun d _ => ?_
    rw [if_neg (by
      show ¬(b.val * 32 + d.val) / 32 = g.val
      intro h; exact hb (Fin.ext (by omega)))]
  · intro h; exact absurd (Finset.mem_univ _) h

/-- The scores of group `g` of row `r` of a query block already scaled. -/
abbrev rowScore (u : FVec Ideal S256x128 .f32) (K : FVec Ideal S4608x128 .bf16) (g : Fin 4) (r : Fin 256) (j : Fin 4608) :
    EReal := ∑ d : Fin 32, u (ix2 r (lane g d)) * K (ix2 j (lane g d))

variable (u : FVec Ideal S256x128 .f32) (K V : FVec Ideal S4608x128 .bf16) (lam : FVec Ideal S8x128 .f32)
  (ng : FVec Ideal S1x128 .f32)

theorem weight_at (r : Fin 256) (j : Fin 4608) :
    k0_pay8 (F := Ideal) u lanes K (ix2 r j) = weight (rowScore u K 0 r) j := by
  have hs := fun j : Fin 4608 => masked_sum 0 fun x => u (ix2 r x) * K (ix2 j x)
  unfold groupWord at hs
  unfold weight top rowScore
  simp only [← hs]
  pointwise [k0_pay8]

theorem attended0 (r : Fin 256) (n : Fin 128) :
    k0_pay11 (F := Ideal) (k0_pay9 u lanes K) (k0_pay10 u lanes K V) (ix2 r n)
      = attended (rowScore u K 0 r) (fun j => V (ix2 j n)) := by
  have hw := weight_at u K r
  unfold attended
  simp only [← hw]
  pointwise [k0_pay11, k0_pay9, k0_pay10]

theorem attended1 (r : Fin 256) (n : Fin 128) :
    k0_pay12 (F := Ideal) u lanes K V (ix2 r n) = attended (rowScore u K 1 r) (fun j => V (ix2 j n)) := by
  have hs := fun j : Fin 4608 => masked_sum 1 fun x => u (ix2 r x) * K (ix2 j x)
  unfold groupWord at hs
  unfold attended weight top rowScore
  simp only [← hs]
  pointwise [k0_pay12]

theorem attended2 (r : Fin 256) (n : Fin 128) :
    k0_pay14 (F := Ideal) u lanes K V 32#32 k0_pay13 (ix2 r n) = attended (rowScore u K 2 r) (fun j => V (ix2 j n)) := by
  have hs := fun j : Fin 4608 => masked_sum 2 fun x => u (ix2 r x) * K (ix2 j x)
  unfold groupWord at hs
  unfold attended weight top rowScore
  simp only [← hs]
  pointwise [k0_pay14, k0_pay13]

theorem attended3 (r : Fin 256) (n : Fin 128) :
    k0_pay17 (F := Ideal) u lanes K V 32#32 (k0_pay15 lanes) (k0_pay16 lanes) (ix2 r n)
      = attended (rowScore u K 3 r) (fun j => V (ix2 j n)) := by
  have hs := fun j : Fin 4608 => masked_sum 3 fun x => u (ix2 r x) * K (ix2 j x)
  unfold groupWord at hs
  unfold attended weight top rowScore
  simp only [← hs]
  pointwise [k0_pay17, k0_pay15, k0_pay16]

/-- Lane `d` of the pair's head `h`. -/
abbrev half (h : Fin 2) (d : Fin 64) : Fin 128 := ⟨h.val * 64 + d.val, by omega⟩

/-- The selection of the lower 64 lanes. -/
theorem lower_bit : ∀ n : Fin 128,
    IntOp.cmpi CmpIPredicate.slt (BitVec.ofNat 32 n.val) 64#32 = if n.val < 64 then 1#1 else 0#1 := by decide +kernel

theorem lower_select (n : Fin 128) (a b : EReal) :
    Scalar.select (IntOp.cmpi CmpIPredicate.slt (BitVec.ofNat 32 n.val) 64#32) a b = if n.val < 64 then a else b := by
  rw [lower_bit]
  split <;> rfl

/-- Lambda, from the block holding its four vectors. -/
def blockLambda : EReal :=
  Ideal.exp (∑ n : Fin 128, lam (ix2 0 n) * lam (ix2 1 n)) - Ideal.exp (∑ n : Fin 128, lam (ix2 2 n) * lam (ix2 3 n))
    + Ideal.ofBits .f32 1052116297#32

/-- The mixture of head `h` of the pair. -/
abbrev rowMixed (h : Fin 2) (r : Fin 256) (d : Fin 64) : EReal :=
  mixed (rowScore u K ⟨2 * h.val, by omega⟩ r) (rowScore u K ⟨2 * h.val + 1, by omega⟩ r) (blockLambda lam)
    (fun j => V (ix2 j (half h d)))

theorem mixed_at (h : Fin 2) (r : Fin 256) (d : Fin 64) :
    mixedBlock u lam K V (ix2 r (half h d)) = rowMixed u K V lam h r d := by
  have h0 := attended0 u K V r (half h d)
  have h1 := attended1 u K V r (half h d)
  have h2 := attended2 u K V r (half h d)
  have h3 := attended3 u K V r (half h d)
  unfold mixedBlock rowMixed mixed blockLambda
  generalize hn : half h d = n at h0 h1 h2 h3 ⊢
  pointwise [k0_pay21, k0_pay18, k0_pay19, k0_pay20]
  rw [lower_select, h0, h1, h2, h3]
  simp only [Finset.univ_unique, Finset.sum_singleton]
  clear h0 h1 h2 h3
  subst hn
  obtain rfl | rfl : h = 0 ∨ h = 1 := by omega
  · rw [if_pos (show (half 0 d).val < 64 by show 0 * 64 + d.val < 64; omega)]
    rfl
  · rw [if_neg (show ¬(half 1 d).val < 64 by show ¬1 * 64 + d.val < 64; omega)]
    rfl

/-- A sum over the 128 lanes, head by head. -/
theorem sum_halves (f : Fin 128 → EReal) : ∑ n, f n = ∑ d, f (half 0 d) + ∑ d, f (half 1 d) := by
  rw [Fin.sum_univ_tiles 2 64 rfl, Fin.sum_univ_two]

theorem lo (e : Fin 64) : (half 0 e).val < 64 := by show 0 * 64 + e.val < 64; omega
theorem hi (e : Fin 64) : ¬(half 1 e).val < 64 := by show ¬1 * 64 + e.val < 64; omega

theorem store_at (a : FVec Ideal S256x128 .f32) (x y : FVec Ideal S256x1 .f32) (r : Fin 256) (n : Fin 128) :
    k0_pay1 (F := Ideal) (k0_pay20 lanes) a x y ng (ix2 r n)
      = a (ix2 r n) * (if n.val < 64 then x (ix2 r 0) else Ideal.rsqrt (y (ix2 r 0))) * ng (ix2 0 n)
        * Ideal.ofBits .f32 1059388764#32 := by
  pointwise [k0_pay1, k0_pay20]
  rw [lower_select]

variable (a0 a1 a2 a3 : FVec Ideal S256x128 .f32) (l0 : FVec Ideal S8x128 .f32) (l1 : FVec Ideal S1 .f32)

/-- The reciprocal root of the mean square of the lower 64 lanes … -/
theorem lower_root_at (r : Fin 256) :
    k0_pay23 (F := Ideal) lanes a0 a1 a2 a3 l0 l1 (ix2 r 0)
      = Ideal.rsqrt ((∑ e : Fin 64, k0_pay21 (F := Ideal) lanes a0 a1 a2 a3 l0 l1 (ix2 r (half 0 e))
          * k0_pay21 (F := Ideal) lanes a0 a1 a2 a3 l0 l1 (ix2 r (half 0 e))) * Ideal.ofBits .f32 1015021568#32
            + Ideal.ofBits .f32 897988541#32) := by
  pointwise [k0_pay23, k0_pay20, k0_pay22]
  simp only [lower_select, sum_halves, if_pos (lo _), if_neg (hi _), Finset.sum_const_zero, add_zero]

/-- … and the mean square of the upper. -/
theorem upper_mean_at (r : Fin 256) :
    k0_pay24 (F := Ideal) lanes a0 a1 a2 a3 l0 l1 (ix2 r 0)
      = (∑ e : Fin 64, k0_pay21 (F := Ideal) lanes a0 a1 a2 a3 l0 l1 (ix2 r (half 1 e))
          * k0_pay21 (F := Ideal) lanes a0 a1 a2 a3 l0 l1 (ix2 r (half 1 e))) * Ideal.ofBits .f32 1015021568#32
            + Ideal.ofBits .f32 897988541#32 := by
  pointwise [k0_pay24, k0_pay20, k0_pay22]
  simp only [lower_select, sum_halves, if_pos (lo _), if_neg (hi _), Finset.sum_const_zero, zero_add]

theorem out_at (h : Fin 2) (r : Fin 256) (d : Fin 64) :
    outBlock u lam ng K V (ix2 r (half h d)) = normed (rowMixed u K V lam h r) (ng (ix2 0 (half h d))) d := by
  have hm := mixed_at u K V lam
  refine (store_at ng _ _ _ r (half h d)).trans ?_
  rw [lower_root_at, upper_mean_at]
  simp only [hm]
  clear hm
  unfold normed
  obtain rfl | rfl : h = 0 ∨ h = 1 := by omega
  · rw [if_pos (lo d)]
  · rw [if_neg (hi d)]

end Cert.KernelIdeal.Attn

end
-- ==== Proof.Attn.Blocks.lean ====
/-
  The blocks of the attention kernel's windows at a grid point, over the arguments: point `t` is query block `t % 16` of
  head pair `t / 16 % 4` of sequence `t / 64`.
-/
module

public import proofs.«01_k».proof.Proof.Attn.Payload
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pointwise Cert.Attn

variable (m : (ℓ : Loc nD τ sig) → Buf (Elt Ideal) ℓ) (c : Dev nD)

/-- The arguments, at their literal types. -/
abbrev inP : FVec Ideal S32768x4608 .f32 := m ((c : Thread nD τ).loc main_arg0)
abbrev inCk : FVec Ideal S8x512x8x64 .f32 := m ((c : Thread nD τ).loc main_arg1)
abbrev inCv : FVec Ideal S8x512x8x64 .f32 := m ((c : Thread nD τ).loc main_arg2)
abbrev inL : FVec Ideal S4x32 .f32 := m ((c : Thread nD τ).loc main_arg3)
abbrev inNg : FVec Ideal S64 .f32 := m ((c : Thread nD τ).loc main_arg4)

/-- The index maps at every grid point. -/
theorem idx : ∀ t : Fin cfg0.N,
    win0_0.index t = ![t.val / 64 * 16 + t.val % 16, 12 + t.val / 16 % 4] ∧ win0_1.index t = ![t.val / 64, 16 + t.val / 16 % 4]
      ∧ win0_2.index t = ![t.val / 64, 20 + t.val / 16 % 4] ∧ win0_3.index t = ![t.val / 64, 0, t.val / 16 % 4]
      ∧ win0_4.index t = ![t.val / 64, 0, t.val / 16 % 4] ∧ win0_5.index t = ![t.val % 16, 0]
      ∧ win0_6.index t = ![t.val % 16, 0] ∧ win0_7.index t = ![0, 0] ∧ win0_8.index t = ![0, 0]
      ∧ win0_9.index t = ![0, 0] ∧ win0_10.index t = ![0, 0]
      ∧ win0_11.index t = ![t.val / 64 * 16 + t.val % 16, t.val / 16 % 4] ∧ t.val < 512 :=
  (by decide +kernel : ∀ t : Fin grid0.N, _)

theorem blkQ (t : Fin cfg0.N) (r : Fin 256) (n : Fin 128) (R : Fin 32768) (C : Fin 4608)
    (hR : R.val = (t.val / 64 * 16 + t.val % 16) * 256 + r.val) (hC : C.val = (12 + t.val / 16 % 4) * 128 + n.val) :
    (iblk m c 0 t : FVec Ideal S256x128 .f32) (ix2 r n) = inP m c (ix2 R C) := by
  blk_ext [iblk, V, idx t]

theorem blkK (t : Fin cfg0.N) (l : Fin 4096) (n : Fin 128) (R : Fin 32768) (C : Fin 4608)
    (hR : R.val = t.val / 64 * 4096 + l.val) (hC : C.val = (16 + t.val / 16 % 4) * 128 + n.val) :
    (iblk m c 1 t : FVec Ideal S4096x128 .f32) (ix2 l n) = inP m c (ix2 R C) := by
  blk_ext [iblk, V, idx t]

theorem blkV (t : Fin cfg0.N) (l : Fin 4096) (n : Fin 128) (R : Fin 32768) (C : Fin 4608)
    (hR : R.val = t.val / 64 * 4096 + l.val) (hC : C.val = (20 + t.val / 16 % 4) * 128 + n.val) :
    (iblk m c 2 t : FVec Ideal S4096x128 .f32) (ix2 l n) = inP m c (ix2 R C) := by
  blk_ext [iblk, V, idx t]

set_option maxHeartbeats 1600000 in
theorem blkCk (t : Fin cfg0.N) (l : Fin 512) (n : Fin 128) (b H : Fin 8) (d : Fin 64)
    (hb : b.val = t.val / 64) (hH : H.val = t.val / 16 % 4 * 2 + n.val / 64) (hd : d.val = n.val % 64) :
    (iblk m c 3 t : FVec Ideal S1x512x128 .f32) (ix3 0 l n) = inCk m c (ix4 b l H d) := by
  blk_simp [iblk, V, idx t]
  simp only [hostOps0, hostOps0_1, hostOps0_2, List.flatten_cons, List.flatten_nil, List.cons_append, List.nil_append,
    List.append_nil]
  entry_read
  pointwise
  blk_ext [idx t]

set_option maxHeartbeats 1600000 in
theorem blkCv (t : Fin cfg0.N) (l : Fin 512) (n : Fin 128) (b H : Fin 8) (d : Fin 64)
    (hb : b.val = t.val / 64) (hH : H.val = t.val / 16 % 4 * 2 + n.val / 64) (hd : d.val = n.val % 64) :
    (iblk m c 4 t : FVec Ideal S1x512x128 .f32) (ix3 0 l n) = inCv m c (ix4 b l H d) := by
  blk_simp [iblk, V, idx t]
  simp only [hostOps0, hostOps0_1, hostOps0_2, List.flatten_cons, List.flatten_nil, List.cons_append, List.nil_append,
    List.append_nil]
  entry_read
  pointwise
  blk_ext [idx t]

/-! The tables: the cosine of a lane's angle, and its sine, negated in the first sixteen lanes of each group. -/

theorem blkCosQ (t : Fin cfg0.N) (r : Fin 256) (n : Fin 128) :
    (iblk m c 5 t : FVec Ideal S256x128 .f32) (ix2 r n)
      = if h : n.val % 32 < 16 then Ideal.cos (angle (t.val % 16 * 256 + r.val) (n.val % 32))
        else Ideal.cos (angle (t.val % 16 * 256 + r.val) (n.val % 32 - 16)) := by
  blk_simp [iblk, V, idx t]
  simp only [hostOps0, hostOps0_1, hostOps0_2, List.flatten_cons, List.flatten_nil, List.cons_append, List.nil_append,
    List.append_nil]
  entry_read
  pointwise
  blk_simp [idx t]
  rfl

theorem blkSinQ (t : Fin cfg0.N) (r : Fin 256) (n : Fin 128) :
    (iblk m c 6 t : FVec Ideal S256x128 .f32) (ix2 r n)
      = if h : n.val % 32 < 16 then -Ideal.sin (angle (t.val % 16 * 256 + r.val) (n.val % 32))
        else Ideal.sin (angle (t.val % 16 * 256 + r.val) (n.val % 32 - 16)) := by
  blk_simp [iblk, V, idx t]
  simp only [hostOps0, hostOps0_1, hostOps0_2, List.flatten_cons, List.flatten_nil, List.cons_append, List.nil_append,
    List.append_nil]
  entry_read
  pointwise
  blk_simp [idx t]
  rfl

theorem blkCosK (t : Fin cfg0.N) (r : Fin 4096) (n : Fin 128) :
    (iblk m c 7 t : FVec Ideal S4096x128 .f32) (ix2 r n)
      = if h : n.val % 32 < 16 then Ideal.cos (angle r.val (n.val % 32))
        else Ideal.cos (angle r.val (n.val % 32 - 16)) := by
  blk_simp [iblk, V, idx t]
  simp only [hostOps0, hostOps0_1, hostOps0_2, List.flatten_cons, List.flatten_nil, List.cons_append, List.nil_append,
    List.append_nil]
  entry_read
  pointwise
  blk_simp [idx t]
  rfl

theorem blkSinK (t : Fin cfg0.N) (r : Fin 4096) (n : Fin 128) :
    (iblk m c 8 t : FVec Ideal S4096x128 .f32) (ix2 r n)
      = if h : n.val % 32 < 16 then -Ideal.sin (angle r.val (n.val % 32))
        else Ideal.sin (angle r.val (n.val % 32 - 16)) := by
  blk_simp [iblk, V, idx t]
  simp only [hostOps0, hostOps0_1, hostOps0_2, List.flatten_cons, List.flatten_nil, List.cons_append, List.nil_append,
    List.append_nil]
  entry_read
  pointwise
  blk_simp [idx t]
  rfl

theorem blkL (t : Fin cfg0.N) (a : Fin 8) (n : Fin 128) :
    (iblk m c 9 t : FVec Ideal S8x128 .f32) (ix2 a n)
      = if h : a.val < 4 ∧ n.val < 32 then inL m c (ix2 ⟨a.val, h.1⟩ ⟨n.val, h.2⟩) else 0 := by
  blk_simp [iblk, V, idx t]
  simp only [hostOps0, hostOps0_1, hostOps0_2, List.flatten_cons, List.flatten_nil, List.cons_append, List.nil_append,
    List.append_nil]
  entry_read
  simp only [StableHlo.TRef.toBuf, StableHlo.TRef.ofBuf, cast_cast, cast_eq]
  pointwise
  blk_simp [idx t]
  have hz : FloatOps.sitofp (F := Ideal) FTy.f32 0#32 = (0 : EReal) := by
    show (((0#32 : BitVec 32).toInt : ℝ) : EReal) = 0
    simp
  rw [hz]

theorem blkNg (t : Fin cfg0.N) (n : Fin 128) (d : Fin 64) (hd : d.val = n.val % 64) :
    (iblk m c 10 t : FVec Ideal S1x128 .f32) (ix2 0 n) = inNg m c (ix1 d) := by
  blk_simp [iblk, V, idx t]
  simp only [hostOps0, hostOps0_1, hostOps0_2, List.flatten_cons, List.flatten_nil, List.cons_append, List.nil_append,
    List.append_nil]
  entry_read
  pointwise
  blk_ext [idx t]

end Cert.KernelIdeal.Attn

end
-- ==== Proof.Attn.Rope.lean ====
/-
  The rotary embedding as the kernel writes it, by rotating all 128 lanes by sixteen both ways, is the embedding of each
  32-lane group; the stored keys and values over the arguments.
-/
module

public import proofs.«01_k».proof.Proof.Attn.Blocks

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pointwise Cert.Attn

/-- The comparison the kernel makes of a lane's number within its group. -/
theorem turn_bit : ∀ n : Fin 128,
    IntOp.cmpi CmpIPredicate.slt
      (Scalar.select
      (IntOp.andi
        (IntOp.xori
          (IntOp.cmpi CmpIPredicate.slt
            (IntOp.remsi ArithUnit.vector (BitVec.ofNat 32 n.val)
              (Scalar.select (Scalar.cmpi CmpIPredicate.eq 32#32 0#32) 1#32 32#32))
            0#32)
          (Scalar.cmpi CmpIPredicate.slt (Scalar.select (Scalar.cmpi CmpIPredicate.eq 32#32 0#32) 1#32 32#32) 0#32))
        (IntOp.cmpi CmpIPredicate.ne
          (IntOp.remsi ArithUnit.vector (BitVec.ofNat 32 n.val)
            (Scalar.select (Scalar.cmpi CmpIPredicate.eq 32#32 0#32) 1#32 32#32))
          0#32))
      (IntOp.addi
        (IntOp.remsi ArithUnit.vector (BitVec.ofNat 32 n.val)
          (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 n.val)
        (Scalar.select (Scalar.cmpi CmpIPredicate.eq 32#32 0#32) 1#32 32#32)))
      16#32 = if n.val % 32 < 16 then 1#1 else 0#1 := by decide +kernel

/-- Turning 128 lanes against the two tables is the rotary embedding of each group of 32. -/
theorem turned (X C S : Fin 128 → EReal) (l : ℕ)
    (hC : ∀ n, C n = if h : n.val % 32 < 16 then Ideal.cos (angle l (n.val % 32)) else Ideal.cos (angle l (n.val % 32 - 16)))
    (hS : ∀ n, S n = if h : n.val % 32 < 16 then -Ideal.sin (angle l (n.val % 32)) else Ideal.sin (angle l (n.val % 32 - 16)))
    (g : Fin 4) (d : Fin 32) (n : Fin 128) (hn : n = lane g d) :
    X n * C n + Scalar.select (if n.val % 32 < 16 then 1#1 else 0#1) (X ⟨(n.val + 128 - 112) % 128, Nat.mod_lt _ (by decide)⟩)
        (X ⟨(n.val + 128 - 16) % 128, Nat.mod_lt _ (by decide)⟩) * S n
      = ropedAt (fun e => X (lane g e)) l d := by
  have hv : n.val = g.val * 32 + d.val := by rw [hn]
  have hm : n.val % 32 = d.val := by omega
  rw [hC, hS, hm]
  unfold ropedAt roped
  by_cases h : d.val < 16
  · rw [dif_pos h, dif_pos h, dif_pos h, if_pos h]
    rw [show (⟨(n.val + 128 - 112) % 128, Nat.mod_lt _ (by decide)⟩ : Fin 128) = lane g ⟨d.val + 16, by omega⟩ from
      Fin.ext (by show (n.val + 128 - 112) % 128 = g.val * 32 + (d.val + 16); omega), hn]
    show _ + _ * -_ = _
    rw [mul_neg, ← sub_eq_add_neg]
    rfl
  · rw [dif_neg h, dif_neg h, dif_neg h, if_neg h]
    rw [show (⟨(n.val + 128 - 16) % 128, Nat.mod_lt _ (by decide)⟩ : Fin 128) = lane g ⟨d.val - 16, by omega⟩ from
      Fin.ext (by show (n.val + 128 - 16) % 128 = g.val * 32 + (d.val - 16); omega), hn]
    exact add_comm _ _

section Payload

variable (x cosT sinT : FVec Ideal S4096x128 .f32) (q cosB sinB : FVec Ideal S256x128 .f32)

theorem key_turned (r : Fin 4096) (n : Fin 128) :
    k0_pay2 (F := Ideal) x cosT sinT (ix2 r n)
      = x (ix2 r n) * cosT (ix2 r n) + Scalar.select (if n.val % 32 < 16 then 1#1 else 0#1)
        (x (ix2 r ⟨(n.val + 128 - 112) % 128, Nat.mod_lt _ (by decide)⟩))
        (x (ix2 r ⟨(n.val + 128 - 16) % 128, Nat.mod_lt _ (by decide)⟩)) * sinT (ix2 r n) := by
  pointwise [k0_pay2]
  rw [turn_bit]

theorem query_turned (r : Fin 256) (n : Fin 128) :
    k0_pay7 (F := Ideal) q cosB sinB (ix2 r n)
      = (q (ix2 r n) * cosB (ix2 r n) + Scalar.select (if n.val % 32 < 16 then 1#1 else 0#1)
        (q (ix2 r ⟨(n.val + 128 - 112) % 128, Nat.mod_lt _ (by decide)⟩))
        (q (ix2 r ⟨(n.val + 128 - 16) % 128, Nat.mod_lt _ (by decide)⟩)) * sinB (ix2 r n))
        * Ideal.ofBits .f32 1043662067#32 := by
  pointwise [k0_pay7]
  rw [turn_bit]

theorem cachedKey_at (ck : FVec Ideal S1x512x128 .f32) (r : Fin 512) (n : Fin 128) :
    k0_pay5 (F := Ideal) ck (ix2 r n) = ck (ix3 0 r n) := by
  pointwise [k0_pay5]

theorem cachedVal_at (cv : FVec Ideal S1x512x128 .f32) (r : Fin 512) (n : Fin 128) :
    k0_pay6 (F := Ideal) cv (ix2 r n) = cv (ix3 0 r n) := by
  pointwise [k0_pay6]

theorem val_at (r : Fin 4096) (n : Fin 128) : k0_pay4 (F := Ideal) (k0_pay3 x) (ix2 r n) = x (ix2 r n) := by
  pointwise [k0_pay4, k0_pay3]

end Payload

variable (m : (ℓ : Loc nD τ sig) → Buf (Elt Ideal) ℓ) (c : Dev nD)

/-! The arguments, read by coordinates. -/
abbrev argP (R : Fin 32768) (C : Fin 4608) : EReal := inP m c (ix2 R C)
abbrev argCk (b : Fin 8) (l : Fin 512) (H : Fin 8) (d : Fin 64) : EReal := inCk m c (ix4 b l H d)
abbrev argCv (b : Fin 8) (l : Fin 512) (H : Fin 8) (d : Fin 64) : EReal := inCv m c (ix4 b l H d)
abbrev argL (a : Fin 4) (d : Fin 32) : EReal := inL m c (ix2 a d)
abbrev argNg (d : Fin 64) : EReal := inNg m c (ix1 d)

/-- The query block of a point, scaled. -/
theorem query_at (t : Fin cfg0.N) (g : Fin 4) (r : Fin 256) (d : Fin 32) (b H : Fin 8) (two : Fin 2) (l : Fin 4096)
    (hb : b.val = t.val / 64) (hH : H.val = t.val / 16 % 4 * 2 + g.val / 2) (h2 : two.val = g.val % 2)
    (hl : l.val = t.val % 16 * 256 + r.val) :
    k0_pay7 (F := Ideal) (iblk m c 0 t) (iblk m c 5 t) (iblk m c 6 t) (ix2 r (lane g d))
      = queryAt (argP m c) b H two l d * Ideal.ofBits .f32 1043662067#32 := by
  rw [query_turned]
  congr 1
  refine (turned (fun n => (iblk m c 0 t : FVec Ideal S256x128 .f32) (ix2 r n))
    (fun n => (iblk m c 5 t : FVec Ideal S256x128 .f32) (ix2 r n)) (fun n => (iblk m c 6 t : FVec Ideal S256x128 .f32) (ix2 r n))
    l.val (fun n => ?_) (fun n => ?_) g d _ rfl).trans ?_
  · rw [hl]; exact blkCosQ m c t r n
  · rw [hl]; exact blkSinQ m c t r n
  · unfold queryAt
    congr 1
    funext e
    exact blkQ m c t r _ _ _ (by show b.val * 4096 + l.val = _; omega)
      (by show 1536 + H.val * 64 + two.val * 32 + e.val = (12 + t.val / 16 % 4) * 128 + (g.val * 32 + e.val); omega)

/-- The keys a first point stores. -/
theorem stored_key (t : Fin cfg0.N) (g : Fin 4) (j : Fin 4608) (d : Fin 32) (b H : Fin 8) (two : Fin 2)
    (hb : b.val = t.val / 64) (hH : H.val = t.val / 16 % 4 * 2 + g.val / 2) (h2 : two.val = g.val % 2) :
    keysOf (iblk m c 1 t) (iblk m c 7 t) (iblk m c 8 t) (iblk m c 3 t) (ix2 j (lane g d))
      = keyAt (argP m c) (argCk m c) b H two j d := by
  unfold keysOf keyAt
  by_cases h : j.val < 4096
  · rw [dif_pos (show (ix2 j (lane g d) 0).val < 4096 from h), dif_pos h]
    refine (key_turned _ _ _ ⟨j.val, h⟩ (lane g d)).trans ?_
    refine (turned (fun n => (iblk m c 1 t : FVec Ideal S4096x128 .f32) (ix2 ⟨j.val, h⟩ n))
      (fun n => (iblk m c 7 t : FVec Ideal S4096x128 .f32) (ix2 ⟨j.val, h⟩ n))
      (fun n => (iblk m c 8 t : FVec Ideal S4096x128 .f32) (ix2 ⟨j.val, h⟩ n))
      j.val (fun n => blkCosK m c t _ n) (fun n => blkSinK m c t _ n) g d _ rfl).trans ?_
    congr 1
    funext e
    exact blkK m c t _ _ _ _ (by show b.val * 4096 + j.val = t.val / 64 * 4096 + j.val; omega)
      (by show 2048 + H.val * 64 + two.val * 32 + e.val = (16 + t.val / 16 % 4) * 128 + (g.val * 32 + e.val); omega)
  · rw [dif_neg (show ¬(ix2 j (lane g d) 0).val < 4096 from h), dif_neg h]
    refine (cachedKey_at _ ⟨j.val - 4096, by omega⟩ (lane g d)).trans ?_
    exact blkCk m c t _ _ b H _ hb (by show H.val = t.val / 16 % 4 * 2 + (g.val * 32 + d.val) / 64; omega)
      (by show two.val * 32 + d.val = (g.val * 32 + d.val) % 64; omega)

/-- The values a first point stores. -/
theorem stored_val (t : Fin cfg0.N) (h : Fin 2) (j : Fin 4608) (d : Fin 64) (b H : Fin 8)
    (hb : b.val = t.val / 64) (hH : H.val = t.val / 16 % 4 * 2 + h.val) :
    valsOf (iblk m c 2 t) (iblk m c 4 t) (ix2 j (half h d)) = valAt (argP m c) (argCv m c) b H d j := by
  unfold valsOf valAt
  by_cases hj : j.val < 4096
  · rw [dif_pos (show (ix2 j (half h d) 0).val < 4096 from hj), dif_pos hj]
    refine (val_at _ ⟨j.val, hj⟩ (half h d)).trans ?_
    exact blkV m c t _ _ _ _ (by show b.val * 4096 + j.val = t.val / 64 * 4096 + j.val; omega)
      (by show 2560 + H.val * 64 + d.val = (20 + t.val / 16 % 4) * 128 + (h.val * 64 + d.val); omega)
  · rw [dif_neg (show ¬(ix2 j (half h d) 0).val < 4096 from hj), dif_neg hj]
    refine (cachedVal_at _ ⟨j.val - 4096, by omega⟩ (half h d)).trans ?_
    exact blkCv m c t _ _ b H _ hb (by show H.val = t.val / 16 % 4 * 2 + (h.val * 64 + d.val) / 64; omega)
      (by show d.val = (h.val * 64 + d.val) % 64; omega)

/-- Every point of a (sequence, head pair) holds the same keys and values. -/
theorem held (k : ℕ) : ∀ t : Fin cfg0.N, t.val % 16 = k → ∀ (b : Fin 8), b.val = t.val / 64 →
    (∀ (g : Fin 4) (j : Fin 4608) (d : Fin 32) (H : Fin 8) (two : Fin 2), H.val = t.val / 16 % 4 * 2 + g.val / 2 →
      two.val = g.val % 2 →
      (outsAt0 m c t.val t.isLt).2.1 (ix2 j (lane g d)) = keyAt (argP m c) (argCk m c) b H two j d)
    ∧ (∀ (h : Fin 2) (j : Fin 4608) (d : Fin 64) (H : Fin 8), H.val = t.val / 16 % 4 * 2 + h.val →
      (outsAt0 m c t.val t.isLt).2.2 (ix2 j (half h d)) = valAt (argP m c) (argCv m c) b H d j) := by
  induction k with
  | zero =>
    intro t ht b hb
    rw [first_keys m c t ht, first_vals m c t ht]
    exact ⟨fun g j d H two hH h2 => stored_key m c t g j d b H two hb hH h2,
      fun h j d H hH => stored_val m c t h j d b H hb hH⟩
  | succ k ih =>
    intro t ht b hb
    rw [next_keys m c t (by omega), next_vals m c t (by omega)]
    obtain ⟨a1, a2⟩ := ih ⟨t.val - 1, Nat.lt_of_le_of_lt (Nat.sub_le _ _) t.isLt⟩ (by show (t.val - 1) % 16 = k; omega) b
      (by show b.val = (t.val - 1) / 64; omega)
    refine ⟨fun g j d H two hH h2 => a1 g j d H two ?_ h2, fun h j d H hH => a2 h j d H ?_⟩
    · show H.val = (t.val - 1) / 16 % 4 * 2 + g.val / 2; omega
    · show H.val = (t.val - 1) / 16 % 4 * 2 + h.val; omega

/-- Lambda, from a block holding the four vectors in its first rows and lanes. -/
theorem lambda_of (L : FVec Ideal S8x128 .f32) (lp : Fin 4 → Fin 32 → EReal)
    (hL : ∀ a n, L (ix2 a n) = if h : a.val < 4 ∧ n.val < 32 then lp ⟨a.val, h.1⟩ ⟨n.val, h.2⟩ else 0) :
    blockLambda L = lambda lp := by
  have hrow : ∀ (a b : Fin 8) (a' b' : Fin 4), a.val = a'.val → b.val = b'.val →
      ∑ n : Fin 128, L (ix2 a n) * L (ix2 b n) = ∑ d : Fin 32, lp a' d * lp b' d := by
    intro a b a' b' ha hb
    rw [Fin.sum_univ_tiles 4 32 rfl, Finset.sum_eq_single (0 : Fin 4)]
    · refine Finset.sum_congr rfl fun d _ => ?_
      rw [hL, hL, dif_pos ⟨by omega, by show 0 * 32 + d.val < 32; omega⟩, dif_pos ⟨by omega, by show 0 * 32 + d.val < 32; omega⟩]
      congr 2 <;> first | exact Fin.ext ‹_› | exact Fin.ext (by show 0 * 32 + d.val = d.val; omega)
    · intro k _ hk
      refine Finset.sum_eq_zero fun d _ => ?_
      have hk0 : k.val ≠ 0 := fun h => hk (Fin.ext h)
      rw [hL, dif_neg (by
        intro h
        have h2 : k.val * 32 + d.val < 32 := h.2
        omega), zero_mul]
    · intro h; exact absurd (Finset.mem_univ _) h
  unfold blockLambda lambda
  rw [hrow 0 1 0 1 rfl rfl, hrow 2 3 2 3 rfl rfl]

/-- The block written against keys, values and queries of the layer is the layer's. -/
theorem block_layer (p : Fin 32768 → Fin 4608 → EReal) (ck cv : Fin 8 → Fin 512 → Fin 8 → Fin 64 → EReal)
    (lp : Fin 4 → Fin 32 → EReal) (g : Fin 64 → EReal) (u : FVec Ideal S256x128 .f32) (L : FVec Ideal S8x128 .f32)
    (G : FVec Ideal S1x128 .f32) (K V : FVec Ideal S4608x128 .bf16) (h : Fin 2) (r : Fin 256) (d : Fin 64) (b H : Fin 8)
    (l : Fin 4096) (hL : blockLambda L = lambda lp) (hG : G (ix2 0 (half h d)) = g d)
    (hu : ∀ (k : Fin 4) (two : Fin 2) (x : Fin 32), k.val = 2 * h.val + two.val →
      u (ix2 r (lane k x)) = queryAt p b H two l x * Ideal.ofBits .f32 1043662067#32)
    (hK : ∀ (k : Fin 4) (two : Fin 2) (j : Fin 4608) (x : Fin 32), k.val = 2 * h.val + two.val →
      K (ix2 j (lane k x)) = keyAt p ck b H two j x)
    (hV : ∀ (j : Fin 4608) (e : Fin 64), V (ix2 j (half h e)) = valAt p cv b H e j) :
    outBlock u L G K V (ix2 r (half h d)) = layer p ck cv lp g b H l d := by
  rw [out_at, hG]
  unfold layer
  congr 1
  funext e
  have hs : ∀ (k : Fin 4) (two : Fin 2), k.val = 2 * h.val + two.val → rowScore u K k r = scores p ck b H two l := by
    intro k two hk
    funext j
    unfold scores score
    refine Finset.sum_congr rfl fun x _ => ?_
    rw [hu k two x hk, hK k two j x hk]
  have hv : (fun j => V (ix2 j (half h e))) = valAt p cv b H e := funext fun j => hV j e
  unfold headRow rowMixed
  rw [hL, hs _ 0 rfl, hs _ 1 rfl, hv]

/-- The block a point writes, over the arguments. -/
theorem point_at (t : Fin cfg0.N) (h : Fin 2) (r : Fin 256) (d : Fin 64) (b H : Fin 8) (l : Fin 4096)
    (hb : b.val = t.val / 64) (hH : H.val = t.val / 16 % 4 * 2 + h.val) (hl : l.val = t.val % 16 * 256 + r.val) :
    (outsAt0 m c t.val t.isLt).1 (ix2 r (half h d))
      = layer (argP m c) (argCk m c) (argCv m c) (argL m c) (argNg m c) b H l d := by
  obtain ⟨hK, hV⟩ := held m c _ t rfl b hb
  rw [out_eq m c t]
  exact block_layer _ _ _ _ _ _ _ _ _ _ h r d b H l (lambda_of _ _ fun a n => blkL m c t a n)
    (blkNg m c t _ d (by show d.val = (h.val * 64 + d.val) % 64; omega))
    (fun k two x hk => query_at m c t k r x b H two l hb (by omega) (by omega) hl)
    (fun k two j x hk => hK k j x H two (by omega) (by omega)) (fun j e => hV h j e H hH)

end Cert.KernelIdeal.Attn

end
-- ==== Proof.Attn.Final.lean ====
/-
  The attention kernel's result: the blocks of 256 query rows and two heads its points write back, over the whole grid.
-/
module

public import proofs.«01_k».proof.Proof.Attn.Rope
public import Idealize.ShloMosaic.Lib.Pipeline.ValueKit
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pointwise Cert.Attn
open Idealize.ShloMosaic.Pipeline (Dat)

variable (m : (ℓ : Loc nD τ sig) → Buf (Elt Ideal) ℓ) (c : Dev nD)

/-- The layer at a row of the flat batch and a column of the joined heads. -/
def flat (R : Fin 32768) (C : Fin 512) : EReal :=
  layer (argP m c) (argCk m c) (argCv m c) (argL m c) (argNg m c) ⟨R.val / 4096, by omega⟩ ⟨C.val / 64, by omega⟩
    ⟨R.val % 4096, by omega⟩ ⟨C.val % 64, by omega⟩

/-- The result. -/
def result : FVec Ideal S32768x512 .bf16 := fun i => flat m c (i 0) (i 1)

/-- A lane of a block's 128 belongs to one of its two heads. -/
theorem lane_half (n : Fin 128) : ∃ (h : Fin 2) (d : Fin 64), n = half h d :=
  ⟨⟨n.val / 64, by omega⟩, ⟨n.val % 64, by omega⟩, Fin.ext (by show n.val = n.val / 64 * 64 + n.val % 64; omega)⟩

/-- What point `t` stores, by the place it goes to. -/
theorem flat_at (t : Fin cfg0.N) (h : Fin 2) (r : Fin 256) (d : Fin 64) (R : Fin 32768) (C : Fin 512)
    (hR : R.val = (t.val / 64 * 16 + t.val % 16) * 256 + r.val) (hC : C.val = t.val / 16 % 4 * 128 + (h.val * 64 + d.val)) :
    (outsAt0 m c t.val t.isLt).1 (ix2 r (half h d)) = flat m c R C := by
  have hd : d = ⟨C.val % 64, by omega⟩ := Fin.ext (by show d.val = C.val % 64; omega)
  have e := point_at m c t h r d ⟨R.val / 4096, by omega⟩ ⟨C.val / 64, by omega⟩ ⟨R.val % 4096, by omega⟩
    (by show R.val / 4096 = _; omega) (by show C.val / 64 = _; omega) (by show R.val % 4096 = _; omega)
  refine e.trans ?_
  unfold flat
  rw [← hd]

theorem emb_at (t : Fin cfg0.N) (r : Fin 256) (n : Fin 128) (hR : (t.val / 64 * 16 + t.val % 16) * 256 + r.val < 32768)
    (hC : t.val / 16 % 4 * 128 + n.val < 512) :
    (((cfg0.win 11).blk t).view.emb (ix2 r n) : S32768x512.Idx)
      = ix2 ⟨(t.val / 64 * 16 + t.val % 16) * 256 + r.val, hR⟩ ⟨t.val / 16 % 4 * 128 + n.val, hC⟩ := by
  blk_ext [idx t]

theorem final : (dats m 0 c).arrAt 11 cfg0.N = result m c := by
  refine (dats m 0 c).arrAt_eq_of_covers 11 _ (by decide +kernel) fun t _ y => ?_
  blk_simp
  rw [after0_11]
  obtain ⟨r, n, rfl⟩ : ∃ (r : Fin 256) (n : Fin 128), y = ix2 r n := ⟨y 0, y 1, eq_ix2 y⟩
  obtain ⟨h, d, rfl⟩ := lane_half n
  have ht := (idx t).2.2.2.2.2.2.2.2.2.2.2.2
  have hR : (t.val / 64 * 16 + t.val % 16) * 256 + r.val < 32768 := by omega
  have hC : t.val / 16 % 4 * 128 + (half h d).val < 512 := by omega
  rw [emb_at t r (half h d) hR hC]
  exact flat_at m c t h r d ⟨_, hR⟩ ⟨_, hC⟩ rfl rfl

end Cert.KernelIdeal.Attn

end
-- ==== Proof.Attn.Real.lean ====
/-
  Real numbers among the extended ones, and the reference's order of the attention: it divides each weight by the total
  and mixes the two maps before it meets the values.
-/
module

public import proofs.«01_k».proof.Proof.Attn.Spec

@[expose] public section

noncomputable section

namespace Cert.Attn

open Idealize.ShloMosaic

/-- A value that is a real number. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.exp {x : EReal} : IsReal x → IsReal (Ideal.exp x)
  | ⟨a, ha⟩ => ⟨Real.exp a, by rw [ha, Ideal.exp_coe]⟩

theorem coe_sum {n : ℕ} (f : Fin n → ℝ) : ((∑ j, f j : ℝ) : EReal) = ∑ j, (f j : EReal) := by
  induction n with
  | zero => rw [Fin.sum_univ_zero, Fin.sum_univ_zero]; rfl
  | succ n ih => rw [Fin.sum_univ_castSucc, Fin.sum_univ_castSucc, EReal.coe_add, ih]

theorem IsReal.sum {n : ℕ} {f : Fin n → EReal} (h : ∀ j, IsReal (f j)) : IsReal (∑ j, f j) := by
  choose g hg using h
  exact ⟨∑ j, g j, by rw [coe_sum]; exact Finset.sum_congr rfl fun j _ => hg j⟩

theorem isReal_of_bounds {x : EReal} (h0 : ⊥ < x) (h1 : x < ⊤) : IsReal x :=
  ⟨x.toReal, (EReal.coe_toReal h1.ne h0.ne').symm⟩

theorem negInf : Ideal.ofBits .f32 4286578688#32 = ⊥ := by simp [Ideal.ofBits, Ideal.ieee]

/-- The reference's row: the mixed map against the values. -/
def mapped (s0 s1 : Fin 4608 → EReal) (lam : EReal) (v : Fin 4608 → EReal) : EReal :=
  ∑ j, v j * (Ideal.div (weight s0 j) (∑ k, weight s0 k) - lam * Ideal.div (weight s1 j) (∑ k, weight s1 k))

theorem ofBits_real (b : BitVec 32) (h : (b.extractLsb' 23 8).toNat ≠ 2 ^ 8 - 1) : IsReal (Ideal.ofBits .f32 b) := by
  unfold Ideal.ofBits Ideal.ieee
  dsimp only
  rw [if_neg h]
  split
  · exact ⟨_, rfl⟩
  · exact ⟨_, rfl⟩

theorem lambda_real {lp : Fin 4 → Fin 32 → EReal} (h : ∀ a d, IsReal (lp a d)) : IsReal (lambda lp) :=
  ((IsReal.sum fun d => (h 0 d).mul (h 1 d)).exp.sub (IsReal.sum fun d => (h 2 d).mul (h 3 d)).exp).add
    (ofBits_real _ (by decide))

end Cert.Attn

end
-- ==== Proof.Attn.Pre.lean ====
/-
  What the precondition says: the values and the parameters of lambda are real numbers.
-/
module

public import proofs.«01_k».proof.Defs
public import proofs.«01_k».proof.Proof.Attn.Real

@[expose] public section

set_option maxRecDepth 16384

noncomputable section

namespace Cert.Attn.Pre

open Idealize.ShloMosaic Idealize.ShloMosaic.Pointwise
open Cert.Attn Cert.Pre_finite_inputs

instance facts : Cert.Pre_finite_inputs.Facts where
  slices_S32768x4608_S32768x512_0_2560 := by decide
  bcast_S_S32768x512 := by decide
  bcast_S_S8x512x8x64 := by decide
  bcast_S_S4x32 := by decide

theorem posInf : Ideal.ofBits .f32 0x7F800000#32 = ⊤ := by simp [Ideal.ofBits, Ideal.ieee]

/-- A number whose magnitude is below infinity is real. -/
theorem real_of_bit {x : EReal} (h : Ideal.cmp .olt (max x (-x)) (Ideal.ofBits .f32 0x7F800000#32) = 1#1) : IsReal x := by
  rw [posInf, Ideal.cmp] at h
  have hlt : max x (-x) < ⊤ := by
    by_contra hc
    simp [hc] at h
  obtain ⟨h0, h1⟩ := max_lt_iff.mp hlt
  refine isReal_of_bounds ?_ h0
  refine bot_lt_iff_ne_bot.mpr fun e => ?_
  rw [e] at h1
  exact absurd h1 (by simp)

variable {p : FVec Ideal S32768x4608 .f32} {ck cv : FVec Ideal S8x512x8x64 .f32} {lp : FVec Ideal S4x32 .f32}
  {ng : FVec Ideal S64 .f32}

theorem real_p (h : (fn (F := Ideal) p ck cv lp ng).1 = fun _ => 1#1) (R : Fin 32768) (C : Fin 4608)
    (h0 : 2560 ≤ C.val) (h1 : C.val < 3072) : IsReal (p (ix2 R C)) := by
  refine real_of_bit ((?_ : _ = _).trans (congrFun h (ix2 R ⟨C.val - 2560, by omega⟩)))
  have e : (ix2 R C : S32768x4608.Idx) = ix2 R ⟨2560 + (C.val - 2560), by omega⟩ :=
    congrArg (ix2 R) (Fin.ext (Nat.add_sub_cancel' h0).symm)
  rw [e]
  unfold fn
  pointwise
  rfl

theorem real_cv (h : (fn (F := Ideal) p ck cv lp ng).2.1 = fun _ => 1#1) (i : S8x512x8x64.Idx) : IsReal (cv i) :=
  real_of_bit (congrFun h i)

theorem real_lp (h : (fn (F := Ideal) p ck cv lp ng).2.2 = fun _ => 1#1) (i : S4x32.Idx) : IsReal (lp i) :=
  real_of_bit (congrFun h i)

end Cert.Attn.Pre

end
-- ==== Proof.Attn.Degenerate.lean ====
/-
  The two forms of the mixture under any scores.  Softmax weights are real with a positive total, or, when the greatest
  score is infinite, all zero; then one map's quotients are all minus infinity, every entry of both forms' rows is zero or
  infinite, and the norm makes zero of each.
-/
module

public import proofs.«01_k».proof.Proof.Attn.Real

@[expose] public section

set_option maxRecDepth 16384

noncomputable section

namespace Cert.Attn

open Idealize.ShloMosaic Idealize.ShloMosaic.Pointwise

/-! ## The weights -/

theorem le_top (s : Fin 4608 → EReal) (j : Fin 4608) : s j ≤ top s :=
  (Finset.le_fold_max _).mpr (.inr ⟨j, Finset.mem_univ _, le_rfl⟩)

/-- Weights that are real with a positive total, -/
def Proper (s : Fin 4608 → EReal) : Prop := ∃ w : Fin 4608 → ℝ, (∀ j, weight s j = (w j : EReal)) ∧ 0 < ∑ j, w j

/-- a real greatest score gives; -/
theorem proper_of_real {s : Fin 4608 → EReal} {T : ℝ} (hT : top s = (T : EReal)) : Proper s := by
  have hw : ∀ j, ∃ w : ℝ, 0 ≤ w ∧ weight s j = (w : EReal) ∧ (s j = (T : EReal) → w = 1) := fun j => by
    have hle := le_top s j
    rw [hT] at hle
    unfold weight
    rw [hT]
    induction h : s j with
    | bot => exact ⟨0, le_rfl, by rw [EReal.bot_sub]; rfl, fun e => absurd e (EReal.bot_ne_coe T)⟩
    | top => rw [h] at hle; exact absurd hle (not_le.mpr (EReal.coe_lt_top T))
    | coe a =>
      refine ⟨Real.exp (a - T), (Real.exp_pos _).le, by rw [← EReal.coe_sub, Ideal.exp_coe], fun e => ?_⟩
      rw [EReal.coe_eq_coe_iff.mp e, sub_self, Real.exp_zero]
  choose w h0 h1 h2 using hw
  refine ⟨w, h1, ?_⟩
  have hge : (T : EReal) ≤ top s := hT.ge
  unfold top at hge
  rw [negInf] at hge
  rcases (Finset.le_fold_max _).mp hge with hb | ⟨j, _, hj⟩
  · exact absurd hb (not_le.mpr (EReal.bot_lt_coe T))
  · have e : s j = (T : EReal) := le_antisymm (hT ▸ le_top s j) hj
    refine Finset.sum_pos' (fun j _ => h0 j) ⟨j, Finset.mem_univ _, ?_⟩
    rw [h2 j e]
    exact one_pos

/-- an infinite one gives weights that are all zero. -/
theorem proper_or_zero (s : Fin 4608 → EReal) : Proper s ∨ ∀ j, weight s j = 0 := by
  induction h : top s with
  | coe T => exact .inl (proper_of_real h)
  | top =>
    refine .inr fun j => ?_
    unfold weight
    rw [h]
    have e : s j - ⊤ = ⊥ := by
      rw [sub_eq_add_neg, EReal.neg_top, EReal.add_bot]
    rw [e]; rfl
  | bot =>
    refine .inr fun j => ?_
    unfold weight
    have e : s j = ⊥ := le_bot_iff.mp (h ▸ le_top s j)
    rw [e, EReal.bot_sub]; rfl

/-! ## The two forms, when both maps are proper -/

theorem mapped_proper {s0 s1 v : Fin 4608 → EReal} {lam : EReal} (h0 : Proper s0) (h1 : Proper s1)
    (hv : ∀ j, IsReal (v j)) (hl : IsReal lam) : mapped s0 s1 lam v = mixed s0 s1 lam v := by
  obtain ⟨w0, e0, p0⟩ := h0
  obtain ⟨w1, e1, p1⟩ := h1
  choose u eu using hv
  obtain ⟨r, rfl⟩ := hl
  unfold mapped mixed attended
  simp only [e0, e1, eu, ← coe_sum, ← EReal.coe_mul]
  simp only [Ideal.div_coe p0.ne', Ideal.div_coe p1.ne', ← EReal.coe_mul, ← EReal.coe_sub, ← coe_sum]
  congr 1
  simp only [Finset.sum_mul, Finset.mul_sum, ← Finset.sum_sub_distrib]
  exact Finset.sum_congr rfl fun j _ => by ring

/-! ## Rows of zeros and infinities -/

/-- Zero or infinite. -/
def Extreme (x : EReal) : Prop := x = 0 ∨ x = ⊤ ∨ x = ⊥

theorem Extreme.add {x y : EReal} (hx : Extreme x) (hy : Extreme y) : Extreme (x + y) := by
  rcases hx with rfl | rfl | rfl
  · rwa [zero_add]
  · rcases hy with rfl | rfl | rfl
    · rw [add_zero]; exact .inr (.inl rfl)
    · exact .inr (.inl rfl)
    · exact .inr (.inr rfl)
  · rw [EReal.bot_add]; exact .inr (.inr rfl)

theorem Extreme.sum {n : ℕ} {f : Fin n → EReal} (h : ∀ j, Extreme (f j)) : Extreme (∑ j, f j) := by
  induction n with
  | zero => exact .inl rfl
  | succ n ih => rw [Fin.sum_univ_castSucc]; exact (ih fun j => h _).add (h _)

/-- A real number times an infinity. -/
theorem extreme_mul {x y : EReal} (hx : IsReal x) (hy : y = ⊤ ∨ y = ⊥) : Extreme (x * y) := by
  obtain ⟨a, rfl⟩ := hx
  rcases lt_trichotomy a 0 with h | rfl | h
  · rcases hy with rfl | rfl
    · rw [EReal.coe_mul_top_of_neg h]; exact .inr (.inr rfl)
    · rw [EReal.coe_mul_bot_of_neg h]; exact .inr (.inl rfl)
  · rw [EReal.coe_zero, zero_mul]; exact .inl rfl
  · rcases hy with rfl | rfl
    · rw [EReal.coe_mul_top_of_pos h]; exact .inr (.inl rfl)
    · rw [EReal.coe_mul_bot_of_pos h]; exact .inr (.inr rfl)

theorem sixtyFourth_pos : ∃ a : ℝ, 0 < a ∧ Ideal.ofBits .f32 1015021568#32 = (a : EReal) :=
  ⟨1 / 64, by norm_num, by
    simp [Ideal.ofBits, Ideal.ieee]
    rw [← EReal.coe_mul]
    norm_num⟩

/-- Such a row's norm is zero. -/
theorem normed_extreme {o : Fin 64 → EReal} (h : ∀ e, Extreme (o e)) (g : EReal) (d : Fin 64) : normed o g d = 0 := by
  unfold normed
  by_cases hz : o d = 0
  · rw [hz, zero_mul, zero_mul, zero_mul]
  have hsq : o d * o d = ⊤ := by
    rcases h d with e | e | e
    · exact absurd e hz
    · rw [e]; rfl
    · rw [e]; rfl
  have hnn : ∀ e, 0 ≤ o e * o e := fun e => by
    rcases h e with e | e | e
    · rw [e, zero_mul]
    · rw [e]; exact _root_.le_top
    · rw [e]; exact _root_.le_top
  have hs : (∑ e, o e * o e) = ⊤ := by
    refine top_le_iff.mp ?_
    rw [← hsq]
    exact Finset.single_le_sum (f := fun e => o e * o e) (fun e _ => hnn e) (Finset.mem_univ d)
  obtain ⟨a, ha, ea⟩ := sixtyFourth_pos
  obtain ⟨b, eb⟩ := ofBits_real 897988541#32 (by decide)
  rw [hs, ea, eb, EReal.top_mul_coe_of_pos ha, EReal.top_add_coe]
  rw [show Ideal.rsqrt ⊤ = 0 from rfl, mul_zero, zero_mul, zero_mul]

/-! ## The two forms under the norm -/

section Norm

variable {s0 s1 : Fin 4608 → EReal} {lam : EReal} {v : Fin 64 → Fin 4608 → EReal}

theorem div_zero_zero : Ideal.div 0 0 = ⊥ := by simp [Ideal.div]

theorem attended_zero {s : Fin 4608 → EReal} (h : ∀ j, weight s j = 0) (v : Fin 4608 → EReal) : attended s v = ⊥ := by
  unfold attended
  simp only [h, zero_mul, Finset.sum_const_zero, div_zero_zero]

theorem share_zero {s : Fin 4608 → EReal} (h : ∀ j, weight s j = 0) (j : Fin 4608) :
    Ideal.div (weight s j) (∑ k, weight s k) = ⊥ := by
  simp only [h, Finset.sum_const_zero, div_zero_zero]

theorem attended_real {s : Fin 4608 → EReal} (h : Proper s) {v : Fin 4608 → EReal} (hv : ∀ j, IsReal (v j)) :
    IsReal (attended s v) := by
  obtain ⟨w, e, p⟩ := h
  choose u eu using hv
  unfold attended
  simp only [e, eu, ← coe_sum, ← EReal.coe_mul]
  rw [Ideal.div_coe p.ne', ← EReal.coe_mul]
  exact ⟨_, rfl⟩

theorem share_real {s : Fin 4608 → EReal} (h : Proper s) (j : Fin 4608) :
    IsReal (Ideal.div (weight s j) (∑ k, weight s k)) := by
  obtain ⟨w, e, p⟩ := h
  simp only [e, ← coe_sum]
  rw [Ideal.div_coe p.ne', ← EReal.coe_mul]
  exact ⟨_, rfl⟩

/-- A real number less an infinity is the other infinity. -/
theorem real_sub_infinite {x y : EReal} (hx : IsReal x) (hy : y = ⊤ ∨ y = ⊥) : x - y = ⊤ ∨ x - y = ⊥ := by
  obtain ⟨a, rfl⟩ := hx
  rcases hy with rfl | rfl
  · exact .inr (EReal.sub_top _)
  · exact .inl (EReal.coe_sub_bot a)

theorem mul_bot_infinite {x : EReal} (hx : IsReal x) (h : x ≠ 0) : x * ⊥ = ⊤ ∨ x * ⊥ = ⊥ := by
  rcases extreme_mul hx (.inr rfl) with e | e
  · exact absurd (((mul_eq_zero.mp e).resolve_right (by decide))) h
  · exact e

/-- Either form's head row has the same norm. -/
theorem normed_mapped (hv : ∀ d j, IsReal (v d j)) (hl : IsReal lam) (g : EReal) (d : Fin 64) :
    normed (fun d => mapped s0 s1 lam (v d)) g d = normed (fun d => mixed s0 s1 lam (v d)) g d := by
  rcases proper_or_zero s0 with h0 | h0
  · rcases proper_or_zero s1 with h1 | h1
    · exact congrArg (fun f => normed f g d) (funext fun e => mapped_proper h0 h1 (hv e) hl)
    · by_cases hz : lam = 0
      · refine congrArg (fun f => normed f g d) (funext fun e => ?_)
        have hm := mapped_proper (lam := 0) h0 h0 (hv e) ⟨0, rfl⟩
        unfold mapped mixed at hm ⊢
        rw [hz]
        simp only [zero_mul] at hm ⊢
        exact hm
      · have hb := mul_bot_infinite hl hz
        refine (normed_extreme (fun e => ?_) g d).trans (normed_extreme (fun e => ?_) g d).symm
        · unfold mapped
          refine Extreme.sum fun j => extreme_mul (hv e j) ?_
          rw [share_zero h1]
          exact real_sub_infinite (share_real h0 j) hb
        · unfold mixed
          rw [attended_zero h1]
          exact .inr (real_sub_infinite (attended_real h0 (hv e)) hb)
  · refine (normed_extreme (fun e => ?_) g d).trans (normed_extreme (fun e => ?_) g d).symm
    · unfold mapped
      refine Extreme.sum fun j => extreme_mul (hv e j) (.inr ?_)
      rw [share_zero h0, EReal.bot_sub]
    · unfold mixed
      rw [attended_zero h0, EReal.bot_sub]
      exact .inr (.inr rfl)

end Norm

end Cert.Attn

end
-- ==== Proof.Attn.Ref.lean ====
/-
  The reference of the attention read at an index: its rotated queries, its keys and values, its scores and the two maps.
-/
module

public import proofs.«01_k».proof.Proof.Gen.ReferenceIdeal.Read
public import proofs.«01_k».proof.Proof.Attn.Real

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe Idealize.SL.Sem
open Idealize.ShloMosaic.Pointwise Cert.Attn

variable (x0 : FVec Ideal S32768x4608 .f32) (x1 x2 : FVec Ideal S8x512x8x64 .f32) (x3 : FVec Ideal S4x32 .f32)
  (x4 : FVec Ideal S64 .f32)

/-- The rotated queries. -/
theorem query_at (b : Fin 8) (l : Fin 4096) (H : Fin 8) (two : Fin 2) (d : Fin 32) :
    val_main_v51 (F := Ideal) x0 (ix5 b l H two d) = queryAt (fun R C => x0 (ix2 R C)) b H two l d := by
  unfold queryAt ropedAt roped angle
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v3, val_main_v0, val_main_cst, val_main_cst_0]
  split
  · refine congrArg₂ _ (Ideal.mul_congr (congrArg x0 ?_) rfl) (Ideal.mul_congr (congrArg x0 ?_) rfl) <;>
      exact congrArg _ (Fin.ext (by dsimp only; omega))
  · refine congrArg₂ _ (Ideal.mul_congr (congrArg x0 ?_) rfl) (Ideal.mul_congr (congrArg x0 ?_) rfl) <;>
      exact congrArg _ (Fin.ext (by dsimp only; omega))

/-- The rotated keys of the sequence. -/
theorem ownKey_at (b : Fin 8) (l : Fin 4096) (H : Fin 8) (two : Fin 2) (d : Fin 32) :
    val_main_v70 (F := Ideal) x0 (ix5 b l H two d)
      = ropedAt (fun e => x0 (ix2 (rowOf b l) ⟨2048 + H.val * 64 + two.val * 32 + e.val, by omega⟩)) l.val d := by
  unfold ropedAt roped angle
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v4, val_main_v1, val_main_cst, val_main_cst_0]
  split
  · refine congrArg₂ _ (Ideal.mul_congr (congrArg x0 ?_) rfl) (Ideal.mul_congr (congrArg x0 ?_) rfl) <;>
      exact congrArg _ (Fin.ext (by dsimp only; omega))
  · refine congrArg₂ _ (Ideal.mul_congr (congrArg x0 ?_) rfl) (Ideal.mul_congr (congrArg x0 ?_) rfl) <;>
      exact congrArg _ (Fin.ext (by dsimp only; omega))

/-- The keys: the sequence's, then the cached ones. -/
theorem key_at (b : Fin 8) (j : Fin 4608) (H : Fin 8) (two : Fin 2) (d : Fin 32) :
    val_main_v72 (F := Ideal) x0 x1 (ix5 b j H two d)
      = keyAt (fun R C => x0 (ix2 R C)) (fun b l H d => x1 (ix4 b l H d)) b H two j d := by
  have hk := ownKey_at x0 b
  unfold val_main_v72
  generalize val_main_v70 (F := Ideal) x0 = y at hk ⊢
  pointwise [val_main_v71]
  unfold keyAt
  split
  · exact hk _ H two d
  · rfl

/-- The values: the sequence's, then the cached ones. -/
theorem val_at (b : Fin 8) (j : Fin 4608) (H : Fin 8) (d : Fin 64) :
    val_main_v73 (F := Ideal) x0 x2 (ix4 b j H d)
      = valAt (fun R C => x0 (ix2 R C)) (fun b l H d => x2 (ix4 b l H d)) b H d j := by
  pointwise [val_main_v73, val_main_v5, val_main_v2]
  unfold valAt
  split
  · exact congrArg x0 (congrArg _ (Fin.ext (by dsimp only; omega)))
  · rfl

/-- The scores: the scale meets the keys here, the queries in the specification. -/
theorem score_at (b H : Fin 8) (two : Fin 2) (l : Fin 4096) (j : Fin 4608) :
    val_main_v92 (F := Ideal) x0 x1 (ix5 b H two l j)
      = scores (fun R C => x0 (ix2 R C)) (fun b l H d => x1 (ix4 b l H d)) b H two l j := by
  have hq := query_at x0 b l H two
  have hk := key_at x0 x1 b j H two
  unfold val_main_v92 val_main_v91
  generalize val_main_v51 (F := Ideal) x0 = y at hq ⊢
  generalize val_main_v72 (F := Ideal) x0 x1 = z at hk ⊢
  pointwise [val_main_v90, val_main_cst_4]
  unfold scores score
  refine Finset.sum_congr rfl fun d _ => ?_
  rw [hq, hk, mul_assoc, mul_comm (keyAt _ _ _ _ _ _ _)]

end Cert.ReferenceIdeal.Attn

end
-- ==== Proof.Attn.RefMap.lean ====
/-
  The reference of the attention read at an index: the two maps, their mixture against the values and the result.
-/
module

public import proofs.«01_k».proof.Proof.Gen.ReferenceIdeal.Read
public import proofs.«01_k».proof.Proof.Attn.Ref

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe Idealize.SL.Sem
open Idealize.ShloMosaic.Pointwise Cert.Attn

variable (x0 : FVec Ideal S32768x4608 .f32) (x1 x2 : FVec Ideal S8x512x8x64 .f32) (x3 : FVec Ideal S4x32 .f32)
  (x4 : FVec Ideal S64 .f32)

/-- The reduction behind the greatest score, over any array. -/
theorem fold_at (y : FVec Ideal S8x8x2x4096x4608 .f32) (c : FVec Ideal S_ .f32) (b H : Fin 8) (two : Fin 2)
    (l : Fin 4096) :
    Host.reduce FloatOps.maximumf y c reducesTo_S8x8x2x4096x4608_S8x8x2x4096_d4 h_S_ (ix4 b H two l)
      = Finset.univ.fold max (c (Shape.Idx.first h_S_)) fun j => y (ix5 b H two l j) := by
  pointwise

/-- The greatest score of a row. -/
theorem top_at (b H : Fin 8) (two : Fin 2) (l : Fin 4096) :
    val_main_v95 (F := Ideal) x0 x1 (ix4 b H two l)
      = top fun j => val_main_v92 (F := Ideal) x0 x1 (ix5 b H two l j) := by
  rw [val_main_v95_apply, val_main_v94_apply, val_main_cst_6_apply]
  unfold val_main_v93 top
  rw [fold_at, val_main_cst_5_apply]
  show max (Ideal.ofBits .f32 4286578688#32) _ = Finset.univ.fold max (Ideal.ofBits .f32 4286578688#32) _
  generalize Finset.univ.fold max (Ideal.ofBits .f32 4286578688#32)
    (fun j => val_main_v92 (F := Ideal) x0 x1 (ix5 b H two l j)) = w
  rw [negInf]
  exact max_eq_right bot_le

/-- The weight of a key. -/
theorem weight_at (b H : Fin 8) (two : Fin 2) (l : Fin 4096) (j : Fin 4608) :
    val_main_v99 (F := Ideal) x0 x1 (ix5 b H two l j)
      = weight (fun j => val_main_v92 (F := Ideal) x0 x1 (ix5 b H two l j)) j := by
  have ht := top_at x0 x1 b H two l
  unfold val_main_v99 val_main_v98 val_main_v97 val_main_v96
  generalize val_main_v95 (F := Ideal) x0 x1 = z at ht ⊢
  generalize val_main_v92 (F := Ideal) x0 x1 = y at ht ⊢
  pointwise
  unfold weight
  rw [ht]

/-- The share of a key. -/
theorem share_at (b H : Fin 8) (two : Fin 2) (l : Fin 4096) (j : Fin 4608) :
    val_main_v103 (F := Ideal) x0 x1 (ix5 b H two l j)
      = Ideal.div (val_main_v99 (F := Ideal) x0 x1 (ix5 b H two l j))
        (∑ k, val_main_v99 (F := Ideal) x0 x1 (ix5 b H two l k)) := by
  unfold val_main_v103 val_main_v102 val_main_v101 val_main_v100
  generalize val_main_v99 (F := Ideal) x0 x1 = y
  pointwise [val_main_cst_7]

theorem lambda_at : val_main_v89 (F := Ideal) x3 ix0 = lambda fun a d => x3 (ix2 a d) := by
  pointwise [val_main_v89, val_main_v88, val_main_v87, val_main_v86, val_main_v85, val_main_v84, val_main_v83, val_main_v82, val_main_v81, val_main_v80, val_main_v79, val_main_v78, val_main_v77, val_main_v76, val_main_v75, val_main_v74, val_main_cst_1, val_main_cst_2, val_main_cst_3, lambda]

/-- The two slices of the map axis, read at an index. -/
theorem first_at (b H : Fin 8) (l : Fin 4096) (j : Fin 4608) :
    val_main_v105 (F := Ideal) x0 x1 (ix4 b H l j) = val_main_v103 (F := Ideal) x0 x1 (ix5 b H 0 l j) := by
  rw [val_main_v105_apply, val_main_v104_apply]
  refine congrArg (val_main_v103 (F := Ideal) x0 x1) (funext fun a => Fin.ext ?_)
  match a with
  | ⟨0, _⟩ => show (((b.val * 8 + H.val) * 4096 + l.val) * 4608 + j.val) / 150994944 = b.val; omega
  | ⟨1, _⟩ => show (((b.val * 8 + H.val) * 4096 + l.val) * 4608 + j.val) / 18874368 % 8 = H.val; omega
  | ⟨2, _⟩ => rfl
  | ⟨3, _⟩ => show (((b.val * 8 + H.val) * 4096 + l.val) * 4608 + j.val) / 4608 % 4096 = l.val; omega
  | ⟨4, _⟩ => show (((b.val * 8 + H.val) * 4096 + l.val) * 4608 + j.val) % 4608 = j.val; omega

theorem second_at (b H : Fin 8) (l : Fin 4096) (j : Fin 4608) :
    val_main_v107 (F := Ideal) x0 x1 (ix4 b H l j) = val_main_v103 (F := Ideal) x0 x1 (ix5 b H 1 l j) := by
  rw [val_main_v107_apply, val_main_v106_apply]
  refine congrArg (val_main_v103 (F := Ideal) x0 x1) (funext fun a => Fin.ext ?_)
  match a with
  | ⟨0, _⟩ => show (((b.val * 8 + H.val) * 4096 + l.val) * 4608 + j.val) / 150994944 = b.val; omega
  | ⟨1, _⟩ => show (((b.val * 8 + H.val) * 4096 + l.val) * 4608 + j.val) / 18874368 % 8 = H.val; omega
  | ⟨2, _⟩ => rfl
  | ⟨3, _⟩ => show (((b.val * 8 + H.val) * 4096 + l.val) * 4608 + j.val) / 4608 % 4096 = l.val; omega
  | ⟨4, _⟩ => show (((b.val * 8 + H.val) * 4096 + l.val) * 4608 + j.val) % 4608 = j.val; omega

/-- The mixed map. -/
theorem map_at (b H : Fin 8) (l : Fin 4096) (j : Fin 4608) :
    val_main_v110 (F := Ideal) x0 x1 x3 (ix4 b H l j)
      = val_main_v103 (F := Ideal) x0 x1 (ix5 b H 0 l j)
        - val_main_v89 (F := Ideal) x3 ix0 * val_main_v103 (F := Ideal) x0 x1 (ix5 b H 1 l j) := by
  rw [val_main_v110_apply, val_main_v109_apply, val_main_v108_apply, first_at, second_at,
    show idx_main_v108 (ix4 b H l j) = ix0 from funext fun a => a.elim0]
  rfl

/-- The map against the values. -/
theorem product_at (b H : Fin 8) (l : Fin 4096) (d : Fin 64) :
    val_main_v112 (F := Ideal) x0 x1 x2 x3 (ix4 b l H d)
      = ∑ j, val_main_v73 (F := Ideal) x0 x2 (ix4 b j H d) * val_main_v110 (F := Ideal) x0 x1 x3 (ix4 b H l j) := by
  unfold val_main_v112 val_main_v111
  generalize val_main_v110 (F := Ideal) x0 x1 x3 = y
  generalize val_main_v73 (F := Ideal) x0 x2 = z
  pointwise

theorem row_at (b H : Fin 8) (l : Fin 4096) (d : Fin 64) :
    val_main_v112 (F := Ideal) x0 x1 x2 x3 (ix4 b l H d)
      = mapped (scores (fun R C => x0 (ix2 R C)) (fun b l H d => x1 (ix4 b l H d)) b H 0 l)
        (scores (fun R C => x0 (ix2 R C)) (fun b l H d => x1 (ix4 b l H d)) b H 1 l) (lambda fun a d => x3 (ix2 a d))
        (valAt (fun R C => x0 (ix2 R C)) (fun b l H d => x2 (ix4 b l H d)) b H d) := by
  have hs : ∀ two, (fun j => val_main_v92 (F := Ideal) x0 x1 (ix5 b H two l j))
      = scores (fun R C => x0 (ix2 R C)) (fun b l H d => x1 (ix4 b l H d)) b H two l :=
    fun two => funext fun j => score_at x0 x1 b H two l j
  rw [product_at]
  unfold mapped
  refine Finset.sum_congr rfl fun j _ => ?_
  rw [map_at, val_at, lambda_at, share_at, share_at]
  simp only [weight_at, hs]

theorem sixtyFour : Ideal.ofBits .f32 1115684864#32 = ((64 : ℝ) : EReal) := by
  simp [Ideal.ofBits, Ideal.ieee]
  rw [← EReal.coe_mul]
  norm_num

theorem sixtyFourth : Ideal.ofBits .f32 1015021568#32 = ((1 / 64 : ℝ) : EReal) := by
  simp [Ideal.ofBits, Ideal.ieee]
  rw [← EReal.coe_mul]
  norm_num

/-- A row's mean square, with the small constant. -/
theorem square_at (b : Fin 8) (l : Fin 4096) (H : Fin 8) :
    val_main_v119 (F := Ideal) x0 x1 x2 x3 (ix4 b l H 0)
      = (∑ d, val_main_v112 (F := Ideal) x0 x1 x2 x3 (ix4 b l H d) * val_main_v112 (F := Ideal) x0 x1 x2 x3 (ix4 b l H d))
          * Ideal.ofBits .f32 1015021568#32 + Ideal.ofBits .f32 897988541#32 := by
  unfold val_main_v119 val_main_v118 val_main_v117 val_main_v116 val_main_v115 val_main_v114 val_main_v113
  generalize val_main_v112 (F := Ideal) x0 x1 x2 x3 = y
  pointwise [val_main_cst_8, val_main_cst_9, val_main_cst_10]
  rw [sixtyFour, sixtyFourth, Ideal.div_coe (by norm_num)]

/-- The normalised rows. -/
theorem scaled_at (b : Fin 8) (l : Fin 4096) (H : Fin 8) (d : Fin 64) :
    val_main_v127 (F := Ideal) x0 x1 x2 x3 x4 (ix4 b l H d)
      = normed (fun d => val_main_v112 (F := Ideal) x0 x1 x2 x3 (ix4 b l H d)) (x4 (ix1 d)) d := by
  have hs := square_at x0 x1 x2 x3 b l H
  unfold val_main_v127 val_main_v126 val_main_v125 val_main_v124 val_main_v123 val_main_v122 val_main_v121 val_main_v120
  generalize val_main_v119 (F := Ideal) x0 x1 x2 x3 = z at hs ⊢
  generalize val_main_v112 (F := Ideal) x0 x1 x2 x3 = y at hs ⊢
  pointwise [val_main_cst_11]
  unfold normed
  rw [hs]

/-- The reference's result, over its rows. -/
theorem result_at (R : Fin 32768) (C : Fin 512) :
    val_main_v129 (F := Ideal) x0 x1 x2 x3 x4 (ix2 R C)
      = normed (fun d => val_main_v112 (F := Ideal) x0 x1 x2 x3
          (ix4 ⟨R.val / 4096, by omega⟩ ⟨R.val % 4096, by omega⟩ ⟨C.val / 64, by omega⟩ d))
        (x4 (ix1 ⟨C.val % 64, by omega⟩)) ⟨C.val % 64, by omega⟩ := by
  have hn := scaled_at x0 x1 x2 x3 x4
  unfold val_main_v129 val_main_v128
  generalize val_main_v127 (F := Ideal) x0 x1 x2 x3 x4 = y at hn ⊢
  pointwise
  exact hn _ _ _ _

end Cert.ReferenceIdeal.Attn

end
-- ==== Proof.Attn.Algebra.lean ====
/-
  The attention kernel and its reference leave the same array: the reference mixes the two softmax maps before it meets
  the values, the kernel attends twice and mixes the results, and under the norm the two agree
  wherever the values and lambda are real.
-/
module

public import proofs.«01_k».proof.Defs
public import proofs.«01_k».proof.Proof.Gen.KernelIdeal.Value
public import proofs.«01_k».proof.Proof.Attn.Final
public import proofs.«01_k».proof.Proof.Attn.Pre
public import proofs.«01_k».proof.Proof.Attn.Degenerate
public import proofs.«01_k».proof.Proof.Attn.RefMap

@[expose] public section

set_option maxRecDepth 16384

noncomputable section

namespace Cert.Attn

open Idealize.ShloMosaic Idealize.ShloMosaic.TcCoe Idealize.SL.Sem
open Idealize.ShloMosaic.Pointwise
open Cert.KernelIdeal Cert.KernelIdeal.Gen
open Cert.KernelIdeal.Attn

section Scalars

variable {p : Fin 32768 → Fin 4608 → EReal} {cv : Fin 8 → Fin 512 → Fin 8 → Fin 64 → EReal}

theorem valAt_real (hp : ∀ R (C : Fin 4608), 2560 ≤ C.val → C.val < 3072 → IsReal (p R C))
    (hcv : ∀ b l H d, IsReal (cv b l H d)) (b H : Fin 8) (d : Fin 64) (j : Fin 4608) : IsReal (valAt p cv b H d j) := by
  unfold valAt
  split
  · exact hp _ _ (by dsimp only; omega) (by dsimp only; omega)
  · exact hcv _ _ _ _

/-- The layer with the reference's head row. -/
theorem layer_eq (ck : Fin 8 → Fin 512 → Fin 8 → Fin 64 → EReal) {lp : Fin 4 → Fin 32 → EReal} (ng : Fin 64 → EReal)
    (hp : ∀ R (C : Fin 4608), 2560 ≤ C.val → C.val < 3072 → IsReal (p R C)) (hcv : ∀ b l H d, IsReal (cv b l H d))
    (hlp : ∀ a d, IsReal (lp a d)) (b H : Fin 8) (l : Fin 4096) (d : Fin 64) :
    layer p ck cv lp ng b H l d
      = normed (fun d => mapped (scores p ck b H 0 l) (scores p ck b H 1 l) (lambda lp) (valAt p cv b H d)) (ng d) d := by
  unfold layer headRow
  exact (normed_mapped (fun d j => valAt_real hp hcv b H d j) (lambda_real hlp) (ng d) d).symm

end Scalars

variable (m : (ℓ : Loc nD τ sig) → Buf (Elt Ideal) ℓ) (c : Dev nD)

/-- The kernel's array is the reference's last stage over the same arguments, when values and lambda are real. -/
theorem final_eq (h : Cert.Pre_KernelIdeal_finite_inputs m) :
    result m c = Cert.ReferenceIdeal.Read.val_main_v129 (F := Ideal) (inP m c) (inCk m c) (inCv m c) (inL m c) (inNg m c) := by
  obtain ⟨h0, h1, h2⟩ := h c
  funext i
  obtain ⟨R, C, rfl⟩ : ∃ (R : Fin 32768) (C : Fin 512), i = ix2 R C := ⟨i 0, i 1, eq_ix2 i⟩
  refine Eq.trans ?_ (Cert.ReferenceIdeal.Attn.result_at _ _ _ _ _ R C).symm
  show layer (argP m c) (argCk m c) (argCv m c) (argL m c) (argNg m c) _ _ _ _ = _
  refine (layer_eq _ _ (fun R C => Pre.real_p h0 R C) (fun _ _ _ _ => Pre.real_cv h1 _) (fun _ _ => Pre.real_lp h2 _) _ _ _ _).trans ?_
  refine congrArg (fun f => normed f _ _) (funext fun d => ?_)
  exact (Cert.ReferenceIdeal.Attn.row_at _ _ _ _ _ _ _ d).symm

/-- The claim: from agreeing arguments, values and lambda finite, both programs end at the same result. -/
theorem algebraic : Cert.algebraic_KernelIdeal_ReferenceIdeal_pre_finite_inputs := by
  intro m g m' g' hpre hag
  refine ⟨fun c => result m c, ?_, ?_⟩
  · refine (θ_run _ _ _).mono (fun r h c => ?_) (Cert.KernelIdeal.Value.run_blocks m g)
    obtain ⟨h0, h1⟩ := h c
    exact ⟨h0.trans (final m c), h1⟩
  · refine (θ_run _ _ _).mono (fun r h c => ?_) (Cert.ReferenceIdeal.Value.run m' g')
    obtain ⟨h0, h1⟩ := h c
    refine ⟨(h0.trans (Cert.ReferenceIdeal.Read.val_main_v129_eq _)).trans ?_, h1⟩
    obtain ⟨a0, a1, a2, a3, a4⟩ := hag c
    refine Eq.trans ?_ (final_eq m c hpre).symm
    show Cert.ReferenceIdeal.Read.val_main_v129 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = _
    rw [a0, a1, a2, a3, a4]

end Cert.Attn

end
-- ==== Proof.InProj.Run.lean ====
/-
  The in_proj kernel's body, run once for each of its three kinds of grid point: the first point of a row block stores the
  normalised rows in the scratch buffer and multiplies them with the first slice of columns, the next eight points
  multiply the rows kept there with their own slice, and the last three multiply a slice of the transposed columns with
  the same rows.
-/
module

public import proofs.«01_k».proof.Proof.Gen.Kernel3Ideal.Frame
public import Idealize.ShloMosaic.Lib.Pipeline.Value
public import Idealize.ShloMosaic.Lib.VecWindow

@[expose] public section

set_option maxRecDepth 16384

noncomputable section

namespace Cert.Kernel3Ideal.InProj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The two modulation rows the first point of a row block loads. -/
abbrev modShift (x : Vec F S1x6x2048 .f32) : Vec F S1x1x2048 .f32 :=
  View.ld x (Rect.unit (s := S1x6x2048) ![0, 0, 0] S1x1x2048.size inb_S1x6x2048_S1x1x2048_0_0_0)
abbrev modScale (x : Vec F S1x6x2048 .f32) : Vec F S1x1x2048 .f32 :=
  View.ld x (Rect.unit (s := S1x6x2048) ![0, 1, 0] S1x1x2048.size inb_S1x6x2048_S1x1x2048_0_1_0)

/-- The rows a row block's first point stores, from the block of the input, the gain and the two modulation rows. -/
def rowsOf (x : Vec F S512x2048 .f32) (g : Vec F S1x2048 .f32) (scale shift : Vec F S1x1x2048 .f32) :
    FVec F S512x2048 .bf16 :=
  have gain : FVec F S1x2048 .f32 := shapeCast S1x2048 g shapeCasts_S1x2048_S1x2048
  have s : FVec F S1x2048 .f32 := shapeCast S1x2048 scale shapeCasts_S1x1x2048_S1x2048
  have d : FVec F S1x2048 .f32 := shapeCast S1x2048 shift shapeCasts_S1x1x2048_S1x2048
  have sum : FVec F S512x1 .f32 := shapeCast S512x1 (multiReduction .add [1] S512 (mulf x x) 0x00000000#32
    reduces_S512x2048_S512 (.inl rfl) rfl) shapeCasts_S512_S512x1
  have inv : FVec F S512x1 .f32 := rsqrt (addf (divf sum (broadcast S512x1 (Scalar.ofBits .f32 0x45000000#32)))
    (broadcast S512x1 (Scalar.ofBits .f32 0x358637BD#32)))
  have n : FVec F S512x2048 .f32 := mulf (mulf x (broadcastTo S512x2048 inv broadcasts_S512x1_S512x2048))
    (broadcastTo S512x2048 gain broadcasts_S1x2048_S512x2048)
  have one : FVec F S1x2048 .f32 := addf (broadcast S1x2048 (Scalar.ofBits .f32 0x3F800000#32)) s
  shapeCast S512x2048 (truncf .bf16 (addf (mulf n (broadcastTo S512x2048 one broadcasts_S1x2048_S512x2048))
    (broadcastTo S512x2048 d broadcasts_S1x2048_S512x2048)) bitsLt_bf16_f32) shapeCasts_S512x2048_S512x2048

/-- The product with a slice of columns. -/
def mainOf (u : Vec F S512x2048 .bf16) (w : Vec F S2048x512 .bf16) : FVec F S512x512 .f32 :=
  matmul dot_S512x2048_S2048x512_S512x512_1_0_0_1_n_n none u (shapeCast S2048x512 w shapeCasts_S2048x512_S2048x512)
    (constant S512x512 .f32 0x00000000#32)

/-- The product of a slice of transposed columns with the rows. -/
def tailOf (u : Vec F S512x2048 .bf16) (w : Vec F S512x2048 .bf16) : FVec F S512x512 .f32 :=
  matmul dot_S512x2048_S512x2048_S512x512_1_1_0_0_n_n none (shapeCast S512x2048 w shapeCasts_S512x2048_S512x2048) u
    (constant S512x512 .f32 0x00000000#32)

/-- The body's three conditions on the grid point. -/
abbrev starts (i : grid0.Coords) : Prop :=
  (Scalar.cmpi .ne (Scalar.extui (Scalar.cmpi .eq (BitVec.ofNat 32 (i 1).val) 0#32)) 0#32) = 1#1
abbrev inMain (i : grid0.Coords) : Prop := k0_cond2 i = 1#1
abbrev inTail (i : grid0.Coords) : Prop := k0_cond3 i = 1#1

section Runs

variable (c : Dev nD) (i : grid0.Coords)
  (arg2 : Memref sig .tc .vmem S512x2048 .f32) (harg2 : arg2.IsWhole)
  (arg3 : Memref sig .tc .vmem S1x6x2048 .f32) (harg3 : arg3.IsWhole)
  (arg4 : Memref sig .tc .vmem S1x2048 .f32) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S512x2048 .bf16) (harg9 : arg9.IsWhole)
  (x0 : Vec F S512x2048 .f32) (x1 : Vec F S1x6x2048 .f32) (x2 : Vec F S1x2048 .f32) (x3 : Vec F S2048x512 .bf16)
  (x4 : Vec F S512x2048 .bf16) (y : Vec F S512x512 .f32) (u : Vec F S512x2048 .bf16)

set_option maxHeartbeats 1000000 in
/-- The last three points: the tail's block is the product, everything else is as it was. -/
theorem run_tail (h0 : ¬starts i) (h1 : ¬inMain i) (h2 : inTail i) (E : Set ℕ) (K : PUnit → sProp 𝕄) :
    iprop(owns (c : Thread nD τ) arg6 fullShare x4 ∗ (∃ d, owns (c : Thread nD τ) arg8 fullShare d)
        ∗ owns (c : Thread nD τ) arg9 fullShare u
        ∗ (iprop(owns (c : Thread nD τ) arg6 fullShare x4 ∗ owns (c : Thread nD τ) arg8 fullShare (tailOf u x4)
            ∗ owns (c : Thread nD τ) arg9 fullShare u) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9) K := by
  unfold cc0_in_proj
  unfold owns
  iintro ⟨⟨%f4, %hf4, H4⟩, ⟨%d8, %f8, -, H8⟩, ⟨%f9, %hf9, H9⟩, Hk⟩
  obtain rfl := harg6.eq_unread hf4; obtain rfl := harg9.eq_unread hf9
  sl_exec (disch := first | sl_exact h0 | sl_exact h1 | sl_exact h2)
  sl_step
  iapply Hk
  isplitl [H4]
  · iexists _; isplitr; · ipureintro; exact harg6.read_unread _
    iexact H4
  isplitl [H8]
  · iexists _; isplitr
    swap; · iexact H8
    ipureintro
    sl_unfold_words
    rw [View.read_writes_full]
    simp only [View.readAt_eq_ld, harg6.read_unread, harg9.read_unread, View.ld_unit_zero (S := S512x2048) hz2]
    rfl
  iexists _; isplitr; · ipureintro; exact harg9.read_unread _
  iexact H9

set_option maxHeartbeats 1000000 in
/-- The next eight points: the main block is the product with the rows kept, everything else is as it was. -/
theorem run_main (h0 : ¬starts i) (h1 : inMain i) (h2 : ¬inTail i) (E : Set ℕ) (K : PUnit → sProp 𝕄) :
    iprop(owns (c : Thread nD τ) arg5 fullShare x3 ∗ (∃ d, owns (c : Thread nD τ) arg7 fullShare d)
        ∗ owns (c : Thread nD τ) arg9 fullShare u
        ∗ (iprop(owns (c : Thread nD τ) arg5 fullShare x3 ∗ owns (c : Thread nD τ) arg7 fullShare (mainOf u x3)
            ∗ owns (c : Thread nD τ) arg9 fullShare u) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9) K := by
  unfold cc0_in_proj
  unfold owns
  iintro ⟨⟨%f3, %hf3, H3⟩, ⟨%d7, %f7, -, H7⟩, ⟨%f9, %hf9, H9⟩, Hk⟩
  obtain rfl := harg5.eq_unread hf3; obtain rfl := harg9.eq_unread hf9
  sl_exec (disch := first | sl_exact h0 | sl_exact h1 | sl_exact h2)
  sl_step
  iapply Hk
  isplitl [H3]
  · iexists _; isplitr; · ipureintro; exact harg5.read_unread _
    iexact H3
  isplitl [H7]
  · iexists _; isplitr
    swap; · iexact H7
    ipureintro
    sl_unfold_words
    rw [View.read_writes_full]
    simp only [View.readAt_eq_ld, harg5.read_unread, harg9.read_unread, View.ld_unit_zero (S := S512x2048) hz2,
      View.ld_unit_zero (S := S2048x512) hz2]
    rfl
  iexists _; isplitr; · ipureintro; exact harg9.read_unread _
  iexact H9

set_option maxHeartbeats 1000000 in
/-- The first point of a row block: the scratch holds the rows and the main block their product with the first slice. -/
theorem run_start (h0 : starts i) (h1 : inMain i) (h2 : ¬inTail i) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg7 fullShare d) ∗ (∃ d, owns (c : Thread nD τ) arg9 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg7 fullShare (mainOf (rowsOf x0 x2 (modScale x1) (modShift x1)) x3)
            ∗ owns (c : Thread nD τ) arg9 fullShare (rowsOf x0 x2 (modScale x1) (modShift x1))) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9) K := by
  unfold cc0_in_proj
  unfold owns
  iintro ⟨⟨%f0, %hf0, H0⟩, ⟨%f1, %hf1, H1⟩, ⟨%f2, %hf2, H2⟩, ⟨%f3, %hf3, H3⟩, ⟨%d7, %f7, -, H7⟩, ⟨%d9, %f9, -, H9⟩, Hk⟩
  obtain rfl := harg2.eq_unread hf0; obtain rfl := harg3.eq_unread hf1; obtain rfl := harg4.eq_unread hf2
  obtain rfl := harg5.eq_unread hf3
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H7]
  · iexists _; isplitr
    swap; · iexact H7
    ipureintro
    sl_unfold_words
    rw [View.read_writes_full, View.readCov_full]
    simp only [View.readAt_eq_ld, harg2.read_unread, harg3.read_unread, harg4.read_unread, harg5.read_unread,
      View.ld_unit_zero (S := S512x2048) hz2, View.ld_unit_zero (S := S1x2048) hz2, View.ld_unit_zero (S := S2048x512) hz2]
    rfl
  iexists _; isplitr
  swap; · iexact H9
  ipureintro
  sl_unfold_words
  rw [View.read_writes_full]
  simp only [View.readAt_eq_ld, harg2.read_unread, harg3.read_unread, harg4.read_unread,
    View.ld_unit_zero (S := S512x2048) hz2, View.ld_unit_zero (S := S1x2048) hz2]
  rfl

end Runs

end Cert.Kernel3Ideal.InProj

end
-- ==== Proof.InProj.Frame.lean ====
/-
  The in_proj kernel's run over its whole grid: what each window's buffer and the scratch hold after every point.  A row
  block's first point (every twelfth) stores the normalised rows; the scratch keeps them for the eleven points after it.
  The main output's block is stored by the first nine points; the ninth's stays in its buffer through the last three,
  which store the tail's blocks, and is written back after them.
-/
module

public import proofs.«01_k».proof.Proof.InProj.Run
public import Idealize.ShloMosaic.Lib.Pipeline.TableIdle
public import Idealize.ShloMosaic.Lib.Claim

@[expose] public section

set_option maxRecDepth 16384

noncomputable section

namespace Cert.Kernel3Ideal.InProj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem starts_iff : ∀ t : Fin cfg0.N, starts (grid0.coords t) ↔ t.val % 12 = 0 :=
  (fun t => by
    have ht : t.val < 768 := Nat.lt_of_lt_of_eq t.isLt N_0
    have e1 : (grid0.coords t 1).val = t.val / 1 % 12 := Pipeline.Grid.coords_val t 1 (by decide) rfl
    simp only [starts, e1]
    word_cmp
   : ∀ t : Fin grid0.N, starts (grid0.coords t) ↔ t.val % 12 = 0)

theorem inMain_iff : ∀ t : Fin cfg0.N, inMain (grid0.coords t) ↔ t.val % 12 < 9 :=
  (fun t => by
    have ht : t.val < 768 := Nat.lt_of_lt_of_eq t.isLt N_0
    have e1 : (grid0.coords t 1).val = t.val / 1 % 12 := Pipeline.Grid.coords_val t 1 (by decide) rfl
    simp only [inMain, k0_cond2, e1]
    word_cmp
   : ∀ t : Fin grid0.N, inMain (grid0.coords t) ↔ t.val % 12 < 9)

theorem inTail_iff : ∀ t : Fin cfg0.N, inTail (grid0.coords t) ↔ 9 ≤ t.val % 12 :=
  (fun t => by
    have ht : t.val < 768 := Nat.lt_of_lt_of_eq t.isLt N_0
    have e1 : (grid0.coords t 1).val = t.val / 1 % 12 := Pipeline.Grid.coords_val t 1 (by decide) rfl
    simp only [inTail, k0_cond3, e1]
    word_cmp
   : ∀ t : Fin grid0.N, inTail (grid0.coords t) ↔ 9 ≤ t.val % 12)

/-- The main output is stored into exactly at the first nine points of a row block, -/
theorem idle_main (t : Fin cfg0.N) : cfg0.idle 5 (grid0.coords t) = true ↔ 9 ≤ t.val % 12 := by
  rw [show cfg0.idle 5 (grid0.coords t) = !(k0_cond2 (grid0.coords t) == 1#1) from rfl, Bool.not_eq_true', beq_eq_false_iff_ne,
    Ne, show (k0_cond2 (grid0.coords t) = 1#1) ↔ t.val % 12 < 9 from inMain_iff t, Nat.not_lt]

/-- the tail's at the last three. -/
theorem idle_tail (t : Fin cfg0.N) : cfg0.idle 6 (grid0.coords t) = true ↔ t.val % 12 < 9 := by
  rw [show cfg0.idle 6 (grid0.coords t) = !(k0_cond3 (grid0.coords t) == 1#1) from rfl, Bool.not_eq_true', beq_eq_false_iff_ne,
    Ne, show (k0_cond3 (grid0.coords t) = 1#1) ↔ 9 ≤ t.val % 12 from inTail_iff t, Nat.not_le]

/-- When each output's block is written back. -/
theorem flush_main : ∀ t : Fin cfg0.N, (cfg0.win 5).flush t = decide (t.val % 12 < 8 ∨ t.val % 12 = 11) := by decide +kernel
theorem flush_tail : ∀ t : Fin cfg0.N, (cfg0.win 6).flush t = decide (9 ≤ t.val % 12) := by decide +kernel

/-- The main output's buffer holds nothing stored yet when the body runs at one of the first nine points. -/
theorem fresh_main (n : ℕ) (hn : n ≤ cfg0.N) : cfg0.fresh 5 n = decide (n % 12 < 9) := by
  refine cfg0.fresh_tab 5 (fun n => decide (n % 12 < 9)) rfl (fun t => ?_) n hn
  rw [flush_main t]
  have hi := idle_main t
  by_cases h : 9 ≤ t.val % 12
  · rw [hi.mpr h]
    simp only [Bool.true_and, ← Bool.decide_or, decide_eq_decide]
    omega
  · rw [Bool.eq_false_iff.mpr (fun e => h (hi.mp e))]
    simp only [Bool.false_and, Bool.or_false, decide_eq_decide]
    omega

/-! ## What the buffers hold -/

/-- The first point of `t`'s row block, and the last point up to `t` of it that stores a block of the main output. -/
def startPt (t : Fin cfg0.N) : Fin cfg0.N := ⟨12 * (t.val / 12), lt_of_le_of_lt (by omega) t.isLt⟩
def mainPt (t : Fin cfg0.N) : Fin cfg0.N := ⟨12 * (t.val / 12) + min (t.val % 12) 8, lt_of_le_of_lt (by omega) t.isLt⟩

/-- The rows the scratch holds after point `t`. -/
def rows (c : Dev nD) (t : Fin cfg0.N) : Vec F S512x2048 .bf16 :=
  rowsOf (iblk m c 0 (startPt t)) (iblk m c 2 (startPt t)) (modScale (iblk m c 1 (startPt t))) (modShift (iblk m c 1 (startPt t)))

/-- The main output's block after point `t`, and the tail's. -/
def mainAt (c : Dev nD) (t : Fin cfg0.N) : Vec F S512x512 .f32 := mainOf (rows m c t) (iblk m c 3 (mainPt t))
def tailAt (c : Dev nD) (t : Fin cfg0.N) : Vec F S512x512 .f32 := tailOf (rows m c t) (iblk m c 4 t)

theorem startPt_of_zero (t : Fin cfg0.N) (h : t.val % 12 = 0) : startPt t = t := Fin.ext (by simp only [startPt]; omega)

theorem mainPt_of_lt (t : Fin cfg0.N) (h : t.val % 12 < 9) : mainPt t = t := Fin.ext (by simp only [mainPt]; omega)

theorem rows_start (c : Dev nD) (t : Fin cfg0.N) (h : t.val % 12 = 0) :
    rows m c t = rowsOf (iblk m c 0 t) (iblk m c 2 t) (modScale (iblk m c 1 t)) (modShift (iblk m c 1 t)) := by
  unfold rows; rw [startPt_of_zero t h]

theorem rows_next (c : Dev nD) (t t' : Fin cfg0.N) (h : ¬t.val % 12 = 0) (e : t'.val = t.val - 1) : rows m c t = rows m c t' := by
  unfold rows; rw [show startPt t = startPt t' from Fin.ext (by simp only [startPt]; omega)]

theorem mainAt_next (c : Dev nD) (t t' : Fin cfg0.N) (h : 9 ≤ t.val % 12) (e : t'.val = t.val - 1) : mainAt m c t = mainAt m c t' := by
  unfold mainAt
  rw [rows_next m c t t' (by omega) e, show mainPt t = mainPt t' from Fin.ext (by simp only [mainPt]; omega)]

/-! ## The proof data -/

/-- The scratch as a memref. -/
abbrev scM : Memref sig .tc .vmem S512x2048 .bf16 := Memref.whole cc0_scratch0

/-- What the region holds before point `n`: the scratch at anything before the first, then at the rows the point before left. -/
def Phi (c : Dev nD) : (n : ℕ) → n ≤ cfg0.N → sProp 𝕄
  | 0, _ => Pipeline.ΦA spec0 c
  | n + 1, hn => iprop(owns (c : Thread nD τ) scM fullShare (rows m c ⟨n, hn⟩) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(owns (c : Thread nD τ) scM fullShare (rows m c ⟨n - 1, by omega⟩) ∗ (∃ r, prngReg c r)) := by
  cases n with
  | zero => exact absurd rfl hz
  | succ n => rfl

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => mainAt m c t
    | ⟨6, _⟩ => tailAt m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = mainAt m c t := by dsimp only [dats]
theorem after_6 (c : Dev nD) (t : Fin cfg0.N) : (dats m 0 c).after 6 t = tailAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- At one of the last three points the main output's buffer still holds the ninth point's block. -/
theorem before_5 (c : Dev nD) (t : Fin cfg0.N) (h : 9 ≤ t.val % 12) (d) : (dats m 0 c).before 5 t d = mainAt m c t := by
  rw [(dats m 0 c).before_out_traj 5 rfl (fun _ _ => rfl) (fun t ht hi _ => by
      rw [after_5, after_5]; exact mainAt_next m c t _ ((idle_main t).mp hi) rfl) t.val t rfl d,
    fresh_main t.val (Nat.le_of_lt t.isLt), if_neg (by simp only [decide_eq_true_eq]; omega), after_5]
  exact (mainAt_next m c t _ h rfl).symm

/-! ## The body at a point -/

abbrev ms0 (t : Fin cfg0.N) : Memref sig .tc .vmem S512x2048 .f32 := win0_0.stage (cfg0.slots t 0)
abbrev ms1 (t : Fin cfg0.N) : Memref sig .tc .vmem S1x6x2048 .f32 := win0_1.stage (cfg0.slots t 1)
abbrev ms2 (t : Fin cfg0.N) : Memref sig .tc .vmem S1x2048 .f32 := win0_2.stage (cfg0.slots t 2)
abbrev ms3 (t : Fin cfg0.N) : Memref sig .tc .vmem S2048x512 .bf16 := win0_3.stage (cfg0.slots t 3)
abbrev ms4 (t : Fin cfg0.N) : Memref sig .tc .vmem S512x2048 .bf16 := win0_4.stage (cfg0.slots t 4)
abbrev ms5 (t : Fin cfg0.N) : Memref sig .tc .vmem S512x512 .f32 := win0_5.stage (cfg0.slots t 5)
abbrev ms6 (t : Fin cfg0.N) : Memref sig .tc .vmem S512x512 .f32 := win0_6.stage (cfg0.slots t 6)

theorem leaves_0 (c : Dev nD) (t : Fin cfg0.N) :
    (dats m 0 c).leavesExact 0 t = owns (c : Thread nD τ) (ms0 t) fullShare (iblk m c 0 t) := by rw [← after_0]
theorem leaves_1 (c : Dev nD) (t : Fin cfg0.N) :
    (dats m 0 c).leavesExact 1 t = owns (c : Thread nD τ) (ms1 t) fullShare (iblk m c 1 t) := by rw [← after_1]
theorem leaves_2 (c : Dev nD) (t : Fin cfg0.N) :
    (dats m 0 c).leavesExact 2 t = owns (c : Thread nD τ) (ms2 t) fullShare (iblk m c 2 t) := by rw [← after_2]
theorem leaves_3 (c : Dev nD) (t : Fin cfg0.N) :
    (dats m 0 c).leavesExact 3 t = owns (c : Thread nD τ) (ms3 t) fullShare (iblk m c 3 t) := by rw [← after_3]
theorem leaves_4 (c : Dev nD) (t : Fin cfg0.N) :
    (dats m 0 c).leavesExact 4 t = owns (c : Thread nD τ) (ms4 t) fullShare (iblk m c 4 t) := by rw [← after_4]

theorem leaves_5 (c : Dev nD) (t : Fin cfg0.N) (h : t.val % 12 < 9) :
    (dats m 0 c).leavesExact 5 t = owns (c : Thread nD τ) (ms5 t) fullShare (mainAt m c t) := by
  have hi : cfg0.idle 5 (cfg0.grid.coords t) = false := Bool.eq_false_iff.mpr fun e => by
    have := (idle_main t).mp e; omega
  unfold Dat.leavesExact; rw [hi, after_5]

theorem leaves_6 (c : Dev nD) (t : Fin cfg0.N) (h : 9 ≤ t.val % 12) :
    (dats m 0 c).leavesExact 6 t = owns (c : Thread nD τ) (ms6 t) fullShare (tailAt m c t) := by
  have hi : cfg0.idle 6 (cfg0.grid.coords t) = false := Bool.eq_false_iff.mpr fun e => by
    have := (idle_tail t).mp e; omega
  unfold Dat.leavesExact; rw [hi, after_6]

theorem leaves_6_idle (c : Dev nD) (t : Fin cfg0.N) (h : t.val % 12 < 9) :
    (dats m 0 c).leavesExact 6 t = iprop(∃ d, owns (c : Thread nD τ) (ms6 t) fullShare ((dats m 0 c).before 6 t d)) :=
  (dats m 0 c).leavesExact_idle 6 t ((idle_tail t).mpr h) (by rw [flush_tail t, decide_eq_false_iff_not]; omega)

/-- What the last three points leave of the main output: its block, written back or not. -/
theorem leaves_5_idle (c : Dev nD) (t : Fin cfg0.N) (h : 9 ≤ t.val % 12)
    (d : (cfg0.win 5).block.Idx → Elt F (cfg0.win 5).elt) :
    owns (c : Thread nD τ) (ms5 t) fullShare (mainAt m c t) ⊢ ((dats m 0 c).leavesExact 5 t : sProp 𝕄) := by
  have hi : cfg0.idle 5 (cfg0.grid.coords t) = true := (idle_main t).mpr h
  by_cases hf : t.val % 12 = 11
  · unfold Dat.leavesExact
    rw [hi, show (cfg0.win 5).flush t = true from by rw [flush_main t, decide_eq_true_eq]; omega, after_5]
  · rw [(dats m 0 c).leavesExact_idle 5 t hi (by rw [flush_main t, decide_eq_false_iff_not]; omega)]
    simp only [before_5 m c t h]
    iintro H
    iexists d; iexact H

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

/-- The scratch before a point, at some contents. -/
theorem Phi_any (c : Dev nD) (t : Fin cfg0.N) :
    (dats m 0 c).Φ t.castSucc ⊢ iprop((∃ d, owns (c : Thread nD τ) scM fullShare d) ∗ (∃ r, prngReg c r)) := by
  rw [Phi_castSucc]
  by_cases hz : t.val = 0
  · rw [Phi_zero m c _ _ hz, PhiA_eq]
  · rw [Phi_pos m c _ _ hz]
    iintro ⟨HS, Hg⟩
    isplitl [HS]
    · iexists _; iexact HS
    iexact Hg

/-- The scratch before a point that does not start a row block: the block's rows. -/
theorem Phi_rows (c : Dev nD) (t : Fin cfg0.N) (h : ¬t.val % 12 = 0) :
    (dats m 0 c).Φ t.castSucc = iprop(owns (c : Thread nD τ) scM fullShare (rows m c t) ∗ (∃ r, prngReg c r)) := by
  rw [Phi_castSucc, Phi_pos m c _ _ (by omega), rows_next m c t ⟨t.val - 1, lt_of_le_of_lt (Nat.sub_le _ _) t.isLt⟩ h rfl]

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = iprop(owns (c : Thread nD τ) scM fullShare (rows m c t) ∗ (∃ r, prngReg c r)) from rfl]
  rw [leaves_0, leaves_1, leaves_2, leaves_3, leaves_4]
  by_cases h0 : t.val % 12 = 0
  · rw [leaves_5 m c t (by omega), leaves_6_idle m c t (by omega),
      show mainAt m c t = mainOf (rows m c t) (iblk m c 3 t) from by unfold mainAt; rw [mainPt_of_lt t (by omega)],
      rows_start m c t h0]
    iintro ⟨HP, Ho, ⟨%d0, H0⟩, ⟨%d1, H1⟩, ⟨%d2, H2⟩, ⟨%d3, H3⟩, H4, ⟨%d5, H5⟩, H6⟩
    ihave HP := (Phi_any m c t) $$ HP
    icases HP with ⟨HS, Hg⟩
    iapply (run_start c (grid0.coords t) _ _ _ _ _ _ _ _ _ _ _ _ _ _ _ _ (iblk m c 0 t) (iblk m c 1 t) (iblk m c 2 t) (iblk m c 3 t)
      ((starts_iff t).mpr h0) ((inMain_iff t).mpr (by omega)) (fun h => absurd ((inTail_iff t).mp h) (by omega)) Set.univ _)
    isplitl [H0]; · iexact H0
    isplitl [H1]; · iexact H1
    isplitl [H2]; · iexact H2
    isplitl [H3]; · iexact H3
    isplitl [H5]; · iexists _; iexact H5
    isplitl [HS]; · iexact HS
    iintro ⟨H0, H1, H2, H3, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]
    · icases H4 with ⟨%d4, H4⟩; iexact H4
    isplitl [H5]; · iexact H5
    iexact H6
  · rw [Phi_rows m c t h0]
    by_cases h1 : t.val % 12 < 9
    · rw [leaves_5 m c t h1, leaves_6_idle m c t h1,
        show mainAt m c t = mainOf (rows m c t) (iblk m c 3 t) from by unfold mainAt; rw [mainPt_of_lt t h1]]
      iintro ⟨⟨HS, Hg⟩, Ho, ⟨%d0, H0⟩, ⟨%d1, H1⟩, ⟨%d2, H2⟩, ⟨%d3, H3⟩, ⟨%d4, H4⟩, ⟨%d5, H5⟩, H6⟩
      iapply (run_main c (grid0.coords t) _ _ _ _ _ _ _ _ _ _ _ _ _ _ _ _ (iblk m c 3 t) (rows m c t)
        (fun h => h0 ((starts_iff t).mp h)) ((inMain_iff t).mpr h1) (fun h => absurd ((inTail_iff t).mp h) (by omega)) Set.univ _)
      isplitl [H3]; · iexact H3
      isplitl [H5]; · iexists _; iexact H5
      isplitl [HS]; · iexact HS
      iintro ⟨H3, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves_6 m c t (by omega)]
      simp only [before_5 m c t (Nat.le_of_not_lt h1)]
      unfold tailAt
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply (run_tail c (grid0.coords t) _ _ _ _ _ _ _ _ _ _ _ _ _ _ _ _ (iblk m c 4 t) (rows m c t)
        (fun h => h0 ((starts_iff t).mp h)) (fun h => h1 ((inMain_iff t).mp h)) ((inTail_iff t).mpr (by omega)) Set.univ _)
      isplitl [H4]; · iexact H4
      isplitl [H6]; · iexists _; iexact H6
      isplitl [HS]; · iexact HS
      iintro ⟨H4, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iapply (leaves_5_idle m c t (Nat.le_of_not_lt h1) d5); iexact H5
      iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 768 := N_0; omega), PhiA_eq]
  iintro ⟨HS, Hg⟩
  isplitl [HS]
  · iexists _; iexact HS
  iexact Hg

set_option backward.isDefEq.respectTransparency.types false in
/-- Every fair run ends, with each array at what the proof data computes and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The argument arrays end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiescent m ρ))

end Cert.Kernel3Ideal.InProj

end
-- ==== Proof.InProj.Spec.lean ====
/-
  The input projection of one token row, as scalars over the arguments: the normalised and modulated row against a column
  of the weights, and the order in which the result keeps the columns.
-/
module

public import proofs.«01_k».proof.Proof.Mlp.Spec

@[expose] public section

noncomputable section

namespace Cert.InProj

open Idealize.ShloMosaic Idealize.ShloMosaic.Pointwise
open Cert.Mlp (normed)

/-- The columns in the order the mixers read them, the narrow groups last and padded with zeros. -/
def packed (f : Fin 5936 → EReal) (n : Fin 4608) : EReal :=
  if n.val < 1536 then f ⟨n.val, by omega⟩
  else if n.val < 4352 then f ⟨n.val + 32, by omega⟩
  else if n.val < 4384 then f ⟨n.val - 2816, by omega⟩
  else if n.val < 4480 then 0
  else if n.val < 4496 then f ⟨n.val - 96, by omega⟩
  else 0

/-! The same, group by group: `a` is the column the group's rule names. -/

section Groups

variable {f : Fin 5936 → EReal} {n : Fin 4608} {col : Fin 5936} {a : EReal}

theorem packed_low (e : a = f col) (hc : col.val = n.val) (h : n.val < 1536) : packed f n = a := by
  unfold packed
  rw [if_pos h, e]
  exact congrArg f (Fin.ext hc.symm)

theorem packed_mid (e : a = f col) (hc : col.val = n.val + 32) (h : 1536 ≤ n.val) (h' : n.val < 4352) : packed f n = a := by
  unfold packed
  rw [if_neg (by omega), if_pos h', e]
  exact congrArg f (Fin.ext hc.symm)

theorem packed_gate (e : a = f col) (hc : col.val = n.val - 2816) (h : 4352 ≤ n.val) (h' : n.val < 4384) :
    packed f n = a := by
  unfold packed
  rw [if_neg (by omega), if_neg (by omega), if_pos h', e]
  exact congrArg f (Fin.ext hc.symm)

theorem packed_gap (h : 4384 ≤ n.val) (h' : n.val < 4480) : packed f n = 0 := by
  unfold packed
  rw [if_neg (by omega), if_neg (by omega), if_neg (by omega), if_pos h']

theorem packed_step (e : a = f col) (hc : col.val = n.val - 96) (h : 4480 ≤ n.val) (h' : n.val < 4496) :
    packed f n = a := by
  unfold packed
  rw [if_neg (by omega), if_neg (by omega), if_neg (by omega), if_neg (by omega), if_pos h', e]
  exact congrArg f (Fin.ext hc.symm)

theorem packed_end (h : 4496 ≤ n.val) : packed f n = 0 := by
  unfold packed
  rw [if_neg (by omega), if_neg (by omega), if_neg (by omega), if_neg (by omega), if_neg (by omega)]

end Groups

/-- What both branches are, the choice between them is. -/
theorem dite_both {P : Prop} [Decidable P] {a : P → EReal} {b : ¬P → EReal} {c : EReal} (h : ∀ p, a p = c)
    (h' : ∀ p, b p = c) : dite P a b = c := by
  by_cases p : P
  · rw [dif_pos p, h]
  · rw [dif_neg p, h']

/-- A sum against packed columns is the packed sum. -/
theorem sum_packed {K : ℕ} (u : Fin K → EReal) (w : Fin K → Fin 5936 → EReal) (n : Fin 4608) :
    (∑ k, u k * packed (w k) n) = packed (fun col => ∑ k, u k * w k col) n := by
  unfold packed
  split_ifs <;> first | rfl | (simp only [mul_zero, Finset.sum_const_zero])

variable (X : FVec Ideal ⟨2, ![32768, 2048]⟩ .f32) (M : FVec Ideal ⟨2, ![8, 12288]⟩ .f32)
  (G : FVec Ideal ⟨1, ![2048]⟩ .f32) (W : FVec Ideal ⟨2, ![2048, 5936]⟩ .f32)

/-- Row `r`, a token of sequence `b`: normalised, scaled and shifted by the sequence's first modulation. -/
def innerRow (b : Fin 8) (r : Fin 32768) (e : Fin 2048) : EReal :=
  normed (fun k => X (ix2 r k)) (G (ix1 e)) e * (1 + M (ix2 b ⟨2048 + e.val, by omega⟩))
    + M (ix2 b ⟨e.val, by omega⟩)

/-- The sequence a row belongs to. -/
abbrev seqOf (r : Fin 32768) : Fin 8 := ⟨r.val / 4096, by omega⟩

/-- Row `r` against column `col` of the weights. -/
def product (r : Fin 32768) (col : Fin 5936) : EReal :=
  ∑ k : Fin 2048, innerRow X M G (seqOf r) r k * W (ix2 k col)

end Cert.InProj

end
-- ==== Proof.InProj.Columns.lean ====
/-
  The columns the in_proj kernel multiplies with, as its host lines put them together from the weights.
-/
module

public import proofs.«01_k».proof.Proof.InProj.Frame
public import proofs.«01_k».proof.Proof.InProj.Spec
public import Idealize.ShloMosaic.Lib.Pipeline.ValueKit
public import Idealize.ShloMosaic.Lib.Claim

@[expose] public section

set_option maxRecDepth 16384

noncomputable section

namespace Cert.Kernel3Ideal.InProj

open Cert.Kernel3Ideal Cert.Kernel3Ideal.Gen Idealize.ShloMosaic Idealize.ShloMosaic.TcCoe Idealize.SL.Sem
open Idealize.ShloMosaic.Pointwise Cert.InProj

/-- The narrow groups beside the last 256 channels, padded with zeros. -/
def narrow (w : FVec Ideal S2048x5936 .f32) : FVec Ideal S2048x512 .f32 :=
  concatenate S2048x512 1
    [⟨S2048x256, extractStridedSlice S2048x256 ![0, 512]
      (extractStridedSlice S2048x768 ![0, 3616] w slices_S2048x5936_S2048x768_0_3616) slices_S2048x768_S2048x256_0_512⟩,
     ⟨S2048x32, extractStridedSlice S2048x32 ![0, 1536] w slices_S2048x5936_S2048x32_0_1536⟩,
     ⟨S2048x96, broadcastInDim S2048x96 ![] bcast_S_S2048x96 (constant (F := Ideal) S_ .f32 0x00000000#32)⟩,
     ⟨S2048x16, extractStridedSlice S2048x16 ![0, 4384] w slices_S2048x5936_S2048x16_0_4384⟩,
     ⟨S2048x112, broadcastInDim S2048x112 ![] bcast_S_S2048x112 (constant (F := Ideal) S_ .f32 0x00000000#32)⟩]
    concatenates_S2048x256_S2048x32_S2048x96_S2048x16_S2048x112_S2048x512_d1

/-- All the columns but the tail's. -/
def joined (w : FVec Ideal S2048x5936 .f32) : FVec Ideal S2048x4608 .f32 :=
  concatenate S2048x4608 1
    [⟨S2048x256, extractStridedSlice S2048x256 ![0, 0] w slices_S2048x5936_S2048x256_0_0⟩,
     ⟨S2048x256, extractStridedSlice S2048x256 ![0, 256] w slices_S2048x5936_S2048x256_0_256⟩,
     ⟨S2048x512, extractStridedSlice S2048x512 ![0, 512] w slices_S2048x5936_S2048x512_0_512⟩,
     ⟨S2048x512, extractStridedSlice S2048x512 ![0, 1024] w slices_S2048x5936_S2048x512_0_1024⟩,
     ⟨S2048x512, extractStridedSlice S2048x512 ![0, 1568] w slices_S2048x5936_S2048x512_0_1568⟩,
     ⟨S2048x512, extractStridedSlice S2048x512 ![0, 2080] w slices_S2048x5936_S2048x512_0_2080⟩,
     ⟨S2048x512, extractStridedSlice S2048x512 ![0, 2592] w slices_S2048x5936_S2048x512_0_2592⟩,
     ⟨S2048x512, extractStridedSlice S2048x512 ![0, 3104] w slices_S2048x5936_S2048x512_0_3104⟩,
     ⟨S2048x512, extractStridedSlice S2048x512 ![0, 0]
      (extractStridedSlice S2048x768 ![0, 3616] w slices_S2048x5936_S2048x768_0_3616) slices_S2048x768_S2048x512_0_0⟩,
     ⟨S2048x512, narrow w⟩]
    concatenates_S2048x256_S2048x256_S2048x512_S2048x512_S2048x512_S2048x512_S2048x512_S2048x512_S2048x512_S2048x512_S2048x4608_d1

variable (m : (ℓ : Loc nD τ sig) → Buf (Elt Ideal) ℓ) (c : Dev nD)

/-- The arguments, at their literal types. -/
abbrev inX : FVec Ideal S32768x2048 .f32 := m ((c : Thread nD τ).loc main_arg0)
abbrev inM : FVec Ideal S8x12288 .f32 := m ((c : Thread nD τ).loc main_arg1)
abbrev inG : FVec Ideal S2048 .f32 := m ((c : Thread nD τ).loc main_arg2)
abbrev inW : FVec Ideal S2048x5936 .f32 := m ((c : Thread nD τ).loc main_arg3)

set_option maxHeartbeats 4000000 in
/-- What the host lines leave in the operand the kernel reads. -/
theorem columns_eq :
    (V m c main_v18 : FVec Ideal S2048x4608 .bf16) = truncf .bf16 (joined (inW m c)) bitsLt_bf16_f32 := by
  show StableHlo.after hostOps0 _ _ = _
  after_results
  unfold joined narrow
  rfl

theorem narrow_at (w : FVec Ideal S2048x5936 .f32) (k : Fin 2048) (n : Fin 512) (N : Fin 4608) (hN : N.val = n.val + 4096) :
    narrow w (ix2 k n) = packed (fun col => w (ix2 k col)) N := by
  pointwise [narrow]
  generalize hf : (fun col => w (ix2 k col)) = f
  have hw : ∀ col, w (ix2 k col) = f col := congrFun hf
  refine dite_both (fun h => (packed_mid (hw _) (by dsimp only; omega) (by omega) (by omega)).symm) (fun h1 => ?_)
  refine dite_both (fun h => (packed_gate (hw _) (by dsimp only; omega) (by omega) (by omega)).symm) (fun h2 => ?_)
  refine dite_both (fun h => (packed_gap (by omega) (by omega)).symm) (fun h3 => ?_)
  exact dite_both (fun h => (packed_step (hw _) (by dsimp only; omega) (by omega) (by omega)).symm)
    (fun h4 => (packed_end (by omega)).symm)

theorem joined_at (w : FVec Ideal S2048x5936 .f32) (k : Fin 2048) (n : Fin 4608) :
    joined w (ix2 k n) = packed (fun col => w (ix2 k col)) n := by
  have hn := narrow_at w k
  unfold joined
  generalize narrow w = y at hn ⊢
  pointwise
  generalize hf : (fun col => w (ix2 k col)) = f at hn ⊢
  have hw : ∀ col, w (ix2 k col) = f col := congrFun hf
  refine dite_both (fun h => (packed_low (hw _) rfl (by omega)).symm) (fun h1 => ?_)
  refine dite_both (fun h => (packed_low (hw _) (by dsimp only; omega) (by omega)).symm) (fun h2 => ?_)
  refine dite_both (fun h => (packed_low (hw _) (by dsimp only; omega) (by omega)).symm) (fun h3 => ?_)
  refine dite_both (fun h => (packed_low (hw _) (by dsimp only; omega) (by omega)).symm) (fun h4 => ?_)
  refine dite_both (fun h => (packed_mid (hw _) (by dsimp only; omega) (by omega) (by omega)).symm) (fun h5 => ?_)
  refine dite_both (fun h => (packed_mid (hw _) (by dsimp only; omega) (by omega) (by omega)).symm) (fun h6 => ?_)
  refine dite_both (fun h => (packed_mid (hw _) (by dsimp only; omega) (by omega) (by omega)).symm) (fun h7 => ?_)
  refine dite_both (fun h => (packed_mid (hw _) (by dsimp only; omega) (by omega) (by omega)).symm) (fun h8 => ?_)
  exact dite_both (fun h => (packed_mid (hw _) (by dsimp only; omega) (by omega) (by omega)).symm)
    (fun h9 => hn _ n (by dsimp only; omega))

end Cert.Kernel3Ideal.InProj

end
-- ==== Proof.InProj.Points.lean ====
/-
  The in_proj kernel's blocks and payloads at an index: what every point stores, over the arguments.
-/
module

public import proofs.«01_k».proof.Proof.InProj.Columns
public import Idealize.ShloMosaic.Lib.Pipeline.ValueKit
public import Idealize.ShloMosaic.Lib.Claim

@[expose] public section

set_option maxRecDepth 16384

noncomputable section

namespace Cert.Kernel3Ideal.InProj

open Cert.Kernel3Ideal Cert.Kernel3Ideal.Gen Idealize.ShloMosaic Idealize.ShloMosaic.TcCoe Idealize.SL.Sem
open Idealize.ShloMosaic.Pointwise Cert.InProj
open Cert.Mlp (normed)

/-- The rows a row block's first point stores. -/
theorem rowsOf_at (x : FVec Ideal S512x2048 .f32) (g : FVec Ideal S1x2048 .f32) (sc sh : FVec Ideal S1x1x2048 .f32)
    (r : Fin 512) (e : Fin 2048) :
    rowsOf (F := Ideal) x g sc sh (ix2 r e)
      = normed (fun k => x (ix2 r k)) (g (ix2 0 e)) e * (1 + sc (ix3 0 0 e)) + sh (ix3 0 0 e) := by
  pointwise [rowsOf, normed]

theorem mainOf_at (u : FVec Ideal S512x2048 .bf16) (w : FVec Ideal S2048x512 .bf16) (r f : Fin 512) :
    mainOf (F := Ideal) u w (ix2 r f) = ∑ k : Fin 2048, u (ix2 r k) * w (ix2 k f) := by
  pointwise [mainOf]

theorem tailOf_at (u : FVec Ideal S512x2048 .bf16) (w : FVec Ideal S512x2048 .bf16) (f r : Fin 512) :
    tailOf (F := Ideal) u w (ix2 f r) = ∑ k : Fin 2048, w (ix2 f k) * u (ix2 r k) := by
  pointwise [tailOf]

theorem shift_at (x : FVec Ideal S1x6x2048 .f32) (e : Fin 2048) :
    (modShift (F := Ideal) x : FVec Ideal S1x1x2048 .f32) (ix3 0 0 e) = x (ix3 0 0 e) := by
  unfold modShift
  pointwise

theorem scale_at (x : FVec Ideal S1x6x2048 .f32) (e : Fin 2048) :
    (modScale (F := Ideal) x : FVec Ideal S1x1x2048 .f32) (ix3 0 0 e) = x (ix3 0 1 e) := by
  unfold modScale
  pointwise

variable (m : (ℓ : Loc nD τ sig) → Buf (Elt Ideal) ℓ) (c : Dev nD)

/-- The index maps at every grid point. -/
theorem idx : ∀ t : Fin cfg0.N,
    win0_0.index t = ![t.val / 12, 0] ∧ win0_1.index t = ![t.val / 96, 0, 0] ∧ win0_2.index t = ![0, 0]
      ∧ win0_3.index t = ![0, min (t.val % 12) 8] ∧ win0_4.index t = ![t.val % 12 - 9, 0]
      ∧ win0_5.index t = ![t.val / 12, min (t.val % 12) 8] ∧ win0_6.index t = ![t.val % 12 - 9, t.val / 12]
      ∧ t.val < 768 :=
  (by decide +kernel : ∀ t : Fin grid0.N, _)

theorem blkX (t : Fin cfg0.N) (r : Fin 512) (e : Fin 2048) (h : t.val / 12 * 512 + r.val < 32768) :
    (iblk m c 0 t : FVec Ideal S512x2048 .f32) (ix2 r e) = inX m c (ix2 ⟨t.val / 12 * 512 + r.val, h⟩ e) := by
  blk_ext [iblk, V, idx t]

set_option maxHeartbeats 1600000 in
theorem blkM (t : Fin cfg0.N) (j : Fin 6) (e : Fin 2048) (h : t.val / 96 < 8) (h' : j.val * 2048 + e.val < 12288) :
    (iblk m c 1 t : FVec Ideal S1x6x2048 .f32) (ix3 0 j e)
      = inM m c (ix2 ⟨t.val / 96, h⟩ ⟨j.val * 2048 + e.val, h'⟩) := by
  blk_simp [iblk, V, idx t]
  entry_read
  pointwise
  blk_ext [idx t]

set_option maxHeartbeats 1600000 in
theorem blkG (t : Fin cfg0.N) (e : Fin 2048) :
    (iblk m c 2 t : FVec Ideal S1x2048 .f32) (ix2 0 e) = inG m c (ix1 e) := by
  blk_simp [iblk, V, idx t]
  entry_read
  pointwise
  blk_ext [idx t]

set_option maxHeartbeats 1600000 in
/-- A slice of the packed columns. -/
theorem blkW (t : Fin cfg0.N) (k : Fin 2048) (f : Fin 512) (h : min (t.val % 12) 8 * 512 + f.val < 4608) :
    (iblk m c 3 t : FVec Ideal S2048x512 .bf16) (ix2 k f)
      = packed (fun col => inW m c (ix2 k col)) ⟨min (t.val % 12) 8 * 512 + f.val, h⟩ := by
  have hc := columns_eq m c
  blk_simp [iblk, V, idx t]
  refine (congrFun hc _).trans (Eq.trans ?_ (joined_at (inW m c) k ⟨min (t.val % 12) 8 * 512 + f.val, h⟩))
  refine congrArg (joined (inW m c)) ?_
  blk_ext [idx t]

set_option maxHeartbeats 1600000 in
/-- A slice of the transposed columns. -/
theorem blkH (t : Fin cfg0.N) (f : Fin 512) (k : Fin 2048) (h : 4400 + ((t.val % 12 - 9) * 512 + f.val) < 5936) :
    (iblk m c 4 t : FVec Ideal S512x2048 .bf16) (ix2 f k)
      = inW m c (ix2 k ⟨4400 + ((t.val % 12 - 9) * 512 + f.val), h⟩) := by
  blk_simp [iblk, V, idx t]
  entry_read
  pointwise
  blk_ext [idx t]

end Cert.Kernel3Ideal.InProj

end
-- ==== Proof.InProj.Final.lean ====
/-
  The in_proj kernel's two results: the blocks its points write back, over the whole grid.
-/
module

public import proofs.«01_k».proof.Proof.InProj.Points
public import proofs.«01_k».proof.Proof.InProj.Frame

@[expose] public section

set_option maxRecDepth 16384

noncomputable section

namespace Cert.Kernel3Ideal.InProj

open Cert.Kernel3Ideal Cert.Kernel3Ideal.Gen Idealize.ShloMosaic Idealize.ShloMosaic.TcCoe Idealize.SL.Sem
open Idealize.ShloMosaic.Pointwise Cert.InProj
open Cert.Mlp (normed)
open Idealize.ShloMosaic.Pipeline (Dat)

variable (m : (ℓ : Loc nD τ sig) → Buf (Elt Ideal) ℓ) (c : Dev nD)

/-- The rows point `t` multiplies are those of its row block. -/
theorem rows_at (t : Fin cfg0.N) (r : Fin 512) (e : Fin 2048) (R : Fin 32768) (hR : R.val = t.val / 12 * 512 + r.val) :
    rows m c t (ix2 r e) = innerRow (inX m c) (inM m c) (inG m c) (seqOf R) R e := by
  have ht := (idx t).2.2.2.2.2.2.2
  have hs : (startPt t).val = 12 * (t.val / 12) := rfl
  have hx : ∀ k, (iblk m c 0 (startPt t) : FVec Ideal S512x2048 .f32) (ix2 r k) = inX m c (ix2 R k) := fun k => by
    refine (blkX m c (startPt t) r k (by omega)).trans (congrArg (fun i => inX m c (ix2 i k)) (Fin.ext ?_))
    show (startPt t).val / 12 * 512 + r.val = R.val
    omega
  have hm : ∀ (j : Fin 6) (n : Fin 12288), n.val = j.val * 2048 + e.val →
      (iblk m c 1 (startPt t) : FVec Ideal S1x6x2048 .f32) (ix3 0 j e) = inM m c (ix2 (seqOf R) n) := fun j n hn => by
    refine (blkM m c (startPt t) j e (by omega) (by omega)).trans ?_
    congr 2
    · refine Fin.ext ?_
      show (startPt t).val / 96 = R.val / 4096
      omega
    · exact Fin.ext hn.symm
  unfold rows innerRow
  refine (rowsOf_at _ _ _ _ r e).trans ?_
  refine Ideal.add_congr (Ideal.mul_congr ?_ ?_) ?_
  · rw [blkG m c (startPt t) e]
    exact congrArg (fun f => normed f (inG m c (ix1 e)) e) (funext hx)
  · exact congrArg (fun z : EReal => 1 + z)
      ((scale_at _ e).trans (hm 1 ⟨2048 + e.val, by omega⟩ (by show 2048 + e.val = 1 * 2048 + e.val; omega)))
  · exact (shift_at _ e).trans (hm 0 ⟨e.val, by omega⟩ (by show e.val = 0 * 2048 + e.val; omega))

/-- The main output's block. -/
theorem main_point (t : Fin cfg0.N) (r f : Fin 512) (R : Fin 32768) (n : Fin 4608)
    (hR : R.val = t.val / 12 * 512 + r.val) (hn : n.val = min (t.val % 12) 8 * 512 + f.val) :
    mainAt m c t (ix2 r f) = packed (product (inX m c) (inM m c) (inG m c) (inW m c) R) n := by
  have hp : (mainPt t).val = 12 * (t.val / 12) + min (t.val % 12) 8 := rfl
  unfold mainAt product
  refine (mainOf_at _ _ r f).trans ?_
  rw [← sum_packed]
  refine Finset.sum_congr rfl fun k _ => Ideal.mul_congr (rows_at m c t r k R hR) ?_
  refine (blkW m c (mainPt t) k f (by omega)).trans (congrArg (packed _) (Fin.ext ?_))
  show min ((mainPt t).val % 12) 8 * 512 + f.val = n.val
  omega

/-- The tail's block. -/
theorem tail_point (t : Fin cfg0.N) (h : 9 ≤ t.val % 12) (f r : Fin 512) (R : Fin 32768) (n : Fin 1536)
    (hR : R.val = t.val / 12 * 512 + r.val) (hn : n.val = (t.val % 12 - 9) * 512 + f.val) :
    tailAt m c t (ix2 f r) = product (inX m c) (inM m c) (inG m c) (inW m c) R ⟨4400 + n.val, by omega⟩ := by
  unfold tailAt product
  refine (tailOf_at _ _ f r).trans (Finset.sum_congr rfl fun k _ => ?_)
  refine (mul_comm _ _).trans (Ideal.mul_congr (rows_at m c t r k R hR) ?_)
  refine (blkH m c t f k (by omega)).trans (congrArg (fun i => inW m c (ix2 k i)) (Fin.ext ?_))
  show 4400 + ((t.val % 12 - 9) * 512 + f.val) = 4400 + n.val
  omega

/-- The two results. -/
def mainResult : FVec Ideal S32768x4608 .f32 :=
  fun i => packed (product (inX m c) (inM m c) (inG m c) (inW m c) (i 0)) (i 1)

def tailResult : FVec Ideal S1536x32768 .f32 :=
  fun i => product (inX m c) (inM m c) (inG m c) (inW m c) (i 1) ⟨4400 + (i 0).val, by have : (i 0).val < 1536 := (i 0).isLt; omega⟩

set_option maxHeartbeats 1600000 in
theorem main_final : (dats m 0 c).arrAt 5 cfg0.N = mainResult m c := by
  refine (dats m 0 c).arrAt_eq_of_covers 5 _ (by decide +kernel) fun t _ y => ?_
  blk_simp
  rw [after_5]
  obtain ⟨r, f, rfl⟩ : ∃ (r f : Fin 512), y = ix2 r f := ⟨y 0, y 1, eq_ix2 y⟩
  have ht := (idx t).2.2.2.2.2.2.2
  refine (main_point m c t r f ⟨t.val / 12 * 512 + r.val, by omega⟩ ⟨min (t.val % 12) 8 * 512 + f.val, by omega⟩ rfl rfl).trans ?_
  have hi : (((cfg0.win 5).blk t).view.emb (ix2 r f) : S32768x4608.Idx)
      = ix2 ⟨t.val / 12 * 512 + r.val, by omega⟩ ⟨min (t.val % 12) 8 * 512 + f.val, by omega⟩ := by
    blk_ext [idx t]
  rw [hi]
  rfl

set_option maxHeartbeats 1600000 in
theorem tail_final : (dats m 0 c).arrAt 6 cfg0.N = tailResult m c := by
  refine (dats m 0 c).arrAt_eq_of_covers 6 _ (by decide +kernel) fun t hf y => ?_
  have h9 : 9 ≤ t.val % 12 := by
    have := (flush_tail t).symm.trans hf
    exact of_decide_eq_true this
  blk_simp
  rw [after_6]
  obtain ⟨f, r, rfl⟩ : ∃ (f r : Fin 512), y = ix2 f r := ⟨y 0, y 1, eq_ix2 y⟩
  have ht := (idx t).2.2.2.2.2.2.2
  refine (tail_point m c t h9 f r ⟨t.val / 12 * 512 + r.val, by omega⟩ ⟨(t.val % 12 - 9) * 512 + f.val, by omega⟩ rfl rfl).trans ?_
  have hi : (((cfg0.win 6).blk t).view.emb (ix2 f r) : S1536x32768.Idx)
      = ix2 ⟨(t.val % 12 - 9) * 512 + f.val, by omega⟩ ⟨t.val / 12 * 512 + r.val, by omega⟩ := by
    blk_ext [idx t]
  rw [hi]
  rfl

end Cert.Kernel3Ideal.InProj

end
-- ==== Proof.InProj.Ref.lean ====
/-
  The reference of the input projection read at an index.
-/
module

public import proofs.«01_k».proof.Proof.Gen.Reference3Ideal.Read
public import proofs.«01_k».proof.Proof.InProj.Spec

@[expose] public section

set_option maxRecDepth 16384

noncomputable section

namespace Cert.Reference3Ideal.InProj

open Cert.Reference3Ideal Cert.Reference3Ideal.Gen Cert.Reference3Ideal.Read
open Idealize.ShloMosaic Idealize.ShloMosaic.TcCoe Idealize.SL.Sem
open Idealize.ShloMosaic.Pointwise Cert.InProj
open Cert.Mlp (normed)

variable (X : FVec Ideal S32768x2048 .f32) (M : FVec Ideal S8x12288 .f32) (G : FVec Ideal S2048 .f32)
  (W : FVec Ideal S2048x5936 .f32)

/-- The row the tokens of sequence `b` are numbered by. -/
abbrev rowOf (b : Fin 8) (l : Fin 4096) : Fin 32768 := ⟨b.val * 4096 + l.val, by omega⟩

/-- The modulated rows. -/
theorem row_at (b : Fin 8) (l : Fin 4096) (e : Fin 2048) :
    val_main_v26 (F := Ideal) X M G (ix3 b l e) = innerRow X M G b (rowOf b l) e := by
  pointwise [val_main_v26, val_main_v25, val_main_v24, val_main_v23, val_main_v22, val_main_v21, val_main_cst_2,
    val_main_v20, val_main_v19, val_main_v18, val_main_v17, val_main_v16, val_main_v15, val_main_v14, val_main_v13,
    val_main_cst_1, val_main_v12, val_main_v11, val_main_cst_0, val_main_v10, val_main_v9, val_main_cst, val_main_v8,
    val_main_v0, val_main_v1, val_main_v2, val_main_v3, innerRow, normed]

/-- The product with the weights. -/
theorem product_at (b : Fin 8) (l : Fin 4096) (col : Fin 5936) :
    val_main_v27 (F := Ideal) X M G W (ix3 b l col) = ∑ k, innerRow X M G b (rowOf b l) k * W (ix2 k col) := by
  have hr := row_at X M G b l
  unfold val_main_v27
  generalize val_main_v26 (F := Ideal) X M G = y at hr ⊢
  pointwise
  simp only [hr]

/-- The product, over the rows as the result numbers them. -/
theorem product_row (r : Fin 32768) (col : Fin 5936) :
    val_main_v27 (F := Ideal) X M G W (ix3 ⟨r.val / 4096, by omega⟩ ⟨r.val % 4096, by omega⟩ col)
      = product X M G W r col := by
  rw [product_at]
  unfold product
  rw [show rowOf ⟨r.val / 4096, by omega⟩ ⟨r.val % 4096, by omega⟩ = r from Fin.ext (by show r.val / 4096 * 4096 + r.val % 4096 = r.val; omega)]

/-- The first result. -/
theorem main_at (r : Fin 32768) (n : Fin 4608) :
    val_main_v54 (F := Ideal) X M G W (ix2 r n) = packed (product X M G W r) n := by
  have hp := product_row X M G W r
  unfold val_main_v54 val_main_v40 val_main_v41 val_main_v42 val_main_v43 val_main_v45 val_main_v46 val_main_v47 val_main_v48 val_main_v49 val_main_v44 val_main_v50 val_main_v28 val_main_v29 val_main_v30 val_main_v31 val_main_v32 val_main_v33 val_main_v34 val_main_v35 val_main_v36 val_main_v37 val_main_v38
  generalize val_main_v27 (F := Ideal) X M G W = y at hp ⊢
  pointwise [val_main_v52, val_main_v53, val_main_cst_3, val_main_cst_4]
  refine dite_both (fun h => (packed_low (hp _) rfl (by omega)).symm) (fun h1 => ?_)
  refine dite_both (fun h => (packed_low (hp _) (by dsimp only; omega) (by omega)).symm) (fun h2 => ?_)
  refine dite_both (fun h => (packed_low (hp _) (by dsimp only; omega) (by omega)).symm) (fun h3 => ?_)
  refine dite_both (fun h => (packed_low (hp _) (by dsimp only; omega) (by omega)).symm) (fun h4 => ?_)
  refine dite_both (fun h => (packed_mid (hp _) (by dsimp only; omega) (by omega) (by omega)).symm) (fun h5 => ?_)
  refine dite_both (fun h => (packed_mid (hp _) (by dsimp only; omega) (by omega) (by omega)).symm) (fun h6 => ?_)
  refine dite_both (fun h => (packed_mid (hp _) (by dsimp only; omega) (by omega) (by omega)).symm) (fun h7 => ?_)
  refine dite_both (fun h => (packed_mid (hp _) (by dsimp only; omega) (by omega) (by omega)).symm) (fun h8 => ?_)
  refine dite_both (fun h => (packed_mid (hp _) (by dsimp only; omega) (by omega) (by omega)).symm) (fun h9 => ?_)
  refine dite_both (fun h => (packed_gate (hp _) (by dsimp only; omega) (by omega) (by omega)).symm) (fun h10 => ?_)
  refine dite_both (fun h => (packed_gap (by omega) (by omega)).symm) (fun h11 => ?_)
  exact dite_both (fun h => (packed_step (hp _) (by dsimp only; omega) (by omega) (by omega)).symm)
    (fun h12 => (packed_end (by omega)).symm)

/-- The second result. -/
theorem tail_at (n : Fin 1536) (r : Fin 32768) :
    val_main_v55 (F := Ideal) X M G W (ix2 n r) = product X M G W r ⟨4400 + n.val, by omega⟩ := by
  have hp := product_row X M G W r
  unfold val_main_v55 val_main_v51 val_main_v39
  generalize val_main_v27 (F := Ideal) X M G W = y at hp ⊢
  pointwise
  exact hp _

end Cert.Reference3Ideal.InProj

end
-- ==== Proof.InProj.Algebra.lean ====
/-
  The in_proj kernel and its reference leave the same two arrays.
-/
module

public import proofs.«01_k».proof.Defs
public import proofs.«01_k».proof.Proof.InProj.Final
public import proofs.«01_k».proof.Proof.InProj.Ref

@[expose] public section

set_option maxRecDepth 16384

noncomputable section

namespace Cert.InProj

open Idealize.ShloMosaic Idealize.ShloMosaic.TcCoe Idealize.SL.Sem
open Idealize.ShloMosaic.Pointwise
open Cert.Kernel3Ideal Cert.Kernel3Ideal.Gen
open Cert.Kernel3Ideal.InProj

variable (m : (ℓ : Loc nD τ sig) → Buf (Elt Ideal) ℓ) (c : Dev nD)

theorem main_eq :
    mainResult m c = Cert.Reference3Ideal.Read.val_main_v54 (F := Ideal) (inX m c) (inM m c) (inG m c) (inW m c) := by
  funext i
  obtain ⟨r, n, rfl⟩ : ∃ (r : Fin 32768) (n : Fin 4608), i = ix2 r n := ⟨i 0, i 1, eq_ix2 i⟩
  exact (Cert.Reference3Ideal.InProj.main_at _ _ _ _ r n).symm

theorem tail_eq :
    tailResult m c = Cert.Reference3Ideal.Read.val_main_v55 (F := Ideal) (inX m c) (inM m c) (inG m c) (inW m c) := by
  funext i
  obtain ⟨n, r, rfl⟩ : ∃ (n : Fin 1536) (r : Fin 32768), i = ix2 n r := ⟨i 0, i 1, eq_ix2 i⟩
  exact (Cert.Reference3Ideal.InProj.tail_at _ _ _ _ n r).symm

/-- What the kernel leaves: both results and the arguments. -/
theorem kernel_run (g : Dev nD → PrngReg) : θ_run defs (onTc (τ := τ) (main (F := Ideal))) ⟨m, fun _ => 0, g⟩ (fun r => ∀ c : Dev nD,
      r.2.mem ((c.tc : Thread nD τ).loc main_v23_0) = mainResult m c
      ∧ r.2.mem ((c.tc : Thread nD τ).loc main_v23_1) = tailResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 5).trans (main_final m c), ((h.1 c).1 6).trans (tail_final m c), h.2 c⟩)
    (θ_run_and (run m g) (frame_of m g (dats m) (A_eq m) (run m g)))

/-- The claim: from agreeing arguments both programs end at the same two results. -/
theorem algebraic : Cert.algebraic_Kernel3Ideal_Reference3Ideal := by
  intro m g m' g' _ hag
  refine ⟨fun c => mainResult m c, fun c => tailResult m c, kernel_run m g, ?_⟩
  refine (θ_run _ _ _).mono (fun r h c => ?_) (Cert.Reference3Ideal.Value.run m' g')
  obtain ⟨h0, h1, h2⟩ := h c
  obtain ⟨a0, a1, a2, a3⟩ := hag c
  refine ⟨h0.trans ?_, h1.trans ?_, h2⟩
  · refine (Cert.Reference3Ideal.Read.val_main_v54_eq m' c).trans ?_
    rw [a0, a1, a2, a3]
    exact (main_eq m c).symm
  · rw [a0, a1, a2, a3]
    exact (Cert.Reference3Ideal.Read.val_main_v55_eq _ _ _ _).trans (tail_eq m c).symm

end Cert.InProj

end
-- ==== Proof.InProj.Bits.lean ====
/-
  The in_proj kernel as printed is the same program as its idealized print, which names it a second time: body, body
  table and main are equal by definition.  So the run proved of the one is the run of the other.
-/
module

public import proofs.«01_k».proof.Proof.InProj.Frame
public import proofs.«01_k».proof.Proof.Gen.Kernel3.Frame
public import proofs.«01_k».proof.Defs

@[expose] public section

set_option maxHeartbeats 1000000

namespace Cert.InProj

open Idealize.ShloMosaic Idealize.ShloMosaic.TcCoe Idealize.SL.Sem

attribute [local instance] Cert.Kernel3.Gen.facts Cert.Kernel3Ideal.Gen.facts

section Body
open Cert.Kernel3Ideal

theorem same_body {F : FTy → Type} [FloatOps F] (i : grid0.Coords)
    (arg2 : Memref sig .tc .vmem S512x2048 .f32) (harg2 : arg2.IsWhole)
    (arg3 : Memref sig .tc .vmem S1x6x2048 .f32) (harg3 : arg3.IsWhole)
    (arg4 : Memref sig .tc .vmem S1x2048 .f32) (harg4 : arg4.IsWhole)
    (arg5 : Memref sig .tc .vmem S2048x512 .bf16) (harg5 : arg5.IsWhole)
    (arg6 : Memref sig .tc .vmem S512x2048 .bf16) (harg6 : arg6.IsWhole)
    (arg7 : Memref sig .tc .vmem S512x512 .f32) (harg7 : arg7.IsWhole)
    (arg8 : Memref sig .tc .vmem S512x512 .f32) (harg8 : arg8.IsWhole)
    (arg9 : Memref sig .tc .vmem S512x2048 .bf16) (harg9 : arg9.IsWhole) :
    Cert.Kernel3.cc0_in_proj (F := F) i arg2 harg2 arg3 harg3 arg4 harg4 arg5 harg5 arg6 harg6 arg7 harg7 arg8 harg8 arg9 harg9
      = cc0_in_proj i arg2 harg2 arg3 harg3 arg4 harg4 arg5 harg5 arg6 harg6 arg7 harg7 arg8 harg8 arg9 harg9 := by
  unfold Cert.Kernel3.cc0_in_proj Cert.Kernel3Ideal.cc0_in_proj
  rfl

end Body

theorem same_table {F : FTy → Type} [FloatOps F] : Cert.Kernel3.defs₀ (F := F) = Cert.Kernel3Ideal.defs₀ (F := F) := by
  unfold Cert.Kernel3.defs₀ Cert.Kernel3Ideal.defs₀
  congr 1
  funext l a
  match l, a with
  | 0, (t, s) => exact same_body _ _ _ _ _ _ _ _ _ _ _ _ _ _ _ _ _

theorem same_defs {F : FTy → Type} [FloatOps F] : Cert.Kernel3.defs (F := F) = Cert.Kernel3Ideal.defs (F := F) := by
  unfold Cert.Kernel3.defs Cert.Kernel3Ideal.defs
  rw [same_table]
  rfl

theorem frame_bits : Cert.quiescent_Kernel3 (hKernel3 := Cert.Kernel3.Gen.facts) := by
  intro m ρ _
  rw [same_defs]
  exact Cert.Kernel3Ideal.InProj.frame (F := Bits) m ρ

end Cert.InProj
-- ==== Proof.Out.Spec.lean ====
/-
  The output projection of one token row, as a scalar over the arguments: the residual plus the gated product of the four
  mixers' outputs, side by side, with the weight. Each mixer meets its own 512 rows of the weight.
-/
module

public import Idealize.ShloMosaic.Lib.Pointwise

@[expose] public section

noncomputable section

namespace Cert.OutProj

open Idealize.ShloMosaic Idealize.ShloMosaic.Pointwise

variable (X : FVec Ideal ⟨2, ![32768, 2048]⟩ .f32) (M : FVec Ideal ⟨2, ![8, 12288]⟩ .f32)
  (A B C : FVec Ideal ⟨2, ![32768, 512]⟩ .bf16) (D : FVec Ideal ⟨2, ![512, 32768]⟩ .f32)
  (W : FVec Ideal ⟨2, ![2048, 2048]⟩ .f32)

/-- Row `r`, a token of sequence `b`, with the gated projection added. -/
def projected (b : Fin 8) (r : Fin 32768) (e : Fin 2048) : EReal :=
  X (ix2 r e) + M (ix2 b ⟨4096 + e.val, by omega⟩) *
    ((((∑ k : Fin 512, A (ix2 r k) * W (ix2 ⟨k.val, by omega⟩ e))
        + ∑ k : Fin 512, B (ix2 r k) * W (ix2 ⟨512 + k.val, by omega⟩ e))
        + ∑ k : Fin 512, C (ix2 r k) * W (ix2 ⟨1024 + k.val, by omega⟩ e))
        + ∑ k : Fin 512, D (ix2 k r) * W (ix2 ⟨1536 + k.val, by omega⟩ e))

end Cert.OutProj

end
-- ==== Proof.Out.Point.lean ====
/-
  The output projection's kernel: grid point `t` writes the 512 rows of row block `t`, and together the blocks are the
  whole result.
-/
module

public import proofs.«01_k».proof.Proof.Gen.Kernel4Ideal.Value
public import proofs.«01_k».proof.Proof.Out.Spec
public import Idealize.ShloMosaic.Lib.Pipeline.ValueKit
public import Idealize.ShloMosaic.Lib.Claim

@[expose] public section

set_option maxRecDepth 16384

noncomputable section

namespace Cert.Kernel4Ideal.OutProj

open Cert.Kernel4Ideal Cert.Kernel4Ideal.Gen Idealize.ShloMosaic Idealize.ShloMosaic.TcCoe Idealize.SL.Sem
open Idealize.ShloMosaic.Pointwise Cert.OutProj
open Idealize.ShloMosaic.Pipeline (Dat)

variable (m : (ℓ : Loc nD τ sig) → Buf (Elt Ideal) ℓ) (c : Dev nD)

/-- The arguments, at their literal types. -/
abbrev inX : FVec Ideal S32768x2048 .f32 := m ((c : Thread nD τ).loc main_arg0)
abbrev inM : FVec Ideal S8x12288 .f32 := m ((c : Thread nD τ).loc main_arg1)
abbrev inA : FVec Ideal S32768x512 .bf16 := m ((c : Thread nD τ).loc main_arg2)
abbrev inB : FVec Ideal S32768x512 .bf16 := m ((c : Thread nD τ).loc main_arg3)
abbrev inC : FVec Ideal S32768x512 .bf16 := m ((c : Thread nD τ).loc main_arg4)
abbrev inD : FVec Ideal S512x32768 .f32 := m ((c : Thread nD τ).loc main_arg5)
abbrev inW : FVec Ideal S2048x2048 .f32 := m ((c : Thread nD τ).loc main_arg6)

/-- The index maps at every grid point. -/
theorem idx : ∀ t : Fin cfg0.N,
    win0_0.index t = ![t.val, 0] ∧ win0_1.index t = ![t.val / 8, 0, 0] ∧ win0_2.index t = ![t.val, 0]
      ∧ win0_3.index t = ![t.val, 0] ∧ win0_4.index t = ![t.val, 0] ∧ win0_5.index t = ![0, t.val]
      ∧ win0_6.index t = ![0, 0] ∧ win0_7.index t = ![t.val, 0] ∧ t.val < 64 :=
  (by decide +kernel : ∀ t : Fin grid0.N, _)

/-- What a point writes, over the blocks it loads. -/
theorem payload_at (a b cc : FVec Ideal S512x512 .bf16) (d : FVec Ideal S512x512 .f32)
    (w0 w1 w2 w3 : FVec Ideal S512x2048 .bf16) (x : FVec Ideal S512x2048 .f32) (g : FVec Ideal S1x1x2048 .f32)
    (r : Fin 512) (e : Fin 2048) :
    k0_pay1 (F := Ideal) a w0 b w1 cc w2 d w3 x g (ix2 r e)
      = x (ix2 r e) + g (ix3 0 0 e) *
        ((((∑ k : Fin 512, a (ix2 r k) * w0 (ix2 k e)) + ∑ k : Fin 512, b (ix2 r k) * w1 (ix2 k e))
          + ∑ k : Fin 512, cc (ix2 r k) * w2 (ix2 k e)) + ∑ k : Fin 512, d (ix2 k r) * w3 (ix2 k e)) := by
  pointwise [k0_pay1]

theorem blkX (t : Fin cfg0.N) (r : Fin 512) (e : Fin 2048) (h : t.val * 512 + r.val < 32768) :
    (iblk m c 0 t : FVec Ideal S512x2048 .f32) (ix2 r e) = inX m c (ix2 ⟨t.val * 512 + r.val, h⟩ e) := by
  blk_ext [iblk, V, idx t]

theorem blkM (t : Fin cfg0.N) (j : Fin 6) (e : Fin 2048) (h : t.val / 8 < 8) (h' : j.val * 2048 + e.val < 12288) :
    (iblk m c 1 t : FVec Ideal S1x6x2048 .f32) (ix3 0 j e)
      = inM m c (ix2 ⟨t.val / 8, h⟩ ⟨j.val * 2048 + e.val, h'⟩) := by
  blk_simp [iblk, V, idx t]
  entry_read
  pointwise
  blk_ext [idx t]

theorem blkA (t : Fin cfg0.N) (r k : Fin 512) (h : t.val * 512 + r.val < 32768) :
    (iblk m c 2 t : FVec Ideal S512x512 .bf16) (ix2 r k) = inA m c (ix2 ⟨t.val * 512 + r.val, h⟩ k) := by
  blk_ext [iblk, V, idx t]

theorem blkB (t : Fin cfg0.N) (r k : Fin 512) (h : t.val * 512 + r.val < 32768) :
    (iblk m c 3 t : FVec Ideal S512x512 .bf16) (ix2 r k) = inB m c (ix2 ⟨t.val * 512 + r.val, h⟩ k) := by
  blk_ext [iblk, V, idx t]

theorem blkC (t : Fin cfg0.N) (r k : Fin 512) (h : t.val * 512 + r.val < 32768) :
    (iblk m c 4 t : FVec Ideal S512x512 .bf16) (ix2 r k) = inC m c (ix2 ⟨t.val * 512 + r.val, h⟩ k) := by
  blk_ext [iblk, V, idx t]

theorem blkD (t : Fin cfg0.N) (k r : Fin 512) (h : t.val * 512 + r.val < 32768) :
    (iblk m c 5 t : FVec Ideal S512x512 .f32) (ix2 k r) = inD m c (ix2 k ⟨t.val * 512 + r.val, h⟩) := by
  blk_ext [iblk, V, idx t]

theorem blkW (t : Fin cfg0.N) (k e : Fin 2048) :
    (iblk m c 6 t : FVec Ideal S2048x2048 .bf16) (ix2 k e) = inW m c (ix2 k e) := by
  blk_point [iblk, V, idx t]

/-- What the kernel's output window holds after the run. -/
def result : FVec Ideal S32768x2048 .f32 := fun i =>
  projected (inX m c) (inM m c) (inA m c) (inB m c) (inC m c) (inD m c) (inW m c)
    ⟨(i 0).val / 4096, by have := (i 0).isLt; change (i 0).val < 32768 at this; omega⟩ (i 0) (i 1)

/-- What point `t` leaves at row `r` of its block. -/
theorem point (t : Fin cfg0.N) (r : Fin 512) (e : Fin 2048) (b : Fin 8) (hb : b.val = t.val / 8)
    (R : Fin 32768) (hR : R.val = t.val * 512 + r.val) :
    out0_7 (F := Ideal) (iblk m c 0 t) (iblk m c 1 t) (iblk m c 2 t) (iblk m c 3 t) (iblk m c 4 t) (iblk m c 5 t) (iblk m c 6 t) (ix2 r e)
      = projected (inX m c) (inM m c) (inA m c) (inB m c) (inC m c) (inD m c) (inW m c) b R e := by
  obtain ⟨b, hb'⟩ := b
  obtain ⟨R, hR'⟩ := R
  subst hb hR
  frame_out
  refine (payload_at _ _ _ _ _ _ _ _ _ _ r e).trans ?_
  unfold projected
  pointwise
  have hg := blkM m c t 2 e hb' (by show 2 * 2048 + e.val < 12288; omega)
  refine Ideal.add_congr (blkX m c t r e hR') (Ideal.mul_congr hg ?_)
  refine Ideal.add_congr (Ideal.add_congr (Ideal.add_congr ?_ ?_) ?_) ?_ <;>
    refine Finset.sum_congr rfl fun k _ => Ideal.mul_congr ?_ ?_
  · exact blkA m c t r k hR'
  · exact blkW m c t _ e
  · exact blkB m c t r k hR'
  · exact blkW m c t _ e
  · exact blkC m c t r k hR'
  · exact blkW m c t _ e
  · exact blkD m c t k r hR'
  · exact blkW m c t _ e

/-- The output array after the run. -/
theorem final : (dats m 0 c).arrAt 7 cfg0.N = result m c := by
  refine (dats m 0 c).arrAt_eq_of_covers 7 _ (by decide +kernel) fun t _ y => ?_
  blk_simp
  rw [after0_7]
  obtain ⟨r, e, rfl⟩ : ∃ (r : Fin 512) (e : Fin 2048), y = ix2 r e := ⟨y 0, y 1, eq_ix2 y⟩
  have ht := (idx t).2.2.2.2.2.2.2.2
  refine (point m c t r e ⟨t.val / 8, by omega⟩ rfl ⟨t.val * 512 + r.val, by omega⟩ rfl).trans ?_
  have hi : (((cfg0.win 7).blk t).view.emb (ix2 r e) : S32768x2048.Idx) = ix2 ⟨t.val * 512 + r.val, by omega⟩ e := by
    blk_ext [idx t]
  rw [hi]
  unfold result
  congr 1
  refine Fin.ext ?_
  show t.val / 8 = (t.val * 512 + r.val) / 4096
  omega

end Cert.Kernel4Ideal.OutProj

end
-- ==== Proof.Out.Ref.lean ====
/-
  The reference of the output projection read at an index.
-/
module

public import proofs.«01_k».proof.Proof.Gen.Reference4Ideal.Read
public import proofs.«01_k».proof.Proof.Out.Spec

@[expose] public section

set_option maxRecDepth 16384

noncomputable section

namespace Cert.Reference4Ideal.OutProj

open Cert.Reference4Ideal Cert.Reference4Ideal.Gen Cert.Reference4Ideal.Read
open Idealize.ShloMosaic Idealize.ShloMosaic.TcCoe Idealize.SL.Sem
open Idealize.ShloMosaic.Pointwise Cert.OutProj

variable (x0 : FVec Ideal S32768x2048 .f32) (x1 : FVec Ideal S8x12288 .f32) (x2 x3 x4 : FVec Ideal S32768x512 .bf16)
  (x5 : FVec Ideal S512x32768 .f32) (x6 : FVec Ideal S2048x2048 .f32)

/-- The reference's result. -/
theorem result_at (r : Fin 32768) (e : Fin 2048) :
    val_main_v18 (F := Ideal) x0 x1 x2 x3 x4 x5 x6 (ix2 r e)
      = projected x0 x1 x2 x3 x4 x5 x6 ⟨r.val / 4096, by omega⟩ r e := by
  pointwise [val_main_v18, val_main_v17, val_main_v16, val_main_v15, val_main_v14, val_main_v13, val_main_v12,
    val_main_v11, val_main_v10, val_main_v9, val_main_v8, val_main_v4, val_main_v1, val_main_v0, projected]
  refine Ideal.add_congr rfl (Ideal.mul_congr rfl ?_)
  rw [Fin.sum_univ_tiles 4 512 rfl, Fin.sum_univ_four]
  refine Ideal.add_congr (Ideal.add_congr (Ideal.add_congr ?_ ?_) ?_) ?_ <;>
    refine Finset.sum_congr rfl fun k _ => ?_
  · rw [dif_pos (by show 0 * 512 + k.val < 512; omega)]
    exact Ideal.mul_congr (congrArg (fun j => x2 (ix2 r j)) (Fin.ext (by show 0 * 512 + k.val = k.val; omega)))
      (congrArg (fun j => x6 (ix2 j e)) (Fin.ext (by show 0 * 512 + k.val = k.val; omega)))
  · rw [dif_neg (by show ¬1 * 512 + k.val < 512; omega), dif_pos (by show 1 * 512 + k.val - 512 < 512; omega)]
    exact Ideal.mul_congr (congrArg (fun j => x3 (ix2 r j)) (Fin.ext (by show 1 * 512 + k.val - 512 = k.val; omega)))
      (congrArg (fun j => x6 (ix2 j e)) (Fin.ext (by show 1 * 512 + k.val = 512 + k.val; omega)))
  · rw [dif_neg (by show ¬2 * 512 + k.val < 512; omega), dif_neg (by show ¬2 * 512 + k.val - 512 < 512; omega),
      dif_pos (by show 2 * 512 + k.val - 512 - 512 < 512; omega)]
    exact Ideal.mul_congr
      (congrArg (fun j => x4 (ix2 r j)) (Fin.ext (by show 2 * 512 + k.val - 512 - 512 = k.val; omega)))
      (congrArg (fun j => x6 (ix2 j e)) (Fin.ext (by show 2 * 512 + k.val = 1024 + k.val; omega)))
  · rw [dif_neg (by show ¬3 * 512 + k.val < 512; omega), dif_neg (by show ¬3 * 512 + k.val - 512 < 512; omega),
      dif_neg (by show ¬3 * 512 + k.val - 512 - 512 < 512; omega)]
    exact Ideal.mul_congr
      (congrArg (fun j => x5 (ix2 j r)) (Fin.ext (by show 3 * 512 + k.val - 512 - 512 - 512 = k.val; omega)))
      (congrArg (fun j => x6 (ix2 j e)) (Fin.ext (by show 3 * 512 + k.val = 1536 + k.val; omega)))

end Cert.Reference4Ideal.OutProj

end
-- ==== Proof.Out.Algebra.lean ====
/-
  The output projection's kernel and its reference leave the same array.
-/
module

public import proofs.«01_k».proof.Defs
public import proofs.«01_k».proof.Proof.Out.Point
public import proofs.«01_k».proof.Proof.Out.Ref

@[expose] public section

set_option maxRecDepth 16384

noncomputable section

namespace Cert.OutProj

open Idealize.ShloMosaic Idealize.ShloMosaic.TcCoe Idealize.SL.Sem
open Idealize.ShloMosaic.Pointwise
open Cert.Kernel4Ideal Cert.Kernel4Ideal.Gen
open Cert.Kernel4Ideal.OutProj

variable (m : (ℓ : Loc nD τ sig) → Buf (Elt Ideal) ℓ) (c : Dev nD)

/-- The kernel's array is the reference's last stage over the same arguments. -/
theorem final_eq :
    result m c = Cert.Reference4Ideal.Read.val_main_v18 (F := Ideal) (inX m c) (inM m c) (inA m c) (inB m c) (inC m c) (inD m c) (inW m c) := by
  funext i
  obtain ⟨r, e, rfl⟩ : ∃ (r : Fin 32768) (e : Fin 2048), i = ix2 r e := ⟨i 0, i 1, eq_ix2 i⟩
  exact (Cert.Reference4Ideal.OutProj.result_at _ _ _ _ _ _ _ r e).symm

/-- The claim: from agreeing arguments both programs end at the same result. -/
theorem algebraic : Cert.algebraic_Kernel4Ideal_Reference4Ideal := by
  intro m g m' g' _ hag
  refine ⟨fun c => result m c, ?_, ?_⟩
  · refine (θ_run _ _ _).mono (fun r h c => ?_) (Cert.Kernel4Ideal.Value.run_blocks m g)
    obtain ⟨h0, h1⟩ := h c
    exact ⟨h0.trans (final m c), h1⟩
  · refine (θ_run _ _ _).mono (fun r h c => ?_) (Cert.Reference4Ideal.Value.run m' g')
    obtain ⟨h0, h1⟩ := h c
    refine ⟨h0.trans ?_, h1⟩
    obtain ⟨a0, a1, a2, a3, a4, a5, a6⟩ := hag c
    rw [a0, a1, a2, a3, a4, a5, a6]
    exact (Cert.Reference4Ideal.Read.val_main_v18_eq _ _ _ _ _ _ _).trans (final_eq m c).symm

end Cert.OutProj

end
-- ==== Proof.Ada.Spec.lean ====
/-
  The modulation of one conditioning row, as a scalar over the arguments: the row through silu, times the weight, plus the
  bias. Row 0 is the context's, rows 1 to 8 the sequences', the other seven are zeros.
-/
module

public import Idealize.ShloMosaic.Lib.Pointwise

@[expose] public section

noncomputable section

namespace Cert.Ada

open Idealize.ShloMosaic Idealize.ShloMosaic.Pointwise

/-- `x` times its sigmoid. -/
def silu (x : EReal) : EReal := x * Ideal.div 1 (1 + Ideal.exp (-x))

variable (C : FVec Ideal ⟨2, ![8, 2048]⟩ .f32) (K : FVec Ideal ⟨1, ![2048]⟩ .f32)
  (W : FVec Ideal ⟨2, ![2048, 12288]⟩ .f32) (B : FVec Ideal ⟨1, ![12288]⟩ .f32)

/-- The conditioning rows, one under the other. -/
def row (r : Fin 16) (k : Fin 2048) : EReal :=
  if _ : r.val < 1 then K (ix1 k) else if h : r.val - 1 < 8 then C (ix2 ⟨r.val - 1, h⟩ k) else 0

/-- Column `e` of the modulation of row `r`. -/
def modulation (r : Fin 16) (e : Fin 12288) : EReal :=
  (∑ k : Fin 2048, silu (row C K r k) * W (ix2 k e)) + B (ix1 e)

end Cert.Ada

end
-- ==== Proof.Ada.Point.lean ====
/-
  The modulation's kernel: grid point `t` writes the 1024 columns of column block `t`, and together the blocks are the
  whole result.
-/
module

public import proofs.«01_k».proof.Proof.Gen.Kernel5Ideal.Value
public import proofs.«01_k».proof.Proof.Ada.Spec
public import Idealize.ShloMosaic.Lib.Pipeline.ValueKit
public import Idealize.ShloMosaic.Lib.Claim

@[expose] public section

set_option maxRecDepth 16384

noncomputable section

namespace Cert.Kernel5Ideal.Ada

open Cert.Kernel5Ideal Cert.Kernel5Ideal.Gen Idealize.ShloMosaic Idealize.ShloMosaic.TcCoe Idealize.SL.Sem
open Idealize.ShloMosaic.Pointwise Cert.Ada
open Idealize.ShloMosaic.Pipeline (Dat)

variable (m : (ℓ : Loc nD τ sig) → Buf (Elt Ideal) ℓ) (c : Dev nD)

/-- The arguments, at their literal types. -/
abbrev inC : FVec Ideal S8x2048 .f32 := m ((c : Thread nD τ).loc main_arg0)
abbrev inK : FVec Ideal S2048 .f32 := m ((c : Thread nD τ).loc main_arg1)
abbrev inW : FVec Ideal S2048x12288 .f32 := m ((c : Thread nD τ).loc main_arg2)
abbrev inB : FVec Ideal S12288 .f32 := m ((c : Thread nD τ).loc main_arg3)

/-- The index maps at every grid point. -/
theorem idx : ∀ t : Fin cfg0.N,
    win0_0.index t = ![0, 0] ∧ win0_1.index t = ![0, t.val] ∧ win0_2.index t = ![0, t.val]
      ∧ win0_3.index t = ![0, t.val] ∧ t.val < 12 :=
  (by decide +kernel : ∀ t : Fin grid0.N, _)

/-- What a point writes, over the blocks it loads. -/
theorem payload_at (x : FVec Ideal S16x2048 .f32) (w : FVec Ideal S2048x1024 .f32) (b : FVec Ideal S1x1024 .f32)
    (r : Fin 16) (e : Fin 1024) :
    k0_pay1 (F := Ideal) x w b (ix2 r e)
      = (∑ k : Fin 2048, silu (x (ix2 r k)) * w (ix2 k e)) + b (ix2 0 e) := by
  pointwise [k0_pay1, silu]
  simp only [zero_sub]

/-- The rows as the host lines stack them. -/
def rows (x : FVec Ideal S8x2048 .f32) (k : FVec Ideal S2048 .f32) : FVec Ideal S16x2048 .f32 :=
  concatenate S16x2048 0
    [⟨S1x2048, broadcastInDim S1x2048 ![1] bcast_S2048_S1x2048_1 k⟩, ⟨S8x2048, x⟩,
     ⟨S7x2048, broadcastInDim S7x2048 ![] bcast_S_S7x2048 (constant (F := Ideal) S_ .f32 0x00000000#32)⟩]
    concatenates_S1x2048_S8x2048_S7x2048_S16x2048_d0

theorem rows_eq : (V m c main_v2 : FVec Ideal S16x2048 .f32) = rows (inC m c) (inK m c) := by
  show StableHlo.after hostOps0 _ _ = _
  after_results
  unfold rows
  rfl

theorem rows_at (x : FVec Ideal S8x2048 .f32) (k : FVec Ideal S2048 .f32) (r : Fin 16) (j : Fin 2048) :
    rows x k (ix2 r j) = row x k r j := by
  pointwise [rows, row]

theorem blkC (t : Fin cfg0.N) (r : Fin 16) (k : Fin 2048) :
    (iblk m c 0 t : FVec Ideal S16x2048 .f32) (ix2 r k) = row (inC m c) (inK m c) r k := by
  refine Eq.trans ?_ (rows_at (inC m c) (inK m c) r k)
  refine Eq.trans ?_ (congrFun (rows_eq m c) (ix2 r k))
  blk_ext [iblk, idx t]

theorem blkW (t : Fin cfg0.N) (k : Fin 2048) (e : Fin 1024) (h : t.val * 1024 + e.val < 12288) :
    (iblk m c 1 t : FVec Ideal S2048x1024 .f32) (ix2 k e) = inW m c (ix2 k ⟨t.val * 1024 + e.val, h⟩) := by
  blk_ext [iblk, V, idx t]

theorem blkB (t : Fin cfg0.N) (e : Fin 1024) (h : t.val * 1024 + e.val < 12288) :
    (iblk m c 2 t : FVec Ideal S1x1024 .f32) (ix2 0 e) = inB m c (ix1 ⟨t.val * 1024 + e.val, h⟩) := by
  blk_simp [iblk, V, idx t]
  entry_read
  pointwise
  blk_ext [idx t]

/-- What the kernel's output window holds after the run. -/
def result : FVec Ideal S16x12288 .f32 := fun i => modulation (inC m c) (inK m c) (inW m c) (inB m c) (i 0) (i 1)

/-- What point `t` leaves at column `e` of its block. -/
theorem point (t : Fin cfg0.N) (r : Fin 16) (e : Fin 1024) (h : t.val * 1024 + e.val < 12288) :
    out0_3 (F := Ideal) (iblk m c 0 t) (iblk m c 1 t) (iblk m c 2 t) (ix2 r e)
      = modulation (inC m c) (inK m c) (inW m c) (inB m c) r ⟨t.val * 1024 + e.val, h⟩ := by
  frame_out
  refine (payload_at _ _ _ r e).trans ?_
  unfold modulation
  refine Ideal.add_congr (Finset.sum_congr rfl fun k _ => Ideal.mul_congr ?_ ?_) (blkB m c t e h)
  · exact congrArg silu (blkC m c t r k)
  · exact blkW m c t k e h

/-- The output array after the run. -/
theorem final : (dats m 0 c).arrAt 3 cfg0.N = result m c := by
  refine (dats m 0 c).arrAt_eq_of_covers 3 _ (by decide +kernel) fun t _ y => ?_
  blk_simp
  rw [after0_3]
  obtain ⟨r, e, rfl⟩ : ∃ (r : Fin 16) (e : Fin 1024), y = ix2 r e := ⟨y 0, y 1, eq_ix2 y⟩
  have ht := (idx t).2.2.2.2
  refine (point m c t r e (by omega)).trans ?_
  have hi : (((cfg0.win 3).blk t).view.emb (ix2 r e) : S16x12288.Idx) = ix2 r ⟨t.val * 1024 + e.val, by omega⟩ := by
    blk_ext [idx t]
  rw [hi]
  rfl

end Cert.Kernel5Ideal.Ada

end
-- ==== Proof.Ada.Ref.lean ====
/-
  The reference of the modulation read at an index.
-/
module

public import proofs.«01_k».proof.Proof.Gen.Reference5Ideal.Read
public import proofs.«01_k».proof.Proof.Ada.Spec

@[expose] public section

set_option maxRecDepth 16384

noncomputable section

namespace Cert.Reference5Ideal.Ada

open Cert.Reference5Ideal Cert.Reference5Ideal.Gen Cert.Reference5Ideal.Read
open Idealize.ShloMosaic Idealize.ShloMosaic.TcCoe Idealize.SL.Sem
open Idealize.ShloMosaic.Pointwise Cert.Ada

variable (x0 : FVec Ideal S8x2048 .f32) (x1 : FVec Ideal S2048 .f32) (x2 : FVec Ideal S2048x12288 .f32)
  (x3 : FVec Ideal S12288 .f32)

/-- The stacked rows. -/
theorem rows_at (r : Fin 16) (k : Fin 2048) : val_main_v2 (F := Ideal) x0 x1 (ix2 r k) = row x0 x1 r k := by
  pointwise [val_main_v2, val_main_v1, val_main_v0, val_main_cst, row]

/-- The reference's result. -/
theorem result_at (r : Fin 16) (e : Fin 12288) :
    val_main_v7 (F := Ideal) x0 x1 x2 x3 (ix2 r e) = modulation x0 x1 x2 x3 r e := by
  pointwise [val_main_v7, val_main_v6, val_main_v5, val_main_v4, val_main_v3, val_main_call0_v5, val_main_call0_v4,
    val_main_call0_v3, val_main_call0_v2, val_main_call0_v1, val_main_call0_v0, val_main_call0_cst, val_main_call0_cst_0,
    rows_at, modulation, silu]

end Cert.Reference5Ideal.Ada

end
-- ==== Proof.Ada.Algebra.lean ====
/-
  The modulation's kernel and its reference leave the same array.
-/
module

public import proofs.«01_k».proof.Defs
public import proofs.«01_k».proof.Proof.Ada.Point
public import proofs.«01_k».proof.Proof.Ada.Ref

@[expose] public section

set_option maxRecDepth 16384

noncomputable section

namespace Cert.Ada

open Idealize.ShloMosaic Idealize.ShloMosaic.TcCoe Idealize.SL.Sem
open Idealize.ShloMosaic.Pointwise
open Cert.Kernel5Ideal Cert.Kernel5Ideal.Gen
open Cert.Kernel5Ideal.Ada

variable (m : (ℓ : Loc nD τ sig) → Buf (Elt Ideal) ℓ) (c : Dev nD)

/-- The kernel's array is the reference's last stage over the same arguments. -/
theorem final_eq :
    result m c = Cert.Reference5Ideal.Read.val_main_v7 (F := Ideal) (inC m c) (inK m c) (inW m c) (inB m c) := by
  funext i
  obtain ⟨r, e, rfl⟩ : ∃ (r : Fin 16) (e : Fin 12288), i = ix2 r e := ⟨i 0, i 1, eq_ix2 i⟩
  exact (Cert.Reference5Ideal.Ada.result_at _ _ _ _ r e).symm

/-- The claim: from agreeing arguments both programs end at the same result. -/
theorem algebraic : Cert.algebraic_Kernel5Ideal_Reference5Ideal := by
  intro m g m' g' _ hag
  refine ⟨fun c => result m c, ?_, ?_⟩
  · refine (θ_run _ _ _).mono (fun r h c => ?_) (Cert.Kernel5Ideal.Value.run_blocks m g)
    obtain ⟨h0, h1⟩ := h c
    exact ⟨h0.trans (final m c), h1⟩
  · refine (θ_run _ _ _).mono (fun r h c => ?_) (Cert.Reference5Ideal.Value.run m' g')
    obtain ⟨h0, h1⟩ := h c
    refine ⟨h0.trans ?_, h1⟩
    obtain ⟨a0, a1, a2, a3⟩ := hag c
    rw [a0, a1, a2, a3]
    exact (Cert.Reference5Ideal.Read.val_main_v7_eq _ _ _ _).trans (final_eq m c).symm

end Cert.Ada

end
-- ==== Proof.Conv.Spec.lean ====
/-
  The centred depthwise convolution of one token and channel, as a scalar over the arguments: the token before, the token
  and the token after, each times its tap, zero where the sequence ends, plus the bias, through silu.
-/
module

public import proofs.«01_k».proof.Proof.Ada.Spec

@[expose] public section

noncomputable section

namespace Cert.Conv

open Idealize.ShloMosaic Idealize.ShloMosaic.Pointwise

variable (P : FVec Ideal ⟨2, ![32768, 4608]⟩ .f32) (W : FVec Ideal ⟨2, ![3, 768]⟩ .f32) (B : FVec Ideal ⟨1, ![768]⟩ .f32)

/-- Channel `e` of token `l` of sequence `b`. -/
def channel (b : Fin 8) (l : Fin 4096) (e : Fin 768) : EReal :=
  P (ix2 ⟨b.val * 4096 + l.val, by omega⟩ ⟨3584 + e.val, by omega⟩)

/-- The convolution's value there. -/
def value (b : Fin 8) (l : Fin 4096) (e : Fin 768) : EReal :=
  Cert.Ada.silu
    ((if l.val = 0 then 0 else channel P b ⟨l.val - 1, by omega⟩ e) * W (ix2 0 e) + channel P b l e * W (ix2 1 e)
      + (if h : l.val = 4095 then 0 else channel P b ⟨l.val + 1, by omega⟩ e) * W (ix2 2 e) + B (ix1 e))

end Cert.Conv

end
-- ==== Proof.Conv.Point.lean ====
/-
  The convolution's kernel: a grid point writes the 128 channels of one block for one sequence, and together the blocks
  are the whole result.
-/
module

public import proofs.«01_k».proof.Proof.Gen.Kernel6Ideal.Value
public import proofs.«01_k».proof.Proof.Conv.Spec
public import Idealize.ShloMosaic.Lib.Pipeline.ValueKit
public import Idealize.ShloMosaic.Lib.Claim
public import Idealize.ShloMosaic.Lib.KernelVsHost

@[expose] public section

set_option maxRecDepth 16384

noncomputable section

namespace Cert.Kernel6Ideal.Conv

open Cert.Kernel6Ideal Cert.Kernel6Ideal.Gen Idealize.ShloMosaic Idealize.ShloMosaic.TcCoe Idealize.SL.Sem
open Idealize.ShloMosaic.Pointwise Cert.Conv Cert.Ada
open Idealize.ShloMosaic.Pipeline (Dat)

variable (m : (ℓ : Loc nD τ sig) → Buf (Elt Ideal) ℓ) (c : Dev nD)

/-- The arguments, at their literal types. -/
abbrev inP : FVec Ideal S32768x4608 .f32 := m ((c : Thread nD τ).loc main_arg0)
abbrev inW : FVec Ideal S3x768 .f32 := m ((c : Thread nD τ).loc main_arg1)
abbrev inB : FVec Ideal S768 .f32 := m ((c : Thread nD τ).loc main_arg2)

/-- The index maps at every grid point. -/
theorem idx : ∀ t : Fin cfg0.N,
    win0_0.index t = ![t.val / 6, 28 + t.val % 6] ∧ win0_1.index t = ![0, t.val % 6] ∧ win0_2.index t = ![0, t.val % 6]
      ∧ win0_3.index t = ![t.val / 6, t.val % 6] ∧ t.val < 48 :=
  (by decide +kernel : ∀ t : Fin grid0.N, _)

/-- A rotation along the rows by `s`. -/
theorem rotate_at (x : FVec Ideal S4096x128 .f32) (s : BitVec 32) (l l' : Fin 4096) (e : Fin 128)
    (h : l'.val = (l.val + 4096 - s.toNat % 4096) % 4096) :
    dynamicRotate 0 s none x rotates_S4096x128_d0 (ix2 l e) = x (ix2 l' e) := by
  refine Idealize.ShloMosaic.dynamicRotate_apply 0 s x rotates_S4096x128_d0 (ix2 l e) (ix2 l' e) fun b => ?_
  fin_cases b
  · exact h
  · rfl

/-- The comparison of a row's number with a constant. -/
theorem word_eq (l : Fin 4096) (w : BitVec 32) (n : ℕ) (hw : w.toNat = n) :
    IntOp.cmpi CmpIPredicate.eq (BitVec.ofNat 32 l.val) w = if l.val = n then 1#1 else 0#1 := by
  have hl : (BitVec.ofNat 32 l.val).toNat = l.val := by
    rw [BitVec.toNat_ofNat]
    exact Nat.mod_eq_of_lt (by omega)
  by_cases h : l.val = n
  · rw [if_pos h]
    exact IntOp.cmpi_eq.2 (BitVec.eq_of_toNat_eq (by rw [hl, hw, h]))
  · rw [if_neg h]
    refine (BitVec.eq_zero_or_eq_one _).resolve_right fun h1 => h ?_
    rw [← hl, ← hw, IntOp.cmpi_eq.1 h1]

/-- What a point writes, over the blocks it loads. -/
theorem payload_at (x : FVec Ideal S4096x128 .f32) (w0 w1 w2 b : FVec Ideal S1x128 .f32) (l : Fin 4096) (e : Fin 128) :
    k0_pay1 (F := Ideal) x w0 w1 w2 b (ix2 l e)
      = silu ((if l.val = 0 then 0 else x (ix2 ⟨l.val - 1, by omega⟩ e)) * w0 (ix2 0 e) + x (ix2 l e) * w1 (ix2 0 e)
        + (if h : l.val = 4095 then 0 else x (ix2 ⟨l.val + 1, by omega⟩ e)) * w2 (ix2 0 e) + b (ix2 0 e)) := by
  unfold k0_pay1
  have h1 := rotate_at x 1#32 l
  have h2 := rotate_at x 4095#32 l
  generalize dynamicRotate 0 1#32 none x rotates_S4096x128_d0 = y1 at h1 ⊢
  generalize dynamicRotate 0 4095#32 none x rotates_S4096x128_d0 = y2 at h2 ⊢
  pointwise [silu]
  simp only [zero_sub]
  refine congrArg silu (Ideal.add_congr (Ideal.add_congr (Ideal.add_congr ?_ rfl) ?_) rfl)
  · rw [word_eq l 0#32 0 rfl]
    by_cases h : l.val = 0
    · rw [if_pos h, if_pos h, zero_mul]
      rfl
    · rw [if_neg h, if_neg h]
      refine Ideal.mul_congr (h1 ⟨l.val - 1, by omega⟩ e ?_) rfl
      show l.val - 1 = (l.val + 4096 - 1) % 4096
      omega
  · rw [word_eq l 4095#32 4095 rfl]
    by_cases h : l.val = 4095
    · rw [if_pos h, dif_pos h, zero_mul]
      rfl
    · rw [if_neg h, dif_neg h]
      refine Ideal.mul_congr (h2 ⟨l.val + 1, by omega⟩ e ?_) rfl
      show l.val + 1 = (l.val + 4096 - 4095) % 4096
      omega

theorem blkP (t : Fin cfg0.N) (b : Fin 8) (hb : b.val = t.val / 6) (l : Fin 4096) (e : Fin 128) (h : t.val % 6 * 128 + e.val < 768) :
    (iblk m c 0 t : FVec Ideal S4096x128 .f32) (ix2 l e) = channel (inP m c) b l ⟨t.val % 6 * 128 + e.val, h⟩ := by
  unfold channel
  blk_ext [iblk, V, idx t]

theorem blkW (t : Fin cfg0.N) (k : Fin 3) (e : Fin 128) (h : t.val % 6 * 128 + e.val < 768) :
    (iblk m c 1 t : FVec Ideal S3x128 .f32) (ix2 k e) = inW m c (ix2 k ⟨t.val % 6 * 128 + e.val, h⟩) := by
  blk_ext [iblk, V, idx t]

theorem blkB (t : Fin cfg0.N) (e : Fin 128) (h : t.val % 6 * 128 + e.val < 768) :
    (iblk m c 2 t : FVec Ideal S1x128 .f32) (ix2 0 e) = inB m c (ix1 ⟨t.val % 6 * 128 + e.val, h⟩) := by
  blk_simp [iblk, V, idx t]
  entry_read
  pointwise
  blk_ext [idx t]

/-- What the kernel's output window holds after the run. -/
def result : FVec Ideal S32768x768 .f32 := fun i =>
  value (inP m c) (inW m c) (inB m c) ⟨(i 0).val / 4096, by have := (i 0).isLt; change (i 0).val < 32768 at this; omega⟩
    ⟨(i 0).val % 4096, Nat.mod_lt _ (by decide)⟩ (i 1)

/-- What point `t` leaves at row `l` of its block. -/
theorem point (t : Fin cfg0.N) (b : Fin 8) (hb : b.val = t.val / 6) (l : Fin 4096) (e : Fin 128)
    (h : t.val % 6 * 128 + e.val < 768) :
    out0_3 (F := Ideal) (iblk m c 0 t) (iblk m c 1 t) (iblk m c 2 t) (ix2 l e)
      = value (inP m c) (inW m c) (inB m c) b l ⟨t.val % 6 * 128 + e.val, h⟩ := by
  frame_out
  refine (payload_at _ _ _ _ _ l e).trans ?_
  unfold value
  have w0 : View.ld (iblk m c 1 t) r0_1 (ix2 0 e) = inW m c (ix2 0 ⟨t.val % 6 * 128 + e.val, h⟩) := by
    refine Eq.trans ?_ (blkW m c t 0 e h)
    pointwise
  have w1 : View.ld (iblk m c 1 t) r0_2 (ix2 0 e) = inW m c (ix2 1 ⟨t.val % 6 * 128 + e.val, h⟩) := by
    refine Eq.trans ?_ (blkW m c t 1 e h)
    pointwise
  have w2 : View.ld (iblk m c 1 t) r0_3 (ix2 0 e) = inW m c (ix2 2 ⟨t.val % 6 * 128 + e.val, h⟩) := by
    refine Eq.trans ?_ (blkW m c t 2 e h)
    pointwise
  have hp := fun l' => blkP m c t b hb l' e h
  refine congrArg silu (Ideal.add_congr (Ideal.add_congr (Ideal.add_congr ?_ ?_) ?_) (blkB m c t e h))
  · refine Ideal.mul_congr ?_ w0
    by_cases h0 : l.val = 0
    · rw [if_pos h0, if_pos h0]
    · rw [if_neg h0, if_neg h0]
      exact hp _
  · exact Ideal.mul_congr (hp l) w1
  · refine Ideal.mul_congr ?_ w2
    by_cases h0 : l.val = 4095
    · rw [dif_pos h0, dif_pos h0]
    · rw [dif_neg h0, dif_neg h0]
      exact hp _

/-- The output array after the run. -/
theorem final : (dats m 0 c).arrAt 3 cfg0.N = result m c := by
  refine (dats m 0 c).arrAt_eq_of_covers 3 _ (by decide +kernel) fun t _ y => ?_
  blk_simp
  rw [after0_3]
  obtain ⟨l, e, rfl⟩ : ∃ (l : Fin 4096) (e : Fin 128), y = ix2 l e := ⟨y 0, y 1, eq_ix2 y⟩
  have ht := (idx t).2.2.2.2
  refine (point m c t ⟨t.val / 6, by omega⟩ rfl l e (by omega)).trans ?_
  have hi : (((cfg0.win 3).blk t).view.emb (ix2 l e) : S32768x768.Idx)
      = ix2 ⟨t.val / 6 * 4096 + l.val, by omega⟩ ⟨t.val % 6 * 128 + e.val, by omega⟩ := by
    blk_ext [idx t]
  rw [hi]
  show _ = value (inP m c) (inW m c) (inB m c) ⟨(t.val / 6 * 4096 + l.val) / 4096, _⟩ ⟨(t.val / 6 * 4096 + l.val) % 4096, _⟩ _
  congr 1
  · refine Fin.ext ?_
    show t.val / 6 = (t.val / 6 * 4096 + l.val) / 4096
    omega
  · refine Fin.ext ?_
    show l.val = (t.val / 6 * 4096 + l.val) % 4096
    omega

end Cert.Kernel6Ideal.Conv

end
-- ==== Proof.Conv.Ref.lean ====
/-
  The reference of the convolution read at an index.
-/
module

public import proofs.«01_k».proof.Proof.Gen.Reference6Ideal.Read
public import proofs.«01_k».proof.Proof.Conv.Spec
public import Idealize.ShloMosaic.Lib.KernelVsHost

@[expose] public section

set_option maxRecDepth 16384

noncomputable section

namespace Cert.Reference6Ideal.Conv

open Cert.Reference6Ideal Cert.Reference6Ideal.Gen Cert.Reference6Ideal.Read
open Idealize.ShloMosaic Idealize.ShloMosaic.TcCoe Idealize.SL.Sem
open Idealize.ShloMosaic.Pointwise Cert.Conv Cert.Ada

variable (x0 : FVec Ideal S32768x4608 .f32) (x1 : FVec Ideal S3x768 .f32) (x2 : FVec Ideal S768 .f32)

/-- The padded channels: zero before the first token and after the last. -/
theorem padded_at (b : Fin 8) (l : Fin 4098) (e : Fin 768) :
    val_main_v2 (F := Ideal) x0 (ix3 b l e)
      = if h : 1 ≤ l.val ∧ l.val - 1 < 4096 then channel x0 b ⟨l.val - 1, h.2⟩ e else 0 := by
  pointwise [val_main_v2, val_main_v1, val_main_v0, val_main_c, val_main_call0_v0, channel]
  exact dite_congr rfl (fun _ => rfl) fun _ => (sitofp_zero : (FloatOps.sitofp FTy.f32 0#32 : Ideal .f32) = 0)

/-- The reference's result. -/
theorem result_at (b : Fin 8) (l : Fin 4096) (e : Fin 768) (r : Fin 32768) (hr : r.val = b.val * 4096 + l.val) :
    val_main_v29 (F := Ideal) x0 x1 x2 (ix2 r e) = value x0 x1 x2 b l e := by
  have hb : r.val / 4096 = b.val := by omega
  have hl : r.val % 4096 = l.val := by omega
  have hp := padded_at x0 b
  unfold val_main_v29 val_main_v28 val_main_call1_v5 val_main_call1_v3 val_main_call1_v1 val_main_call1_v0 val_main_v27
    val_main_v24 val_main_v23 val_main_v18 val_main_v17 val_main_v16 val_main_v11 val_main_v10 val_main_v8 val_main_v3
  generalize val_main_v2 (F := Ideal) x0 = y at hp ⊢
  pointwise [val_main_call1_v4, val_main_call1_v2, val_main_call1_cst, val_main_call1_cst_0, val_main_v26, val_main_v25,
    val_main_v22, val_main_v21, val_main_v20, val_main_v19, val_main_v15, val_main_v14, val_main_v13, val_main_v12,
    val_main_v9, val_main_cst, val_main_v7, val_main_v6, val_main_v5, val_main_v4, value, silu]
  have e0 : (⟨r.val / 4096, by omega⟩ : Fin 8) = b := Fin.ext hb
  simp only [e0]
  refine congrArg silu (Ideal.add_congr (Ideal.add_congr (Ideal.add_congr (Ideal.mul_congr ?_ rfl) (Ideal.mul_congr ?_ rfl))
    (Ideal.mul_congr ?_ rfl)) rfl)
  · refine (hp _ e).trans ?_
    by_cases h : l.val = 0
    · rw [if_pos h, dif_neg (by show ¬(1 ≤ r.val % 4096 ∧ _); omega)]
    · rw [if_neg h, dif_pos (by show 1 ≤ r.val % 4096 ∧ r.val % 4096 - 1 < 4096; omega)]
      exact congrArg (fun l' => channel x0 b l' e) (Fin.ext (by show r.val % 4096 - 1 = l.val - 1; omega))
  · refine (hp _ e).trans ?_
    rw [dif_pos (by show 1 ≤ 1 + r.val % 4096 ∧ 1 + r.val % 4096 - 1 < 4096; omega)]
    exact congrArg (fun l' => channel x0 b l' e) (Fin.ext (by show 1 + r.val % 4096 - 1 = l.val; omega))
  · refine (hp _ e).trans ?_
    by_cases h : l.val = 4095
    · rw [dif_pos h, dif_neg (by show ¬(1 ≤ 2 + r.val % 4096 ∧ 2 + r.val % 4096 - 1 < 4096); omega)]
    · rw [dif_neg h, dif_pos (by show 1 ≤ 2 + r.val % 4096 ∧ 2 + r.val % 4096 - 1 < 4096; omega)]
      exact congrArg (fun l' => channel x0 b l' e) (Fin.ext (by show 2 + r.val % 4096 - 1 = l.val + 1; omega))

end Cert.Reference6Ideal.Conv

end
-- ==== Proof.Conv.Algebra.lean ====
/-
  The convolution's kernel and its reference leave the same array.
-/
module

public import proofs.«01_k».proof.Defs
public import proofs.«01_k».proof.Proof.Conv.Point
public import proofs.«01_k».proof.Proof.Conv.Ref

@[expose] public section

set_option maxRecDepth 16384

noncomputable section

namespace Cert.Conv

open Idealize.ShloMosaic Idealize.ShloMosaic.TcCoe Idealize.SL.Sem
open Idealize.ShloMosaic.Pointwise
open Cert.Kernel6Ideal Cert.Kernel6Ideal.Gen
open Cert.Kernel6Ideal.Conv

variable (m : (ℓ : Loc nD τ sig) → Buf (Elt Ideal) ℓ) (c : Dev nD)

/-- The kernel's array is the reference's last stage over the same arguments. -/
theorem final_eq :
    result m c = Cert.Reference6Ideal.Read.val_main_v29 (F := Ideal) (inP m c) (inW m c) (inB m c) := by
  funext i
  obtain ⟨r, e, rfl⟩ : ∃ (r : Fin 32768) (e : Fin 768), i = ix2 r e := ⟨i 0, i 1, eq_ix2 i⟩
  exact (Cert.Reference6Ideal.Conv.result_at _ _ _ _ _ e r (by show r.val = r.val / 4096 * 4096 + r.val % 4096; omega)).symm

/-- The claim: from agreeing arguments both programs end at the same result. -/
theorem algebraic : Cert.algebraic_Kernel6Ideal_Reference6Ideal := by
  intro m g m' g' _ hag
  refine ⟨fun c => result m c, ?_, ?_⟩
  · refine (θ_run _ _ _).mono (fun r h c => ?_) (Cert.Kernel6Ideal.Value.run_blocks m g)
    obtain ⟨h0, h1⟩ := h c
    exact ⟨h0.trans (final m c), h1⟩
  · refine (θ_run _ _ _).mono (fun r h c => ?_) (Cert.Reference6Ideal.Value.run m' g')
    obtain ⟨h0, h1⟩ := h c
    refine ⟨h0.trans ?_, h1⟩
    obtain ⟨a0, a1, a2⟩ := hag c
    refine (Cert.Reference6Ideal.Read.val_main_v29_eq m' c).trans ?_
    rw [a0, a1, a2]
    exact (final_eq m c).symm

end Cert.Conv

end
-- ==== Proof.Filter.Steps.lean ====
/-
  What one grid point of the filters' kernel leaves in its two scratch buffers and in its output block, over the point's
  input blocks: the first point stores the hidden layers of both directions, every point writes its 128 channels from them.
-/
module

public import proofs.«01_k».proof.Proof.Gen.Kernel7Ideal.Value
public import Idealize.ShloMosaic.Lib.Pipeline.ValueKit
public import Idealize.ShloMosaic.Lib.Pointwise

@[expose] public section

set_option maxRecDepth 16384

noncomputable section

namespace Cert.Kernel7Ideal.Filter

open Cert.Kernel7Ideal Cert.Kernel7Ideal.Gen Idealize.ShloMosaic Idealize.ShloMosaic.TcCoe Idealize.SL.Sem
open Idealize.ShloMosaic.Pointwise

variable (m : (ℓ : Loc nD τ sig) → Buf (Elt Ideal) ℓ) (c : Dev nD)

/-- The lane numbers. -/
abbrev lanes : IVec S1x4096 32 := iota .tc S1x4096 32 [1] iota_S1x4096_d1_w32

/-- The block a point writes, over the hidden layers: the backward half, then the forward one. -/
def outBlock (Hf Hb : FVec Ideal S64x4096 .f32) (tf tb : FVec Ideal S1x4096 .f32) (wf wb : FVec Ideal S1x1x128x64 .f32)
    (bf bb df db : FVec Ideal S1x1x128x1 .f32) (sk : FVec Ideal S1x128x1 .f32) : FVec Ideal S1x128x8192 .f32 := fun i =>
  if h : (i 2).val < 4096 then
    k0_pay11 (F := Ideal) (k0_pay7 wf Hf bf tf df) (k0_pay8 wb Hb) bb tb db (ix3 0 (i 1) ⟨(i 2).val, h⟩)
  else k0_pay1 (F := Ideal) lanes (k0_pay12 (k0_pay7 wf Hf bf tf df) (k0_pay8 wb Hb) bb tb db) 0#32 sk
    (ix3 0 (i 1) ⟨(i 2).val - 4096, by have h4 : (i 2).val < 8192 := (i 2).isLt; omega⟩)

/-- The first point: the forward hidden layers. -/
theorem first_fwd (t : Fin cfg0.N) (h0 : t.val % 8 = 0) :
    (outsAt0 m c t.val t.isLt).2.1
      = k0_pay2 (F := Ideal) (iblk m c 6 t) (iblk m c 4 t) (iblk m c 0 t) (iblk m c 5 t) (iblk m c 6 t) (iblk m c 7 t) (iblk m c 8 t) := by
  rw [outsAt0_A m c t h0]
  frame_out

/-- The first point: the backward hidden layers. -/
theorem first_bwd (t : Fin cfg0.N) (h0 : t.val % 8 = 0) :
    (outsAt0 m c t.val t.isLt).2.2
      = k0_pay6 (F := Ideal) (k0_pay3 (iblk m c 6 t)) (k0_pay4 (iblk m c 4 t)) (k0_pay5 (iblk m c 1 t)) (iblk m c 5 t) (iblk m c 6 t)
        (iblk m c 7 t) (iblk m c 8 t) := by
  rw [outsAt0_A m c t h0]
  frame_out

/-- What the point before `t` left. -/
abbrev before (t : Fin cfg0.N) := outsAt0 m c (t.val - 1) (Nat.lt_of_le_of_lt (Nat.sub_le _ _) t.isLt)

/-- The later points keep both. -/
theorem next_fwd (t : Fin cfg0.N) (h0 : ¬t.val % 8 = 0) : (outsAt0 m c t.val t.isLt).2.1 = (before m c t).2.1 := by
  rw [outsAt0_B m c t h0]; rfl

theorem next_bwd (t : Fin cfg0.N) (h0 : ¬t.val % 8 = 0) : (outsAt0 m c t.val t.isLt).2.2 = (before m c t).2.2 := by
  rw [outsAt0_B m c t h0]; rfl

/-- Two indices with the same coordinates. -/
theorem idx_ext3 {a b d : ℕ} {x y : (⟨3, ![a, b, d]⟩ : Shape).Idx} (h0 : (x 0).val = (y 0).val) (h1 : (x 1).val = (y 1).val)
    (h2 : (x 2).val = (y 2).val) : x = y := funext fun i => Fin.ext (match i with
    | ⟨0, _⟩ => h0
    | ⟨1, _⟩ => h1
    | ⟨2, _⟩ => h2)

/-- Every point writes its block from the hidden layers held after it. -/
theorem out_eq (t : Fin cfg0.N) :
    (outsAt0 m c t.val t.isLt).1
      = outBlock (outsAt0 m c t.val t.isLt).2.1 (outsAt0 m c t.val t.isLt).2.2 (iblk m c 2 t) (iblk m c 3 t) (iblk m c 9 t)
        (iblk m c 10 t) (iblk m c 11 t) (iblk m c 12 t) (iblk m c 13 t) (iblk m c 14 t) (iblk m c 15 t) := by
  funext y
  obtain ⟨z, r, j, rfl⟩ : ∃ (z : Fin 1) (r : Fin 128) (j : Fin 8192), y = ix3 z r j := ⟨y 0, y 1, y 2, eq_ix3 y⟩
  by_cases h0 : t.val % 8 = 0
  · rw [outsAt0_A m c t h0]
    frame_out
    unfold outBlock
    canon_tiles x h using (View.cover_of_tiledBy _ ![1, 128, 4096] (by sl_kernel_rfl) _)
    · rw [dif_neg (show ¬(ix3 z r j 2).val < 4096 by omega)]
      exact congrArg _ (idx_ext3 (congrArg Fin.val (Subsingleton.elim (α := Fin 1) (x 0) 0)) (show (x 1).val = (ix3 z r j 1).val by omega) (show (x 2).val = (ix3 z r j 2).val - 4096 by omega))
    · rw [dif_pos (show (ix3 z r j 2).val < 4096 by omega)]
      exact congrArg _ (idx_ext3 (congrArg Fin.val (Subsingleton.elim (α := Fin 1) (x 0) 0)) (show (x 1).val = (ix3 z r j 1).val by omega) (show (x 2).val = (ix3 z r j 2).val by omega))
  · rw [next_fwd m c t h0, next_bwd m c t h0, outsAt0_B m c t h0]
    frame_out
    simp only [(Memref.isWhole_whole _).read_unread]
    unfold outBlock
    canon_tiles x h using (View.cover_of_tiledBy _ ![1, 128, 4096] (by sl_kernel_rfl) _)
    · rw [dif_neg (show ¬(ix3 z r j 2).val < 4096 by omega)]
      exact congrArg _ (idx_ext3 (congrArg Fin.val (Subsingleton.elim (α := Fin 1) (x 0) 0)) (show (x 1).val = (ix3 z r j 1).val by omega) (show (x 2).val = (ix3 z r j 2).val - 4096 by omega))
    · rw [dif_pos (show (ix3 z r j 2).val < 4096 by omega)]
      exact congrArg _ (idx_ext3 (congrArg Fin.val (Subsingleton.elim (α := Fin 1) (x 0) 0)) (show (x 1).val = (ix3 z r j 1).val by omega) (show (x 2).val = (ix3 z r j 2).val by omega))

end Cert.Kernel7Ideal.Filter

end
-- ==== Proof.Filter.Spec.lean ====
/-
  Hyena's filters of one order and channel, as scalars over the arguments: the features of a time, the two hidden layers of
  sines, the decayed output, its normalisation over all times of both directions, and the order in which the call lays them
  out.
-/
module

public import Idealize.ShloMosaic.Lib.Pointwise

@[expose] public section

noncomputable section

namespace Cert.Filter

open Idealize.ShloMosaic Idealize.ShloMosaic.Pointwise

/-- Time `n` of 4096. -/
def time (n : ℕ) : EReal :=
  Ideal.div (FloatOps.sitofp (F := Ideal) FTy.f32 (BitVec.ofNat 32 n)) (Ideal.ofBits FTy.f32 0x45800000#32)

/-- The angle of time `τ` at band `k + 1`. -/
def angle (τ : EReal) (k : ℕ) : EReal :=
  Ideal.ofBits FTy.f32 0x40C90FDB#32 * τ * (1 + FloatOps.sitofp (F := Ideal) FTy.f32 (BitVec.ofNat 32 k))

/-- The 33 features of a time: itself, the cosines and the sines. -/
def feature (τ : EReal) (k : ℕ) : EReal :=
  if k < 1 then τ else if k - 1 < 16 then Ideal.cos (angle τ (k - 1)) else Ideal.sin (angle τ (k - 1 - 16))

variable (W1 : FVec Ideal ⟨2, ![33, 64]⟩ .f32) (B1 : FVec Ideal ⟨1, ![64]⟩ .f32) (W2 : FVec Ideal ⟨2, ![64, 64]⟩ .f32)
  (B2 : FVec Ideal ⟨1, ![64]⟩ .f32) (W3 : FVec Ideal ⟨2, ![64, 2048]⟩ .f32) (B3 : FVec Ideal ⟨1, ![2048]⟩ .f32)
  (SW : FVec Ideal ⟨1, ![64]⟩ .f32) (DE : FVec Ideal ⟨1, ![2048]⟩ .f32) (SK : FVec Ideal ⟨2, ![2, 512]⟩ .f32)

def hidden1 (τ : EReal) (u : Fin 64) : EReal :=
  Ideal.sin (SW (ix1 u) * ((∑ k : Fin 33, feature τ k.val * W1 (ix2 k u)) + B1 (ix1 u)))

def hidden2 (τ : EReal) (u : Fin 64) : EReal :=
  Ideal.sin (SW (ix1 u) * ((∑ k : Fin 64, hidden1 W1 B1 SW τ k * W2 (ix2 k u)) + B2 (ix1 u)))

/-- The decayed output at column `e`. -/
def raw (τ : EReal) (e : Fin 2048) : EReal :=
  ((∑ k : Fin 64, hidden2 W1 B1 W2 B2 SW τ k * W3 (ix2 k e)) + B3 (ix1 e)) * Ideal.exp (-τ * (FloatOps.absf (F := Ideal) (φ := .f32) (DE (ix1 e)) : EReal))

/-- The column of order `o`, direction `d`, channel `ch`. -/
abbrev col (o d : Fin 2) (ch : Fin 512) : Fin 2048 := ⟨o.val * 1024 + d.val * 512 + ch.val, by omega⟩

/-- The sum of the magnitudes of one direction. -/
def mass (o d : Fin 2) (ch : Fin 512) : EReal :=
  ∑ n : Fin 4096, (FloatOps.absf (F := Ideal) (φ := .f32) (raw W1 B1 W2 B2 W3 B3 SW DE (time n.val) (col o d ch)) : EReal)

def filter (τ : EReal) (o d : Fin 2) (ch : Fin 512) : EReal :=
  Ideal.div (raw W1 B1 W2 B2 W3 B3 SW DE τ (col o d ch))
    (mass W1 B1 W2 B2 W3 B3 SW DE o 0 ch + mass W1 B1 W2 B2 W3 B3 SW DE o 1 ch + Ideal.ofBits FTy.f32 0x358637BD#32)

/-- The row of order `o` and channel `ch`: a zero, the backward filter from its far end, the forward one with the skip. -/
def value (o : Fin 2) (ch : Fin 512) (j : ℕ) : EReal :=
  if j < 4096 then if j = 0 then 0 else filter W1 B1 W2 B2 W3 B3 SW DE (time (4096 - j)) o 1 ch
  else filter W1 B1 W2 B2 W3 B3 SW DE (time (j - 4096)) o 0 ch + if j = 4096 then SK (ix2 o ch) else 0

end Cert.Filter

end
-- ==== Proof.Filter.Payload.lean ====
/-
  What the filters' kernel computes, over the blocks a point loads.
-/
module

public import proofs.«01_k».proof.Proof.Filter.Steps
public import proofs.«01_k».proof.Proof.Filter.Spec

@[expose] public section

set_option maxRecDepth 16384

noncomputable section

namespace Cert.Kernel7Ideal.Filter

open Cert.Kernel7Ideal Cert.Kernel7Ideal.Gen Idealize.ShloMosaic Idealize.ShloMosaic.TcCoe Idealize.SL.Sem
open Idealize.ShloMosaic.Pointwise

/-- The magnitude. -/
abbrev mag (x : EReal) : EReal := FloatOps.absf (F := Ideal) (φ := .f32) x

/-- The two hidden layers at unit `u` and lane `n`. -/
def hiddenAt (sw : FVec Ideal S64x1 .f32) (w1 : FVec Ideal S64x40 .f32) (z : FVec Ideal S40x4096 .f32) (b1 : FVec Ideal S64x1 .f32)
    (w2 : FVec Ideal S64x64 .f32) (b2 : FVec Ideal S64x1 .f32) (u : Fin 64) (n : Fin 4096) : EReal :=
  Ideal.sin (sw (ix2 u 0) * ((∑ k : Fin 64, w2 (ix2 u k)
    * Ideal.sin (sw (ix2 k 0) * ((∑ l : Fin 40, w1 (ix2 k l) * z (ix2 l n)) + b1 (ix2 k 0)))) + b2 (ix2 u 0)))

theorem fwd_at (sw : FVec Ideal S64x1 .f32) (w1 : FVec Ideal S64x40 .f32) (z : FVec Ideal S40x4096 .f32) (b1 : FVec Ideal S64x1 .f32)
    (w2 : FVec Ideal S64x64 .f32) (b2 : FVec Ideal S64x1 .f32) (u : Fin 64) (n : Fin 4096) :
    k0_pay2 (F := Ideal) sw w1 z b1 sw w2 b2 (ix2 u n) = hiddenAt sw w1 z b1 w2 b2 u n := by
  pointwise [k0_pay2, hiddenAt]

theorem bwd_at (sw : FVec Ideal S64x1 .f32) (w1 : FVec Ideal S64x40 .f32) (z : FVec Ideal S40x4096 .f32) (b1 : FVec Ideal S64x1 .f32)
    (w2 : FVec Ideal S64x64 .f32) (b2 : FVec Ideal S64x1 .f32) (u : Fin 64) (n : Fin 4096) :
    k0_pay6 (F := Ideal) (k0_pay3 sw) (k0_pay4 w1) (k0_pay5 z) b1 sw w2 b2 (ix2 u n) = hiddenAt sw w1 z b1 w2 b2 u n := by
  pointwise [k0_pay6, k0_pay3, k0_pay4, k0_pay5, hiddenAt]

/-- The decayed output of row `r` at lane `n`. -/
def rawAt (w : FVec Ideal S1x1x128x64 .f32) (H : FVec Ideal S64x4096 .f32) (b : FVec Ideal S1x1x128x1 .f32)
    (t : FVec Ideal S1x4096 .f32) (d : FVec Ideal S1x1x128x1 .f32) (r : Fin 128) (n : Fin 4096) : EReal :=
  ((∑ k : Fin 64, w (ix4 0 0 r k) * H (ix2 k n)) + b (ix4 0 0 r 0)) * Ideal.exp (-t (ix2 0 n) * mag (d (ix4 0 0 r 0)))

theorem rawF_at (w : FVec Ideal S1x1x128x64 .f32) (H : FVec Ideal S64x4096 .f32) (b : FVec Ideal S1x1x128x1 .f32)
    (t : FVec Ideal S1x4096 .f32) (d : FVec Ideal S1x1x128x1 .f32) (r : Fin 128) (n : Fin 4096) :
    k0_pay7 (F := Ideal) w H b t d (ix2 r n) = rawAt w H b t d r n := by
  pointwise [k0_pay7, rawAt]
  simp only [zero_sub]

theorem rawB_at (w : FVec Ideal S1x1x128x64 .f32) (H : FVec Ideal S64x4096 .f32) (b : FVec Ideal S1x1x128x1 .f32)
    (t : FVec Ideal S1x4096 .f32) (d : FVec Ideal S1x1x128x1 .f32) (r : Fin 128) (n : Fin 4096) :
    k0_pay9 (F := Ideal) (k0_pay8 w H) b t d (ix2 r n) = rawAt w H b t d r n := by
  pointwise [k0_pay9, k0_pay8, rawAt]
  simp only [zero_sub]

/-- The normalising sum of row `r`. -/
def totalAt (f g : Fin 4096 → EReal) : EReal :=
  (∑ n, mag (f n)) + (∑ n, mag (g n)) + Ideal.ofBits FTy.f32 0x358637BD#32

theorem total_at (x v : FVec Ideal S128x4096 .f32) (b : FVec Ideal S1x1x128x1 .f32) (t : FVec Ideal S1x4096 .f32)
    (d : FVec Ideal S1x1x128x1 .f32) (r : Fin 128) :
    k0_pay10 (F := Ideal) x v b t d (ix2 r 0)
      = totalAt (fun n => x (ix2 r n)) fun n => k0_pay9 (F := Ideal) v b t d (ix2 r n) := by
  unfold k0_pay10
  generalize k0_pay9 (F := Ideal) v b t d = y
  pointwise [totalAt]

/-- The comparison of a lane's number with zero. -/
theorem lane_zero (n : Fin 4096) :
    IntOp.cmpi CmpIPredicate.eq (BitVec.ofNat 32 n.val) 0#32 = if n.val = 0 then 1#1 else 0#1 := by
  have hl : (BitVec.ofNat 32 n.val).toNat = n.val := by
    rw [BitVec.toNat_ofNat]
    exact Nat.mod_eq_of_lt (by omega)
  by_cases h : n.val = 0
  · rw [if_pos h]
    exact IntOp.cmpi_eq.2 (BitVec.eq_of_toNat_eq (by rw [hl, h]; rfl))
  · rw [if_neg h]
    refine (BitVec.eq_zero_or_eq_one _).resolve_right fun h1 => h ?_
    rw [← hl, IntOp.cmpi_eq.1 h1]
    rfl

/-- The backward half. -/
theorem back_at (x v : FVec Ideal S128x4096 .f32) (b : FVec Ideal S1x1x128x1 .f32) (t : FVec Ideal S1x4096 .f32)
    (d : FVec Ideal S1x1x128x1 .f32) (r : Fin 128) (n : Fin 4096) :
    k0_pay11 (F := Ideal) x v b t d (ix3 0 r n)
      = if n.val = 0 then 0 else Ideal.div (k0_pay9 (F := Ideal) v b t d (ix2 r n)) (k0_pay10 (F := Ideal) x v b t d (ix2 r 0)) := by
  unfold k0_pay11
  generalize k0_pay9 (F := Ideal) v b t d = y
  generalize k0_pay10 (F := Ideal) x v b t d = z
  pointwise
  rw [lane_zero n]
  by_cases h : n.val = 0
  · rw [if_pos h, if_pos h]
    rfl
  · rw [if_neg h, if_neg h]
    rfl

/-- The forward half. -/
theorem front_at (x v : FVec Ideal S128x4096 .f32) (b : FVec Ideal S1x1x128x1 .f32) (t : FVec Ideal S1x4096 .f32)
    (d : FVec Ideal S1x1x128x1 .f32) (sk : FVec Ideal S1x128x1 .f32) (r : Fin 128) (n : Fin 4096) :
    k0_pay1 (F := Ideal) lanes (k0_pay12 x v b t d) 0#32 sk (ix3 0 r n)
      = Ideal.div (x (ix2 r n)) (k0_pay10 (F := Ideal) x v b t d (ix2 r 0)) + if n.val = 0 then sk (ix3 0 r 0) else 0 := by
  unfold k0_pay1 k0_pay12
  generalize k0_pay10 (F := Ideal) x v b t d = z
  pointwise
  rw [lane_zero n]
  refine Ideal.add_congr rfl ?_
  by_cases h : n.val = 0
  · rw [if_pos h, if_pos h]
    rfl
  · rw [if_neg h, if_neg h]
    rfl

/-- A sum over forty of which the last seven vanish. -/
theorem sum40 (f : Fin 40 → EReal) (g : Fin 33 → EReal) (h : ∀ k : Fin 40, f k = if h : k.val < 33 then g ⟨k.val, h⟩ else 0) :
    ∑ k, f k = ∑ k, g k := by
  refine (Fin.sum_univ_add (a := 33) (b := 7) f).trans ?_
  have h2 : ∑ i : Fin 7, f (Fin.natAdd 33 i) = 0 := Finset.sum_eq_zero fun i _ => by
    rw [h, dif_neg (by show ¬33 + i.val < 33; omega)]
  rw [h2, add_zero]
  exact Finset.sum_congr rfl fun i _ => (h (Fin.castAdd 7 i)).trans (dif_pos (show (Fin.castAdd 7 i).val < 33 from i.isLt))

end Cert.Kernel7Ideal.Filter

end
-- ==== Proof.Filter.Blocks.lean ====
/-
  The blocks a point of the filters' kernel loads, read over the arguments: the times and their features in both
  directions, the transposed weights.
-/
module

public import proofs.«01_k».proof.Proof.Filter.Payload
public import Idealize.ShloMosaic.Lib.KernelVsHost

@[expose] public section

set_option maxRecDepth 16384

noncomputable section

namespace Cert.Kernel7Ideal.Filter

open Cert.Kernel7Ideal Cert.Kernel7Ideal.Gen Idealize.ShloMosaic Idealize.ShloMosaic.TcCoe Idealize.SL.Sem
open Idealize.ShloMosaic.Pointwise Cert.Filter
open Idealize.ShloMosaic.Pipeline (Dat)

variable (m : (ℓ : Loc nD τ sig) → Buf (Elt Ideal) ℓ) (c : Dev nD)

/-- The arguments, at their literal types. -/
abbrev inW1 : FVec Ideal S33x64 .f32 := m ((c : Thread nD τ).loc main_arg0)
abbrev inB1 : FVec Ideal S64 .f32 := m ((c : Thread nD τ).loc main_arg1)
abbrev inW2 : FVec Ideal S64x64 .f32 := m ((c : Thread nD τ).loc main_arg2)
abbrev inB2 : FVec Ideal S64 .f32 := m ((c : Thread nD τ).loc main_arg3)
abbrev inW3 : FVec Ideal S64x2048 .f32 := m ((c : Thread nD τ).loc main_arg4)
abbrev inB3 : FVec Ideal S2048 .f32 := m ((c : Thread nD τ).loc main_arg5)
abbrev inS : FVec Ideal S64 .f32 := m ((c : Thread nD τ).loc main_arg6)
abbrev inD : FVec Ideal S2048 .f32 := m ((c : Thread nD τ).loc main_arg7)
abbrev inSk : FVec Ideal S2x512 .f32 := m ((c : Thread nD τ).loc main_arg8)

/-- The index maps at every grid point. -/
theorem idx : ∀ t : Fin cfg0.N,
    win0_0.index t = ![0, 0] ∧ win0_1.index t = ![0, 0] ∧ win0_2.index t = ![0, 0] ∧ win0_3.index t = ![0, 0]
      ∧ win0_4.index t = ![0, 0] ∧ win0_5.index t = ![0, 0] ∧ win0_6.index t = ![0, 0] ∧ win0_7.index t = ![0, 0]
      ∧ win0_8.index t = ![0, 0] ∧ win0_9.index t = ![t.val / 4, 0, t.val % 4, 0] ∧ win0_10.index t = ![t.val / 4, 1, t.val % 4, 0]
      ∧ win0_11.index t = ![t.val / 4, 0, t.val % 4, 0] ∧ win0_12.index t = ![t.val / 4, 1, t.val % 4, 0]
      ∧ win0_13.index t = ![t.val / 4, 0, t.val % 4, 0] ∧ win0_14.index t = ![t.val / 4, 1, t.val % 4, 0]
      ∧ win0_15.index t = ![t.val / 4, t.val % 4, 0] ∧ win0_16.index t = ![t.val / 4, t.val % 4, 0] ∧ t.val < 8 :=
  (by decide +kernel : ∀ t : Fin grid0.N, _)

/-- The time lane `n` of the backward direction stands for. -/
def turn (n : Fin 4096) : Fin 4096 := if h : n.val = 0 then 0 else ⟨4096 - n.val, by omega⟩

theorem sum_turn (f : Fin 4096 → EReal) : ∑ n, f (turn n) = ∑ n, f n := by
  have h : Function.Involutive turn := fun n => by
    unfold turn
    by_cases h : n.val = 0
    · rw [dif_pos h, dif_pos (show ((0 : Fin 4096)).val = 0 from rfl)]
      exact Fin.ext h.symm
    · rw [dif_neg h, dif_neg (show ¬4096 - n.val = 0 by omega)]
      exact Fin.ext (show 4096 - (4096 - n.val) = n.val by omega)
  exact Equiv.sum_comp (Function.Involutive.toPerm turn h) f

/-- The times as the host lines build them, and those of the backward direction. -/
def times : FVec Ideal S4096 .f32 :=
  Host.divf (sitofp .f32 (iotaInDim S4096 32 0)) (broadcastInDim S4096 ![] bcast_S_S4096 (constant (F := Ideal) S_ .f32 0x45800000#32))

def turned : FVec Ideal S4096 .f32 :=
  concatenate S4096 0 [⟨S1, extractStridedSlice S1 ![0] times slices_S4096_S1_0⟩,
    ⟨S4095, Host.reverse [0] (extractStridedSlice S4095 ![1] times slices_S4096_S4095_1)⟩] concatenates_S1_S4095_S4096_d0

/-- The angles and the padded features of a vector of times. -/
def angles (t : FVec Ideal S4096 .f32) : FVec Ideal S4096x16 .f32 :=
  mulf (broadcastInDim S4096x16 ![0, 1] bcast_S4096x1_S4096x16_0_1
      (mulf (broadcastInDim S4096x1 ![] bcast_S_S4096x1 (constant (F := Ideal) S_ .f32 0x40C90FDB#32))
        (broadcastInDim S4096x1 ![0] bcast_S4096_S4096x1_0 t)))
    (broadcastInDim S4096x16 ![0, 1] bcast_S1x16_S4096x16_0_1
      (broadcastInDim S1x16 ![1] bcast_S16_S1x16_1
        (addf (broadcastInDim S16 ![] bcast_S_S16 (constant (F := Ideal) S_ .f32 0x3F800000#32)) (sitofp .f32 (iotaInDim S16 32 0)))))

def feats (t : FVec Ideal S4096 .f32) : FVec Ideal S40x4096 .f32 :=
  transpose S40x4096 [1, 0] (pad S4096x40 ![0, 0] ![0, 7] ![0, 0]
    (concatenate S4096x33 1 [⟨S4096x1, broadcastInDim S4096x1 ![0] bcast_S4096_S4096x1_0 t⟩, ⟨S4096x16, Host.cos (angles t)⟩,
      ⟨S4096x16, Host.sin (angles t)⟩] concatenates_S4096x1_S4096x16_S4096x16_S4096x33_d1)
    (sitofp (F := Ideal) .f32 (constantI S_ 32 0#32)) pads_S4096x33_S4096x40_000_070 h_S_) transposes_S4096x40_S40x4096_1_0

theorem times_at (n : Fin 4096) : times (ix1 n) = time n.val := by
  pointwise [times, time]

theorem turned_at (n : Fin 4096) : turned (ix1 n) = time (turn n).val := by
  refine Eq.trans ?_ (times_at (turn n))
  unfold turned turn
  generalize times = y
  pointwise
  by_cases h : n.val = 0
  · rw [dif_pos (show n.val < 1 by omega), dif_pos h]
    exact congrArg (fun k => y (ix1 k)) (Fin.ext h)
  · rw [dif_neg (show ¬n.val < 1 by omega), dif_neg h]
    refine congrArg (fun k => y (ix1 k)) (Fin.ext ?_)
    show 1 + (Fin.rev (⟨n.val - 1, by omega⟩ : Fin 4095)).val = 4096 - n.val
    rw [Fin.val_rev]
    show 1 + (4095 - (n.val - 1 + 1)) = 4096 - n.val
    omega

theorem feats_at (t : FVec Ideal S4096 .f32) (l : Fin 40) (n : Fin 4096) :
    feats t (ix2 l n) = if l.val < 33 then feature (t (ix1 n)) l.val else 0 := by
  pointwise [feats, angles, feature, angle]
  simp only [dite_eq_ite]
  exact ite_congr rfl (fun _ => rfl) fun _ => (sitofp_zero : (FloatOps.sitofp FTy.f32 0#32 : Ideal .f32) = 0)

theorem feats_eq : (V m c main_v25 : FVec Ideal S40x4096 .f32) = feats times := by
  show StableHlo.after (List.flatten _) _ _ = _
  simp only [hostOps0, hostOps0_1, hostOps0_2, hostOps0_3, hostOps0_4, hostOps0_5, hostOps0_6, List.flatten_cons,
    List.flatten_nil, List.cons_append, List.nil_append, List.append_nil]
  after_results
  unfold feats times angles
  rfl

theorem featsB_eq : (V m c main_v40 : FVec Ideal S40x4096 .f32) = feats turned := by
  show StableHlo.after (List.flatten _) _ _ = _
  simp only [hostOps0, hostOps0_1, hostOps0_2, hostOps0_3, hostOps0_4, hostOps0_5, hostOps0_6, List.flatten_cons,
    List.flatten_nil, List.cons_append, List.nil_append, List.append_nil]
  after_results
  unfold feats turned times angles
  rfl

theorem timesF_eq : (V m c main_v41 : FVec Ideal S1x4096 .f32) = shapeCast S1x4096 times shapeCasts_S4096_S1x4096 := by
  show StableHlo.after (List.flatten _) _ _ = _
  simp only [hostOps0, hostOps0_1, hostOps0_2, hostOps0_3, hostOps0_4, hostOps0_5, hostOps0_6, List.flatten_cons,
    List.flatten_nil, List.cons_append, List.nil_append, List.append_nil]
  after_results
  unfold times
  rfl

theorem timesB_eq : (V m c main_v42 : FVec Ideal S1x4096 .f32) = shapeCast S1x4096 turned shapeCasts_S4096_S1x4096 := by
  show StableHlo.after (List.flatten _) _ _ = _
  simp only [hostOps0, hostOps0_1, hostOps0_2, hostOps0_3, hostOps0_4, hostOps0_5, hostOps0_6, List.flatten_cons,
    List.flatten_nil, List.cons_append, List.nil_append, List.append_nil]
  after_results
  unfold turned times
  rfl

/-- The first layer's weights, padded and transposed. -/
def padded (w : FVec Ideal S33x64 .f32) : FVec Ideal S64x40 .f32 :=
  transpose S64x40 [1, 0] (pad S40x64 ![0, 0] ![7, 0] ![0, 0] w (sitofp (F := Ideal) .f32 (constantI S_ 32 0#32))
    pads_S33x64_S40x64_070_000 h_S_) transposes_S40x64_S64x40_1_0

theorem padded_eq : (V m c main_v44 : FVec Ideal S64x40 .f32) = padded (inW1 m c) := by
  show StableHlo.after (List.flatten _) _ _ = _
  simp only [hostOps0, hostOps0_1, hostOps0_2, hostOps0_3, hostOps0_4, hostOps0_5, hostOps0_6, List.flatten_cons,
    List.flatten_nil, List.cons_append, List.nil_append, List.append_nil]
  after_results
  unfold padded
  rfl

theorem padded_at (w : FVec Ideal S33x64 .f32) (u : Fin 64) (l : Fin 40) :
    padded w (ix2 u l) = if h : l.val < 33 then w (ix2 ⟨l.val, h⟩ u) else 0 := by
  pointwise [padded]
  exact dite_congr rfl (fun _ => rfl) fun _ => (sitofp_zero : (FloatOps.sitofp FTy.f32 0#32 : Ideal .f32) = 0)

theorem blkZf (t : Fin cfg0.N) (l : Fin 40) (n : Fin 4096) :
    (iblk m c 0 t : FVec Ideal S40x4096 .f32) (ix2 l n) = if l.val < 33 then feature (time n.val) l.val else 0 := by
  rw [← times_at n]
  refine Eq.trans ?_ (feats_at times l n)
  refine Eq.trans ?_ (congrFun (feats_eq m c) (ix2 l n))
  blk_ext [iblk, idx t]

theorem blkZb (t : Fin cfg0.N) (l : Fin 40) (n : Fin 4096) :
    (iblk m c 1 t : FVec Ideal S40x4096 .f32) (ix2 l n) = if l.val < 33 then feature (time (turn n).val) l.val else 0 := by
  rw [← turned_at n]
  refine Eq.trans ?_ (feats_at turned l n)
  refine Eq.trans ?_ (congrFun (featsB_eq m c) (ix2 l n))
  blk_ext [iblk, idx t]

theorem blkTf (t : Fin cfg0.N) (n : Fin 4096) :
    (iblk m c 2 t : FVec Ideal S1x4096 .f32) (ix2 0 n) = time n.val := by
  have h : shapeCast S1x4096 times shapeCasts_S4096_S1x4096 (ix2 0 n) = time n.val := by
    refine Eq.trans ?_ (times_at n)
    generalize times = y
    pointwise
  refine Eq.trans ?_ h
  refine Eq.trans ?_ (congrFun (timesF_eq m c) (ix2 0 n))
  blk_ext [iblk, idx t]

theorem blkTb (t : Fin cfg0.N) (n : Fin 4096) :
    (iblk m c 3 t : FVec Ideal S1x4096 .f32) (ix2 0 n) = time (turn n).val := by
  have h : shapeCast S1x4096 turned shapeCasts_S4096_S1x4096 (ix2 0 n) = time (turn n).val := by
    refine Eq.trans ?_ (turned_at n)
    generalize turned = y
    pointwise
  refine Eq.trans ?_ h
  refine Eq.trans ?_ (congrFun (timesB_eq m c) (ix2 0 n))
  blk_ext [iblk, idx t]

theorem blkW1 (t : Fin cfg0.N) (u : Fin 64) (l : Fin 40) :
    (iblk m c 4 t : FVec Ideal S64x40 .f32) (ix2 u l) = if h : l.val < 33 then inW1 m c (ix2 ⟨l.val, h⟩ u) else 0 := by
  refine Eq.trans ?_ (padded_at (inW1 m c) u l)
  refine Eq.trans ?_ (congrFun (padded_eq m c) (ix2 u l))
  blk_ext [iblk, idx t]

theorem blkB1 (t : Fin cfg0.N) (u : Fin 64) : (iblk m c 5 t : FVec Ideal S64x1 .f32) (ix2 u 0) = inB1 m c (ix1 u) := by
  blk_simp [iblk, V, idx t]
  simp only [hostOps0, hostOps0_1, hostOps0_2, hostOps0_3, hostOps0_4, hostOps0_5, hostOps0_6, List.flatten_cons,
    List.flatten_nil, List.cons_append, List.nil_append, List.append_nil]
  entry_read
  pointwise
  blk_ext [idx t]

theorem blkS (t : Fin cfg0.N) (u : Fin 64) : (iblk m c 6 t : FVec Ideal S64x1 .f32) (ix2 u 0) = inS m c (ix1 u) := by
  blk_simp [iblk, V, idx t]
  simp only [hostOps0, hostOps0_1, hostOps0_2, hostOps0_3, hostOps0_4, hostOps0_5, hostOps0_6, List.flatten_cons,
    List.flatten_nil, List.cons_append, List.nil_append, List.append_nil]
  entry_read
  pointwise
  blk_ext [idx t]

theorem blkW2 (t : Fin cfg0.N) (u k : Fin 64) : (iblk m c 7 t : FVec Ideal S64x64 .f32) (ix2 u k) = inW2 m c (ix2 k u) := by
  blk_simp [iblk, V, idx t]
  simp only [hostOps0, hostOps0_1, hostOps0_2, hostOps0_3, hostOps0_4, hostOps0_5, hostOps0_6, List.flatten_cons,
    List.flatten_nil, List.cons_append, List.nil_append, List.append_nil]
  entry_read
  pointwise
  blk_ext [idx t]

theorem blkB2 (t : Fin cfg0.N) (u : Fin 64) : (iblk m c 8 t : FVec Ideal S64x1 .f32) (ix2 u 0) = inB2 m c (ix1 u) := by
  blk_simp [iblk, V, idx t]
  simp only [hostOps0, hostOps0_1, hostOps0_2, hostOps0_3, hostOps0_4, hostOps0_5, hostOps0_6, List.flatten_cons,
    List.flatten_nil, List.cons_append, List.nil_append, List.append_nil]
  entry_read
  pointwise
  blk_ext [idx t]

variable (o : Fin 2) (ch : Fin 512)

theorem blkW3f (t : Fin cfg0.N) (r : Fin 128) (k : Fin 64) (ho : o.val = t.val / 4) (hc : ch.val = t.val % 4 * 128 + r.val) :
    (iblk m c 9 t : FVec Ideal S1x1x128x64 .f32) (ix4 0 0 r k) = inW3 m c (ix2 k (col o 0 ch)) := by
  blk_simp [iblk, V, idx t]
  simp only [hostOps0, hostOps0_1, hostOps0_2, hostOps0_3, hostOps0_4, hostOps0_5, hostOps0_6, List.flatten_cons,
    List.flatten_nil, List.cons_append, List.nil_append, List.append_nil]
  entry_read
  pointwise
  blk_ext [idx t]

theorem blkW3b (t : Fin cfg0.N) (r : Fin 128) (k : Fin 64) (ho : o.val = t.val / 4) (hc : ch.val = t.val % 4 * 128 + r.val) :
    (iblk m c 10 t : FVec Ideal S1x1x128x64 .f32) (ix4 0 0 r k) = inW3 m c (ix2 k (col o 1 ch)) := by
  blk_simp [iblk, V, idx t]
  simp only [hostOps0, hostOps0_1, hostOps0_2, hostOps0_3, hostOps0_4, hostOps0_5, hostOps0_6, List.flatten_cons,
    List.flatten_nil, List.cons_append, List.nil_append, List.append_nil]
  entry_read
  pointwise
  blk_ext [idx t]

theorem blkB3f (t : Fin cfg0.N) (r : Fin 128) (ho : o.val = t.val / 4) (hc : ch.val = t.val % 4 * 128 + r.val) :
    (iblk m c 11 t : FVec Ideal S1x1x128x1 .f32) (ix4 0 0 r 0) = inB3 m c (ix1 (col o 0 ch)) := by
  blk_simp [iblk, V, idx t]
  simp only [hostOps0, hostOps0_1, hostOps0_2, hostOps0_3, hostOps0_4, hostOps0_5, hostOps0_6, List.flatten_cons,
    List.flatten_nil, List.cons_append, List.nil_append, List.append_nil]
  entry_read
  pointwise
  blk_ext [idx t]

theorem blkB3b (t : Fin cfg0.N) (r : Fin 128) (ho : o.val = t.val / 4) (hc : ch.val = t.val % 4 * 128 + r.val) :
    (iblk m c 12 t : FVec Ideal S1x1x128x1 .f32) (ix4 0 0 r 0) = inB3 m c (ix1 (col o 1 ch)) := by
  blk_simp [iblk, V, idx t]
  simp only [hostOps0, hostOps0_1, hostOps0_2, hostOps0_3, hostOps0_4, hostOps0_5, hostOps0_6, List.flatten_cons,
    List.flatten_nil, List.cons_append, List.nil_append, List.append_nil]
  entry_read
  pointwise
  blk_ext [idx t]

theorem blkDf (t : Fin cfg0.N) (r : Fin 128) (ho : o.val = t.val / 4) (hc : ch.val = t.val % 4 * 128 + r.val) :
    (iblk m c 13 t : FVec Ideal S1x1x128x1 .f32) (ix4 0 0 r 0) = inD m c (ix1 (col o 0 ch)) := by
  blk_simp [iblk, V, idx t]
  simp only [hostOps0, hostOps0_1, hostOps0_2, hostOps0_3, hostOps0_4, hostOps0_5, hostOps0_6, List.flatten_cons,
    List.flatten_nil, List.cons_append, List.nil_append, List.append_nil]
  entry_read
  pointwise
  blk_ext [idx t]

theorem blkDb (t : Fin cfg0.N) (r : Fin 128) (ho : o.val = t.val / 4) (hc : ch.val = t.val % 4 * 128 + r.val) :
    (iblk m c 14 t : FVec Ideal S1x1x128x1 .f32) (ix4 0 0 r 0) = inD m c (ix1 (col o 1 ch)) := by
  blk_simp [iblk, V, idx t]
  simp only [hostOps0, hostOps0_1, hostOps0_2, hostOps0_3, hostOps0_4, hostOps0_5, hostOps0_6, List.flatten_cons,
    List.flatten_nil, List.cons_append, List.nil_append, List.append_nil]
  entry_read
  pointwise
  blk_ext [idx t]

theorem blkSk (t : Fin cfg0.N) (r : Fin 128) (ho : o.val = t.val / 4) (hc : ch.val = t.val % 4 * 128 + r.val) :
    (iblk m c 15 t : FVec Ideal S1x128x1 .f32) (ix3 0 r 0) = inSk m c (ix2 o ch) := by
  blk_simp [iblk, V, idx t]
  simp only [hostOps0, hostOps0_1, hostOps0_2, hostOps0_3, hostOps0_4, hostOps0_5, hostOps0_6, List.flatten_cons,
    List.flatten_nil, List.cons_append, List.nil_append, List.append_nil]
  entry_read
  pointwise
  blk_ext [idx t]

end Cert.Kernel7Ideal.Filter

end
-- ==== Proof.Filter.Point.lean ====
/-
  The filters a point of the kernel writes, and the array after the run.
-/
module

public import proofs.«01_k».proof.Proof.Filter.Blocks

@[expose] public section

set_option maxRecDepth 16384

noncomputable section

namespace Cert.Kernel7Ideal.Filter

open Cert.Kernel7Ideal Cert.Kernel7Ideal.Gen Idealize.ShloMosaic Idealize.ShloMosaic.TcCoe Idealize.SL.Sem
open Idealize.ShloMosaic.Pointwise Cert.Filter
open Idealize.ShloMosaic.Pipeline (Dat)

/-- The hidden layers over blocks that hold the arguments and the features of time `τ`. -/
theorem hiddenAt_eq {sw b1 b2 : FVec Ideal S64x1 .f32} {w1 : FVec Ideal S64x40 .f32} {z : FVec Ideal S40x4096 .f32}
    {w2 : FVec Ideal S64x64 .f32} {W1 : FVec Ideal S33x64 .f32} {B1 B2 SW : FVec Ideal S64 .f32} {W2 : FVec Ideal S64x64 .f32}
    {τ : EReal} (u : Fin 64) (n : Fin 4096) (hs : ∀ k, sw (ix2 k 0) = SW (ix1 k)) (h1 : ∀ k, b1 (ix2 k 0) = B1 (ix1 k))
    (h2 : ∀ k, b2 (ix2 k 0) = B2 (ix1 k)) (hw : ∀ k l, w2 (ix2 k l) = W2 (ix2 l k))
    (hv : ∀ k (l : Fin 40), w1 (ix2 k l) = if h : l.val < 33 then W1 (ix2 ⟨l.val, h⟩ k) else 0)
    (hz : ∀ l : Fin 40, z (ix2 l n) = if l.val < 33 then feature τ l.val else 0) :
    hiddenAt sw w1 z b1 w2 b2 u n = hidden2 W1 B1 W2 B2 SW τ u := by
  unfold hiddenAt hidden2 hidden1
  refine congrArg Ideal.sin (Ideal.mul_congr (hs u) (Ideal.add_congr (Finset.sum_congr rfl fun k _ => ?_) (h2 u)))
  rw [hw, mul_comm]
  refine Ideal.mul_congr (congrArg Ideal.sin (Ideal.mul_congr (hs k) (Ideal.add_congr ?_ (h1 k)))) rfl
  refine sum40 _ _ fun l => ?_
  rw [hv, hz]
  by_cases h : l.val < 33
  · rw [dif_pos h, dif_pos h, if_pos h, mul_comm]
  · rw [dif_neg h, dif_neg h, zero_mul]

variable (m : (ℓ : Loc nD τ sig) → Buf (Elt Ideal) ℓ) (c : Dev nD)

/-- The argument tuple the spec's functions take. -/
abbrev hid (τ : EReal) (u : Fin 64) : EReal := hidden2 (inW1 m c) (inB1 m c) (inW2 m c) (inB2 m c) (inS m c) τ u

abbrev rawOf (τ : EReal) (e : Fin 2048) : EReal :=
  raw (inW1 m c) (inB1 m c) (inW2 m c) (inB2 m c) (inW3 m c) (inB3 m c) (inS m c) (inD m c) τ e

/-- Both scratch buffers hold the hidden layers after every point. -/
theorem held : ∀ (n : ℕ) (hn : n < cfg0.N),
    (∀ u k, (outsAt0 m c n hn).2.1 (ix2 u k) = hid m c (time k.val) u)
      ∧ ∀ u k, (outsAt0 m c n hn).2.2 (ix2 u k) = hid m c (time (turn k).val) u
  | 0, hn => by
    constructor
    · intro u k
      refine (congrFun (first_fwd m c ⟨0, hn⟩ rfl) (ix2 u k)).trans ((fwd_at _ _ _ _ _ _ u k).trans ?_)
      exact hiddenAt_eq u k (blkS m c _) (blkB1 m c _) (blkB2 m c _) (blkW2 m c _) (blkW1 m c _) fun l => blkZf m c _ l k
    · intro u k
      refine (congrFun (first_bwd m c ⟨0, hn⟩ rfl) (ix2 u k)).trans ((bwd_at _ _ _ _ _ _ u k).trans ?_)
      exact hiddenAt_eq u k (blkS m c _) (blkB1 m c _) (blkB2 m c _) (blkW2 m c _) (blkW1 m c _) fun l => blkZb m c _ l k
  | n + 1, hn => by
    have hN : cfg0.N = 8 := by decide +kernel
    have h0 : ¬(n + 1) % 8 = 0 := by omega
    obtain ⟨hf, hb⟩ := held n (by omega)
    exact ⟨fun u k => (congrFun (next_fwd m c ⟨n + 1, hn⟩ h0) (ix2 u k)).trans (hf u k),
      fun u k => (congrFun (next_bwd m c ⟨n + 1, hn⟩ h0) (ix2 u k)).trans (hb u k)⟩

/-- The decayed outputs over blocks that hold the hidden layers and the arguments. -/
theorem rawAt_eq {w : FVec Ideal S1x1x128x64 .f32} {H : FVec Ideal S64x4096 .f32} {b d : FVec Ideal S1x1x128x1 .f32}
    {t : FVec Ideal S1x4096 .f32} {τ : EReal} {e : Fin 2048} {r : Fin 128} {n : Fin 4096}
    (hw : ∀ k, w (ix4 0 0 r k) = inW3 m c (ix2 k e)) (hH : ∀ k, H (ix2 k n) = hid m c τ k)
    (hb : b (ix4 0 0 r 0) = inB3 m c (ix1 e)) (hd : d (ix4 0 0 r 0) = inD m c (ix1 e)) (ht : t (ix2 0 n) = τ) :
    rawAt w H b t d r n = rawOf m c τ e := by
  unfold rawAt rawOf raw
  rw [ht, hd, hb]
  refine Ideal.mul_congr (Ideal.add_congr (Finset.sum_congr rfl fun k _ => ?_) rfl) rfl
  rw [hw, hH, mul_comm]

/-- The forward and the backward block of a point. -/
abbrev fwdBlock (t : Fin cfg0.N) : FVec Ideal S128x4096 .f32 :=
  k0_pay7 (F := Ideal) (iblk m c 9 t) (outsAt0 m c t.val t.isLt).2.1 (iblk m c 11 t) (iblk m c 2 t) (iblk m c 13 t)

abbrev bwdBlock (t : Fin cfg0.N) : FVec Ideal S128x4096 .f32 :=
  k0_pay8 (F := Ideal) (iblk m c 10 t) (outsAt0 m c t.val t.isLt).2.2

section Row

variable (t : Fin cfg0.N) (r : Fin 128) (o : Fin 2) (ch : Fin 512)

theorem fwd_row (ho : o.val = t.val / 4) (hc : ch.val = t.val % 4 * 128 + r.val) (n : Fin 4096) :
    fwdBlock m c t (ix2 r n) = rawOf m c (time n.val) (col o 0 ch) :=
  (rawF_at _ _ _ _ _ r n).trans (rawAt_eq m c (fun k => blkW3f m c o ch t r k ho hc)
    (fun k => (held m c t.val t.isLt).1 k n) (blkB3f m c o ch t r ho hc) (blkDf m c o ch t r ho hc) (blkTf m c t n))

theorem bwd_row (ho : o.val = t.val / 4) (hc : ch.val = t.val % 4 * 128 + r.val) (n : Fin 4096) :
    k0_pay9 (F := Ideal) (bwdBlock m c t) (iblk m c 12 t) (iblk m c 3 t) (iblk m c 14 t) (ix2 r n)
      = rawOf m c (time (turn n).val) (col o 1 ch) :=
  (rawB_at _ _ _ _ _ r n).trans (rawAt_eq m c (fun k => blkW3b m c o ch t r k ho hc)
    (fun k => (held m c t.val t.isLt).2 k n) (blkB3b m c o ch t r ho hc) (blkDb m c o ch t r ho hc) (blkTb m c t n))

theorem total_row (ho : o.val = t.val / 4) (hc : ch.val = t.val % 4 * 128 + r.val) :
    k0_pay10 (F := Ideal) (fwdBlock m c t) (bwdBlock m c t) (iblk m c 12 t) (iblk m c 3 t) (iblk m c 14 t) (ix2 r 0)
      = mass (inW1 m c) (inB1 m c) (inW2 m c) (inB2 m c) (inW3 m c) (inB3 m c) (inS m c) (inD m c) o 0 ch
        + mass (inW1 m c) (inB1 m c) (inW2 m c) (inB2 m c) (inW3 m c) (inB3 m c) (inS m c) (inD m c) o 1 ch
        + Ideal.ofBits FTy.f32 0x358637BD#32 := by
  refine (total_at _ _ _ _ _ r).trans ?_
  unfold totalAt mass
  refine Ideal.add_congr (Ideal.add_congr (Finset.sum_congr rfl fun n _ => congrArg mag (fwd_row m c t r o ch ho hc n)) ?_) rfl
  refine Eq.trans (Finset.sum_congr rfl fun n _ => congrArg mag (bwd_row m c t r o ch ho hc n)) ?_
  exact sum_turn fun n => mag (rawOf m c (time n.val) (col o 1 ch))

/-- What a point leaves at row `r`, column `j` of its block. -/
theorem point (ho : o.val = t.val / 4) (hc : ch.val = t.val % 4 * 128 + r.val) (j : Fin 8192) :
    (outsAt0 m c t.val t.isLt).1 (ix3 0 r j)
      = value (inW1 m c) (inB1 m c) (inW2 m c) (inB2 m c) (inW3 m c) (inB3 m c) (inS m c) (inD m c) (inSk m c) o ch j.val := by
  have hd := total_row m c t r o ch ho hc
  refine (congrFun (out_eq m c t) (ix3 0 r j)).trans ?_
  unfold outBlock value filter
  by_cases h : j.val < 4096
  · rw [dif_pos (show (ix3 (0 : Fin 1) r j 2).val < 4096 from h), if_pos h]
    refine (back_at _ _ _ _ _ r ⟨j.val, h⟩).trans ?_
    by_cases h0 : j.val = 0
    · rw [if_pos h0, if_pos h0]
    · rw [if_neg h0, if_neg h0]
      refine congrArg₂ Ideal.div ((bwd_row m c t r o ch ho hc ⟨j.val, h⟩).trans ?_) hd
      unfold turn
      rw [dif_neg h0]
  · rw [dif_neg (show ¬(ix3 (0 : Fin 1) r j 2).val < 4096 from h), if_neg h]
    refine (front_at _ _ _ _ _ _ r ⟨j.val - 4096, by omega⟩).trans ?_
    refine Ideal.add_congr (congrArg₂ Ideal.div (fwd_row m c t r o ch ho hc _) hd) ?_
    by_cases h0 : j.val = 4096
    · rw [if_pos (show j.val - 4096 = 0 by omega), if_pos h0]
      exact blkSk m c o ch t r ho hc
    · rw [if_neg (show ¬j.val - 4096 = 0 by omega), if_neg h0]

end Row

/-- What the kernel's output window holds after the run. -/
def result : FVec Ideal S2x512x8192 .f32 := fun i =>
  value (inW1 m c) (inB1 m c) (inW2 m c) (inB2 m c) (inW3 m c) (inB3 m c) (inS m c) (inD m c) (inSk m c) (i 0) (i 1) (i 2).val

/-- The output array after the run. -/
theorem final : (dats m 0 c).arrAt 16 cfg0.N = result m c := by
  refine (dats m 0 c).arrAt_eq_of_covers 16 _ (by decide +kernel) fun t _ y => ?_
  blk_simp
  rw [after0_16]
  obtain ⟨z, r, j, rfl⟩ : ∃ (z : Fin 1) (r : Fin 128) (j : Fin 8192), y = ix3 z r j := ⟨y 0, y 1, y 2, eq_ix3 y⟩
  obtain rfl : z = 0 := Subsingleton.elim _ _
  have ht : t.val < 8 := by
    have h := idx t
    tauto
  refine (point m c t r ⟨t.val / 4, by omega⟩ ⟨t.val % 4 * 128 + r.val, by omega⟩ rfl rfl j).trans ?_
  have hi : (((cfg0.win 16).blk t).view.emb (ix3 0 r j) : S2x512x8192.Idx)
      = ix3 ⟨t.val / 4, by omega⟩ ⟨t.val % 4 * 128 + r.val, by omega⟩ j := by
    blk_ext [idx t]
  rw [hi]
  rfl

end Cert.Kernel7Ideal.Filter

end
-- ==== Proof.Filter.Ref.lean ====
/-
  The reference of the filters read at an index.
-/
module

public import proofs.«01_k».proof.Proof.Gen.Reference7Ideal.Read
public import proofs.«01_k».proof.Proof.Filter.Spec

@[expose] public section

set_option maxRecDepth 16384

noncomputable section

namespace Cert.Reference7Ideal.Filter

open Cert.Reference7Ideal Cert.Reference7Ideal.Gen Cert.Reference7Ideal.Read
open Idealize.ShloMosaic Idealize.ShloMosaic.TcCoe Idealize.SL.Sem
open Idealize.ShloMosaic.Pointwise Cert.Filter

variable (x0 : FVec Ideal S33x64 .f32) (x1 : FVec Ideal S64 .f32) (x2 : FVec Ideal S64x64 .f32) (x3 : FVec Ideal S64 .f32)
  (x4 : FVec Ideal S64x2048 .f32) (x5 : FVec Ideal S2048 .f32) (x6 : FVec Ideal S64 .f32) (x7 : FVec Ideal S2048 .f32)
  (x8 : FVec Ideal S2x512 .f32)

theorem feature_at (n : Fin 4096) (k : Fin 33) : val_main_v15 (F := Ideal) (ix2 n k) = feature (time n.val) k.val := by
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, feature, angle, time]
  simp only [dite_eq_ite]

theorem hidden1_at (n : Fin 4096) (u : Fin 64) :
    val_main_v23 (F := Ideal) x0 x1 x6 (ix2 n u) = hidden1 x0 x1 x6 (time n.val) u := by
  have h := feature_at n
  unfold val_main_v23 val_main_v22 val_main_v19 val_main_v16
  generalize val_main_v15 (F := Ideal) = y at h ⊢
  pointwise [val_main_v21, val_main_v20, val_main_v18, val_main_v17, hidden1]
  simp only [h]

theorem hidden2_at (n : Fin 4096) (u : Fin 64) :
    val_main_v31 (F := Ideal) x0 x1 x2 x3 x6 (ix2 n u) = hidden2 x0 x1 x2 x3 x6 (time n.val) u := by
  have h := hidden1_at x0 x1 x6 n
  unfold val_main_v31 val_main_v30 val_main_v27 val_main_v24
  generalize val_main_v23 (F := Ideal) x0 x1 x6 = y at h ⊢
  pointwise [val_main_v29, val_main_v28, val_main_v26, val_main_v25, hidden2]
  simp only [h]

theorem raw_at (n : Fin 4096) (e : Fin 2048) :
    val_main_v43 (F := Ideal) x0 x1 x2 x3 x4 x5 x6 x7 (ix2 n e) = raw x0 x1 x2 x3 x4 x5 x6 x7 (time n.val) e := by
  have h := hidden2_at x0 x1 x2 x3 x6 n
  unfold val_main_v43 val_main_v35 val_main_v32
  generalize val_main_v31 (F := Ideal) x0 x1 x2 x3 x6 = y at h ⊢
  pointwise [val_main_v42, val_main_v41, val_main_v40, val_main_v39, val_main_v38, val_main_v37, val_main_v36,
    val_main_v34, val_main_v33, val_main_v3, val_main_v2, val_main_v1, val_main_v0, val_main_cst, raw]
  simp only [h]
  rfl

/-- A sum over the first and the third of four axes. -/
theorem sum_at (h : S4096x2x2x512.ReducesTo [0, 2] S2x512) (v : S4096x2x2x512.Idx → EReal) (init : EReal) (o : Fin 2) (ch : Fin 512) :
    Ideal.hostReduceAdd h v init (ix2 o ch) = init + ∑ d : Fin 2, ∑ n : Fin 4096, v (ix4 n o d ch) := by
  refine congrArg (init + ·) ((Finset.sum_filter_eq_sum_of_fiber _ (fun k : Fin 2 × Fin 4096 => (ix4 k.2 o k.1 ch : S4096x2x2x512.Idx))
    (fun _ _ e => Prod.ext (congrFun e 2) (congrFun e 0)) (fun i => ?_) v).trans ?_)
  · constructor
    · intro e
      refine ⟨(i 2, i 0), ?_⟩
      funext a; apply Fin.ext
      match a with
      | ⟨0, _⟩ => rfl
      | ⟨1, _⟩ => exact (congrArg Fin.val (congrFun e 0)).symm
      | ⟨2, _⟩ => rfl
      | ⟨3, _⟩ => exact (congrArg Fin.val (congrFun e 1)).symm
    · rintro ⟨k, rfl⟩
      funext b
      apply Fin.ext
      match b with
      | ⟨0, _⟩ => rfl
      | ⟨1, _⟩ => rfl
  · simp only [Fintype.sum_prod_type]

theorem split_at (n : Fin 4096) (o d : Fin 2) (ch : Fin 512) :
    val_main_v44 (F := Ideal) x0 x1 x2 x3 x4 x5 x6 x7 (ix4 n o d ch)
      = raw x0 x1 x2 x3 x4 x5 x6 x7 (time n.val) (col o d ch) := by
  refine Eq.trans ?_ (raw_at x0 x1 x2 x3 x4 x5 x6 x7 n (col o d ch))
  unfold val_main_v44
  generalize val_main_v43 (F := Ideal) x0 x1 x2 x3 x4 x5 x6 x7 = y
  pointwise

theorem total_at (o : Fin 2) (ch : Fin 512) :
    val_main_v46 (F := Ideal) x0 x1 x2 x3 x4 x5 x6 x7 (ix2 o ch)
      = mass x0 x1 x2 x3 x4 x5 x6 x7 o 0 ch + mass x0 x1 x2 x3 x4 x5 x6 x7 o 1 ch := by
  have h := fun n d => split_at x0 x1 x2 x3 x4 x5 x6 x7 n o d ch
  unfold val_main_v46 val_main_v45
  generalize val_main_v44 (F := Ideal) x0 x1 x2 x3 x4 x5 x6 x7 = y at h ⊢
  refine (sum_at _ _ _ o ch).trans ?_
  rw [Fin.sum_univ_two]
  pointwise [val_main_cst_2, mass]
  simp only [h, zero_add]

theorem filter_at (n : Fin 4096) (o d : Fin 2) (ch : Fin 512) :
    val_main_v51 (F := Ideal) x0 x1 x2 x3 x4 x5 x6 x7 (ix4 n o d ch)
      = filter x0 x1 x2 x3 x4 x5 x6 x7 (time n.val) o d ch := by
  have h := split_at x0 x1 x2 x3 x4 x5 x6 x7 n o d ch
  have h2 := total_at x0 x1 x2 x3 x4 x5 x6 x7 o ch
  unfold val_main_v51 val_main_v50 val_main_v49 val_main_v47
  generalize val_main_v44 (F := Ideal) x0 x1 x2 x3 x4 x5 x6 x7 = y at h ⊢
  generalize val_main_v46 (F := Ideal) x0 x1 x2 x3 x4 x5 x6 x7 = z at h2 ⊢
  pointwise [val_main_v48, val_main_cst_3, filter]
  simp only [h, h2]

theorem fwd_at (n : Fin 4096) (o : Fin 2) (ch : Fin 512) :
    val_main_v53 (F := Ideal) x0 x1 x2 x3 x4 x5 x6 x7 (ix3 n o ch) = filter x0 x1 x2 x3 x4 x5 x6 x7 (time n.val) o 0 ch := by
  refine Eq.trans ?_ (filter_at x0 x1 x2 x3 x4 x5 x6 x7 n o 0 ch)
  unfold val_main_v53 val_main_v52
  generalize val_main_v51 (F := Ideal) x0 x1 x2 x3 x4 x5 x6 x7 = y
  pointwise

theorem bwd_at (n : Fin 4096) (o : Fin 2) (ch : Fin 512) :
    val_main_v55 (F := Ideal) x0 x1 x2 x3 x4 x5 x6 x7 (ix3 n o ch) = filter x0 x1 x2 x3 x4 x5 x6 x7 (time n.val) o 1 ch := by
  refine Eq.trans ?_ (filter_at x0 x1 x2 x3 x4 x5 x6 x7 n o 1 ch)
  unfold val_main_v55 val_main_v54
  generalize val_main_v51 (F := Ideal) x0 x1 x2 x3 x4 x5 x6 x7 = y
  pointwise

theorem far_at (i : Fin 4095) (o : Fin 2) (ch : Fin 512) :
    val_main_v59 (F := Ideal) x0 x1 x2 x3 x4 x5 x6 x7 (ix3 i o ch)
      = filter x0 x1 x2 x3 x4 x5 x6 x7 (time (4095 - i.val)) o 1 ch := by
  refine Eq.trans ?_ (bwd_at x0 x1 x2 x3 x4 x5 x6 x7 ⟨4095 - i.val, by omega⟩ o ch)
  unfold val_main_v59 val_main_v58
  generalize val_main_v55 (F := Ideal) x0 x1 x2 x3 x4 x5 x6 x7 = y
  pointwise
  refine congrArg y (congrArg (fun k => ix3 k o ch) (Fin.ext ?_))
  show 1 + (Fin.rev i).val = 4095 - i.val
  rw [Fin.val_rev]
  omega

theorem lag_at (o : Fin 2) (ch : Fin 512) :
    val_main_v62 (F := Ideal) x0 x1 x2 x3 x4 x5 x6 x7 x8 (ix3 0 o ch)
      = filter x0 x1 x2 x3 x4 x5 x6 x7 (time 0) o 0 ch + x8 (ix2 o ch) := by
  refine Eq.trans ?_ (Ideal.add_congr (fwd_at x0 x1 x2 x3 x4 x5 x6 x7 0 o ch) rfl)
  unfold val_main_v62 val_main_v60
  generalize val_main_v53 (F := Ideal) x0 x1 x2 x3 x4 x5 x6 x7 = y
  pointwise [val_main_v61]

theorem near_at (i : Fin 4095) (o : Fin 2) (ch : Fin 512) :
    val_main_v63 (F := Ideal) x0 x1 x2 x3 x4 x5 x6 x7 (ix3 i o ch)
      = filter x0 x1 x2 x3 x4 x5 x6 x7 (time (1 + i.val)) o 0 ch := by
  refine Eq.trans ?_ (fwd_at x0 x1 x2 x3 x4 x5 x6 x7 ⟨1 + i.val, by omega⟩ o ch)
  unfold val_main_v63
  generalize val_main_v53 (F := Ideal) x0 x1 x2 x3 x4 x5 x6 x7 = y
  pointwise

/-- The reference's result. -/
theorem result_at (o : Fin 2) (ch : Fin 512) (j : Fin 8192) :
    val_main_v65 (F := Ideal) x0 x1 x2 x3 x4 x5 x6 x7 x8 (ix3 o ch j) = value x0 x1 x2 x3 x4 x5 x6 x7 x8 o ch j.val := by
  have h1 := far_at x0 x1 x2 x3 x4 x5 x6 x7
  have h2 := lag_at x0 x1 x2 x3 x4 x5 x6 x7 x8
  have h3 := near_at x0 x1 x2 x3 x4 x5 x6 x7
  unfold val_main_v65 val_main_v64
  generalize val_main_v59 (F := Ideal) x0 x1 x2 x3 x4 x5 x6 x7 = a at h1 ⊢
  generalize val_main_v62 (F := Ideal) x0 x1 x2 x3 x4 x5 x6 x7 x8 = b at h2 ⊢
  generalize val_main_v63 (F := Ideal) x0 x1 x2 x3 x4 x5 x6 x7 = d at h3 ⊢
  pointwise [val_main_v57, val_main_cst_4]
  unfold value
  by_cases c1 : j.val < 1
  · rw [dif_pos c1, if_pos (show j.val < 4096 by omega), if_pos (show j.val = 0 by omega)]
  rw [dif_neg c1]
  by_cases c2 : j.val - 1 < 4095
  · rw [dif_pos c2, if_pos (show j.val < 4096 by omega), if_neg (show ¬j.val = 0 by omega), h1]
    show filter x0 x1 x2 x3 x4 x5 x6 x7 (time (4095 - (j.val - 1))) o 1 ch = _
    rw [show 4095 - (j.val - 1) = 4096 - j.val by omega]
  rw [dif_neg c2, if_neg (show ¬j.val < 4096 by omega)]
  by_cases c3 : j.val - 1 - 4095 < 1
  · rw [dif_pos c3, if_pos (show j.val = 4096 by omega), show j.val - 4096 = 0 by omega]
    refine Eq.trans (congrArg (fun k => b (ix3 k o ch)) ?_) (h2 o ch)
    exact Subsingleton.elim _ _
  · rw [dif_neg c3, if_neg (show ¬j.val = 4096 by omega), add_zero, h3]
    show filter x0 x1 x2 x3 x4 x5 x6 x7 (time (1 + (j.val - 1 - 4095 - 1))) o 0 ch = _
    rw [show 1 + (j.val - 1 - 4095 - 1) = j.val - 4096 by omega]

end Cert.Reference7Ideal.Filter

end
-- ==== Proof.Filter.Algebra.lean ====
/-
  The filters' kernel and its reference leave the same array.
-/
module

public import proofs.«01_k».proof.Defs
public import proofs.«01_k».proof.Proof.Filter.Point
public import proofs.«01_k».proof.Proof.Filter.Ref

@[expose] public section

set_option maxRecDepth 16384

noncomputable section

namespace Cert.Filter

open Idealize.ShloMosaic Idealize.ShloMosaic.TcCoe Idealize.SL.Sem
open Idealize.ShloMosaic.Pointwise
open Cert.Kernel7Ideal Cert.Kernel7Ideal.Gen
open Cert.Kernel7Ideal.Filter

variable (m : (ℓ : Loc nD τ sig) → Buf (Elt Ideal) ℓ) (c : Dev nD)

/-- The kernel's array is the reference's last stage over the same arguments. -/
theorem final_eq :
    result m c = Cert.Reference7Ideal.Read.val_main_v65 (F := Ideal) (inW1 m c) (inB1 m c) (inW2 m c) (inB2 m c) (inW3 m c)
      (inB3 m c) (inS m c) (inD m c) (inSk m c) := by
  funext i
  obtain ⟨o, ch, j, rfl⟩ : ∃ (o : Fin 2) (ch : Fin 512) (j : Fin 8192), i = ix3 o ch j := ⟨i 0, i 1, i 2, eq_ix3 i⟩
  exact (Cert.Reference7Ideal.Filter.result_at _ _ _ _ _ _ _ _ _ o ch j).symm

/-- The claim: from agreeing arguments both programs end at the same result. -/
theorem algebraic : Cert.algebraic_Kernel7Ideal_Reference7Ideal := by
  intro m g m' g' _ hag
  refine ⟨fun c => result m c, ?_, ?_⟩
  · refine (θ_run _ _ _).mono (fun r h c => ?_) (Cert.Kernel7Ideal.Value.run_blocks m g)
    obtain ⟨h0, h1⟩ := h c
    exact ⟨h0.trans (final m c), h1⟩
  · refine (θ_run _ _ _).mono (fun r h c => ?_) (Cert.Reference7Ideal.Value.run m' g')
    obtain ⟨h0, h1⟩ := h c
    refine ⟨h0.trans ?_, h1⟩
    obtain ⟨a0, a1, a2, a3, a4, a5, a6, a7, a8⟩ := hag c
    refine (Cert.Reference7Ideal.Read.val_main_v65_eq m' c).trans ?_
    rw [a0, a1, a2, a3, a4, a5, a6, a7, a8]
    exact (final_eq m c).symm

end Cert.Filter

end
-- ==== Proof.lean ====
/-
  The certificate: the frames of the calls and of their references, and the value claims of the differential attention
  (Proof/Attn), the MLP (Proof/Mlp), the input projection (Proof/InProj), the output projection (Proof/Out), the
  modulation (Proof/Ada), the SSD's convolution (Proof/Conv) and Hyena's filters (Proof/Filter).
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.KernelIdeal.Value
public import proofs.«01_k».proof.Proof.Gen.Kernel2Ideal.Value
public import proofs.«01_k».proof.Proof.Gen.Kernel4Ideal.Value
public import proofs.«01_k».proof.Proof.Gen.ReferenceIdeal.Read
public import proofs.«01_k».proof.Proof.Gen.Reference2Ideal.Read
public import proofs.«01_k».proof.Proof.Gen.Reference3Ideal.Read
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Read
public import proofs.«01_k».proof.Proof.Mlp.Algebra
public import proofs.«01_k».proof.Proof.Attn.Algebra
public import proofs.«01_k».proof.Proof.InProj.Algebra
public import proofs.«01_k».proof.Proof.InProj.Bits
public import proofs.«01_k».proof.Proof.Out.Algebra
public import proofs.«01_k».proof.Proof.Ada.Algebra
public import proofs.«01_k».proof.Proof.Conv.Algebra
public import proofs.«01_k».proof.Proof.Filter.Algebra

@[expose] public section

noncomputable section

namespace Cert.Proof

open Idealize.ShloMosaic Idealize.SL.Sem

/-! The attention. -/

theorem frame_attn : Cert.quiescent_Kernel := fun m ρ _ => Cert.Kernel.Gen.frame m ρ

theorem frame_attn_ideal : Cert.quiescent_KernelIdeal := fun m ρ _ => Cert.KernelIdeal.Gen.frame m ρ

theorem frame_attn_pre : Cert.quiescent_KernelIdeal_pre_finite_inputs := fun m ρ _ => Cert.KernelIdeal.Gen.frame m ρ

/-- A reference is one host program: no semaphores at all. -/
theorem frame_attn_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_attn_ref_pre : Cert.quiescent_ReferenceIdeal_pre_finite_inputs := fun m ρ _ => frame_attn_ref m ρ trivial

/-! The MLP. -/

theorem frame_mlp : Cert.quiescent_Kernel2 := fun m ρ _ => Cert.Kernel2.Gen.frame m ρ

theorem frame_mlp_ideal : Cert.quiescent_Kernel2Ideal := fun m ρ _ => Cert.Kernel2Ideal.Gen.frame m ρ

theorem frame_mlp_ref : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-! The input projection, whose frame is Proof/InProj's own. -/

theorem frame_in_ideal : Cert.quiescent_Kernel3Ideal := fun m ρ _ => Cert.Kernel3Ideal.InProj.frame m ρ

theorem frame_in_ref : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

/-! The output projection. -/

theorem frame_out : Cert.quiescent_Kernel4 := fun m ρ _ => Cert.Kernel4.Gen.frame m ρ

theorem frame_out_ideal : Cert.quiescent_Kernel4Ideal := fun m ρ _ => Cert.Kernel4Ideal.Gen.frame m ρ

theorem frame_out_ref : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-! The modulation. -/

theorem frame_ada : Cert.quiescent_Kernel5 := fun m ρ _ => Cert.Kernel5.Gen.frame m ρ

theorem frame_ada_ideal : Cert.quiescent_Kernel5Ideal := fun m ρ _ => Cert.Kernel5Ideal.Gen.frame m ρ

theorem frame_ada_ref : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-! The convolution. -/

theorem frame_conv : Cert.quiescent_Kernel6 := fun m ρ _ => Cert.Kernel6.Gen.frame m ρ

theorem frame_conv_ideal : Cert.quiescent_Kernel6Ideal := fun m ρ _ => Cert.Kernel6Ideal.Gen.frame m ρ

theorem frame_conv_ref : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-! Hyena's filters. -/

theorem frame_filter : Cert.quiescent_Kernel7 := fun m ρ _ => Cert.Kernel7.Gen.frame m ρ

theorem frame_filter_ideal : Cert.quiescent_Kernel7Ideal := fun m ρ _ => Cert.Kernel7Ideal.Gen.frame m ρ

theorem frame_filter_ref : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Attn.Pre.facts,
    frame_attn, frame_attn_ideal, frame_attn_pre, frame_attn_ref, frame_attn_ref_pre,
    frame_mlp, frame_mlp_ideal, frame_mlp_ref,
    Cert.InProj.frame_bits, frame_in_ideal, frame_in_ref,
    frame_out, frame_out_ideal, frame_out_ref,
    frame_ada, frame_ada_ideal, frame_ada_ref, frame_conv, frame_conv_ideal, frame_conv_ref,
    frame_filter, frame_filter_ideal, frame_filter_ref,
    trivial, Cert.Attn.algebraic, trivial, Cert.Mlp.algebraic, trivial, Cert.InProj.algebraic, trivial, Cert.OutProj.algebraic,
    trivial, Cert.Ada.algebraic, trivial, Cert.Conv.algebraic, trivial, Cert.Filter.algebraic⟩

end Cert.Proof

end
